-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_unwrapped [hPre_finite_and_unwrapped : Cert.Pre_finite_and_unwrapped.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_unwrapped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_and_unwrapped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_and_unwrapped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_and_unwrapped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_and_unwrapped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite_and_unwrapped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_unwrapped [hPre_finite_and_unwrapped : Cert.Pre_finite_and_unwrapped.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_unwrapped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_and_unwrapped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_and_unwrapped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_and_unwrapped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_and_unwrapped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite_and_unwrapped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_and_unwrapped [hKernelIdeal : Cert.KernelIdeal.Facts] [hPre_finite_and_unwrapped : Cert.Pre_finite_and_unwrapped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_unwrapped m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_and_unwrapped [hReferenceIdeal : Cert.ReferenceIdeal.Facts] [hPre_finite_and_unwrapped : Cert.Pre_finite_and_unwrapped.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_unwrapped m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_and_unwrapped [hKernelIdeal : Cert.KernelIdeal.Facts] [hReferenceIdeal : Cert.ReferenceIdeal.Facts] [hPre_finite_and_unwrapped : Cert.Pre_finite_and_unwrapped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_unwrapped m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v56) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_and_unwrapped : Cert.Pre_finite_and_unwrapped.Facts),
    quiescent_Kernel (hKernel := hKernel)
    ∧ quiescent_KernelIdeal (hKernelIdeal := hKernelIdeal)
    ∧ quiescent_KernelIdeal_pre_finite_and_unwrapped (hKernelIdeal := hKernelIdeal) (hPre_finite_and_unwrapped := hPre_finite_and_unwrapped)
    ∧ quiescent_ReferenceIdeal (hReferenceIdeal := hReferenceIdeal)
    ∧ quiescent_ReferenceIdeal_pre_finite_and_unwrapped (hReferenceIdeal := hReferenceIdeal) (hPre_finite_and_unwrapped := hPre_finite_and_unwrapped)
    ∧ preserves_Kernel_KernelIdeal
    ∧ algebraic_KernelIdeal_ReferenceIdeal_pre_finite_and_unwrapped (hKernelIdeal := hKernelIdeal) (hReferenceIdeal := hReferenceIdeal) (hPre_finite_and_unwrapped := hPre_finite_and_unwrapped)
-- ==== Pre_finite_and_unwrapped.lean ====
abbrev S16x1024x2560 : Shape := ⟨3, ![16, 1024, 2560]⟩
abbrev S16 : Shape := ⟨1, ![16]⟩
abbrev S2560x10240 : Shape := ⟨2, ![2560, 10240]⟩
abbrev S1280x10240 : Shape := ⟨2, ![1280, 10240]⟩
abbrev S20x10240 : Shape := ⟨2, ![20, 10240]⟩
abbrev S2560x48 : Shape := ⟨2, ![2560, 48]⟩
abbrev S48x10240 : Shape := ⟨2, ![48, 10240]⟩
abbrev S_ : Shape := ⟨0, ![]⟩

class Facts : Prop where
  bcast_S_S16x1024x2560 : S_.BroadcastsInDim S16x1024x2560 (![] : Fin 0 → Fin S16x1024x2560.rank)
  bcast_S_S16 : S_.BroadcastsInDim S16 (![] : Fin 0 → Fin S16.rank)
  bcast_S_S2560x10240 : S_.BroadcastsInDim S2560x10240 (![] : Fin 0 → Fin S2560x10240.rank)
  bcast_S_S20x10240 : S_.BroadcastsInDim S20x10240 (![] : Fin 0 → Fin S20x10240.rank)
  bcast_S_S2560x48 : S_.BroadcastsInDim S2560x48 (![] : Fin 0 → Fin S2560x48.rank)
  bcast_S_S48x10240 : S_.BroadcastsInDim S48x10240 (![] : Fin 0 → Fin S48x10240.rank)

variable [Facts]

def fn {F : FTy → Type} [FloatOps F] (main_arg0 : FVec F S16x1024x2560 .bf16) (main_arg1 : IVec S16 32) (main_arg2 : FVec F S2560x10240 .bf16) (main_arg3 : IVec S1280x10240 8) (main_arg4 : FVec F S20x10240 .bf16) (main_arg5 : FVec F S2560x48 .bf16) (main_arg6 : FVec F S48x10240 .bf16) : IVec S16x1024x2560 1 × IVec S16 1 × IVec S2560x10240 1 × IVec S20x10240 1 × IVec S2560x48 1 × IVec S48x10240 1 :=
  let main_v0 : FVec F S16x1024x2560 .bf16 := Host.absf main_arg0
  let main_cst : FVec F S_ .bf16 := constant S_ .bf16 0x7F80#16
  let main_v1 : FVec F S16x1024x2560 .bf16 := broadcastInDim S16x1024x2560 ![] bcast_S_S16x1024x2560 main_cst
  let main_v2 : IVec S16x1024x2560 1 := cmpf .olt main_v0 main_v1
  let main_c : IVec S_ 32 := constantI S_ 32 512#32
  let main_v3 : IVec S16 32 := broadcastInDim S16 ![] bcast_S_S16 main_c
  let main_v4 : IVec S16 32 := subi main_arg1 main_v3
  let main_v5 : IVec S16 1 := cmpi .slt main_v4 main_arg1
  let main_v6 : FVec F S2560x10240 .bf16 := Host.absf main_arg2
  let main_cst_0 : FVec F S_ .bf16 := constant S_ .bf16 0x7F80#16
  let main_v7 : FVec F S2560x10240 .bf16 := broadcastInDim S2560x10240 ![] bcast_S_S2560x10240 main_cst_0
  let main_v8 : IVec S2560x10240 1 := cmpf .olt main_v6 main_v7
  let main_v9 : FVec F S20x10240 .bf16 := Host.absf main_arg4
  let main_cst_1 : FVec F S_ .bf16 := constant S_ .bf16 0x7F80#16
  let main_v10 : FVec F S20x10240 .bf16 := broadcastInDim S20x10240 ![] bcast_S_S20x10240 main_cst_1
  let main_v11 : IVec S20x10240 1 := cmpf .olt main_v9 main_v10
  let main_v12 : FVec F S2560x48 .bf16 := Host.absf main_arg5
  let main_cst_2 : FVec F S_ .bf16 := constant S_ .bf16 0x7F80#16
  let main_v13 : FVec F S2560x48 .bf16 := broadcastInDim S2560x48 ![] bcast_S_S2560x48 main_cst_2
  let main_v14 : IVec S2560x48 1 := cmpf .olt main_v12 main_v13
  let main_v15 : FVec F S48x10240 .bf16 := Host.absf main_arg6
  let main_cst_3 : FVec F S_ .bf16 := constant S_ .bf16 0x7F80#16
  let main_v16 : FVec F S48x10240 .bf16 := broadcastInDim S48x10240 ![] bcast_S_S48x10240 main_cst_3
  let main_v17 : IVec S48x10240 1 := cmpf .olt main_v15 main_v16
  (main_v2, main_v5, main_v8, main_v11, main_v14, main_v17)
-- ==== Kernel.lean ====
abbrev S16x1024x2560 : Shape := ⟨3, ![16, 1024, 2560]⟩
abbrev S16 : Shape := ⟨1, ![16]⟩
abbrev S2560x10240 : Shape := ⟨2, ![2560, 10240]⟩
abbrev S1280x10240 : Shape := ⟨2, ![1280, 10240]⟩
abbrev S20x10240 : Shape := ⟨2, ![20, 10240]⟩
abbrev S2560x48 : Shape := ⟨2, ![2560, 48]⟩
abbrev S48x10240 : Shape := ⟨2, ![48, 10240]⟩
abbrev S16384x2560 : Shape := ⟨2, ![16384, 2560]⟩
abbrev S20x1x10240 : Shape := ⟨3, ![20, 1, 10240]⟩
abbrev S32x1x512 : Shape := ⟨3, ![32, 1, 512]⟩
abbrev S16384x48 : Shape := ⟨2, ![16384, 48]⟩
abbrev S512x2560 : Shape := ⟨2, ![512, 2560]⟩
abbrev S1 : Shape := ⟨1, ![1]⟩
abbrev S2560x1024 : Shape := ⟨2, ![2560, 1024]⟩
abbrev S1280x1024 : Shape := ⟨2, ![1280, 1024]⟩
abbrev S20x1x1024 : Shape := ⟨3, ![20, 1, 1024]⟩
abbrev S48x1024 : Shape := ⟨2, ![48, 1024]⟩
abbrev S1x1x512 : Shape := ⟨3, ![1, 1, 512]⟩
abbrev S512x48 : Shape := ⟨2, ![512, 48]⟩
abbrev S16384x128 : Shape := ⟨2, ![16384, 128]⟩
abbrev S128x1024 : Shape := ⟨2, ![128, 1024]⟩
abbrev S1x1x1024 : Shape := ⟨3, ![1, 1, 1024]⟩
abbrev S1x1024 : Shape := ⟨2, ![1, 1024]⟩
abbrev S512x128 : Shape := ⟨2, ![512, 128]⟩
abbrev S512x1024 : Shape := ⟨2, ![512, 1024]⟩
abbrev S512x1 : Shape := ⟨2, ![512, 1]⟩
abbrev S128x512 : Shape := ⟨2, ![128, 512]⟩
abbrev S512 : Shape := ⟨1, ![512]⟩
abbrev S1x512 : Shape := ⟨2, ![1, 512]⟩
abbrev S16x1024 : Shape := ⟨2, ![16, 1024]⟩
abbrev S16x1024x48 : Shape := ⟨3, ![16, 1024, 48]⟩

abbrev nBuf : Space → Nat
  | .hbm => 14
  | .vmem => 22
  | .smem => 1
  | _ => 0

abbrev bufTy : (tb : Table) → Fin (tcTables nBuf tb) → BufTy
  | .hbm, ⟨0, _⟩ => ⟨S16x1024x2560, .bf16⟩
  | .hbm, ⟨1, _⟩ => ⟨S2560x10240, .bf16⟩
  | .hbm, ⟨2, _⟩ => ⟨S1280x10240, .i8⟩
  | .hbm, ⟨3, _⟩ => ⟨S20x10240, .bf16⟩
  | .hbm, ⟨4, _⟩ => ⟨S2560x48, .bf16⟩
  | .hbm, ⟨5, _⟩ => ⟨S48x10240, .bf16⟩
  | .hbm, ⟨6, _⟩ => ⟨S16384x2560, .bf16⟩
  | .hbm, ⟨7, _⟩ => ⟨S20x1x10240, .bf16⟩
  | .hbm, ⟨8, _⟩ => ⟨S32x1x512, .f32⟩
  | .hbm, ⟨9, _⟩ => ⟨S16384x48, .f32⟩
  | .hbm, ⟨10, _⟩ => ⟨S2560x48, .f32⟩
  | .hbm, ⟨11, _⟩ => ⟨S48x10240, .f32⟩
  | .hbm, ⟨12, _⟩ => ⟨S16x1024, .f32⟩
  | .hbm, ⟨13, _⟩ => ⟨S16x1024x48, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1280x1024, .i8⟩
  | .local _ .vmem, ⟨5, _⟩ => ⟨S1280x1024, .i8⟩
  | .local _ .vmem, ⟨6, _⟩ => ⟨S20x1x1024, .bf16⟩
  | .local _ .vmem, ⟨7, _⟩ => ⟨S20x1x1024, .bf16⟩
  | .local _ .vmem, ⟨8, _⟩ => ⟨S2560x48, .bf16⟩
  | .local _ .vmem, ⟨9, _⟩ => ⟨S48x1024, .bf16⟩
  | .local _ .vmem, ⟨10, _⟩ => ⟨S48x1024, .bf16⟩
  | .local _ .vmem, ⟨11, _⟩ => ⟨S1x1x512, .f32⟩
  | .local _ .vmem, ⟨12, _⟩ => ⟨S1x1x512, .f32⟩
  | .local _ .vmem, ⟨13, _⟩ => ⟨S512x48, .f32⟩
  | .local _ .vmem, ⟨14, _⟩ => ⟨S512x48, .f32⟩
  | .local _ .vmem, ⟨15, _⟩ => ⟨S2560x48, .f32⟩
  | .local _ .vmem, ⟨16, _⟩ => ⟨S48x1024, .f32⟩
  | .local _ .vmem, ⟨17, _⟩ => ⟨S48x1024, .f32⟩
  | .local _ .vmem, ⟨18, _⟩ => ⟨S2560x1024, .bf16⟩
  | .local _ .vmem, ⟨19, _⟩ => ⟨S16384x48, .bf16⟩
  | .local _ .vmem, ⟨20, _⟩ => ⟨S16384x48, .f32⟩
  | .local _ .vmem, ⟨21, _⟩ => ⟨S16384x128, .f32⟩
  | .local _ .smem, ⟨0, _⟩ => ⟨S16, .i32⟩
  | _, _ => ⟨S16x1024x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v3 : Ref sig .tc := ⟨.hbm, 12, rfl⟩
abbrev main_v4 : Ref sig .tc := ⟨.hbm, 13, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![10, 32], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let v17 : Index := Scalar.indexCast v16
  ![v17.toNat]
def k0_mult1 (i : grid0.Coords) : BitVec 32 :=
  let arg1 : BitVec 32 := BitVec.ofNat 32 (i 1).val
  let c512_i32_10 : BitVec 32 := 512#32
  let v32 : BitVec 32 := Scalar.muli arg1 c512_i32_10
  v32
def k0_cond1 (i : grid0.Coords) : BitVec 1 :=
  let arg1 : BitVec 32 := BitVec.ofNat 32 (i 1).val
  let c0_i32_11 : BitVec 32 := 0#32
  let v34 : BitVec 1 := Scalar.cmpi .eq arg1 c0_i32_11
  let v35 : BitVec 32 := Scalar.extui v34
  let c0_i32_12 : BitVec 32 := 0#32
  let v36 : BitVec 1 := Scalar.cmpi .ne v35 c0_i32_12
  v36

@[reducible] def k0_t1_loop : Scf.Loop 32 :=
  let c0_i32_25 : BitVec 32 := 0#32
  let c10_i32 : BitVec 32 := 10#32
  let v58 : BitVec 32 := Scalar.addi c0_i32_25 c10_i32
  let c1_i32_26 : BitVec 32 := 1#32
  ⟨c0_i32_25, v58, c1_i32_26⟩
def k0_mult2 (k0_t1 : Fin k0_t1_loop.trips) : BitVec 32 :=
  let c0_i32_25 : BitVec 32 := 0#32
  let c1_i32_26 : BitVec 32 := 1#32
  let arg17 : BitVec 32 := Scf.iv c0_i32_25 c1_i32_26 k0_t1
  let c128_i32 : BitVec 32 := 128#32
  let v61 : BitVec 32 := Scalar.muli arg17 c128_i32
  v61
def k0_off2 (k0_t1 : Fin k0_t1_loop.trips) : Fin 2 → Nat :=
  let c0_i32_25 : BitVec 32 := 0#32
  let c1_i32_26 : BitVec 32 := 1#32
  let arg17 : BitVec 32 := Scf.iv c0_i32_25 c1_i32_26 k0_t1
  let c128_i32 : BitVec 32 := 128#32
  let v61 : BitVec 32 := Scalar.muli arg17 c128_i32
  let v62 : BitVec 32 := v61
  let v63 : Index := Scalar.indexCast v62
  let c0_29 : Index := 0#32
  ![v63.toNat, 0]
def k0_mult3 (k0_t1 : Fin k0_t1_loop.trips) : BitVec 32 :=
  let c1280_i32 : BitVec 32 := 1280#32
  let c0_i32_25 : BitVec 32 := 0#32
  let c1_i32_26 : BitVec 32 := 1#32
  let arg17 : BitVec 32 := Scf.iv c0_i32_25 c1_i32_26 k0_t1
  let c128_i32_34 : BitVec 32 := 128#32
  let v80 : BitVec 32 := Scalar.muli arg17 c128_i32_34
  let v81 : BitVec 32 := Scalar.addi c1280_i32 v80
  v81
def k0_off3 (k0_t1 : Fin k0_t1_loop.trips) : Fin 2 → Nat :=
  let c0_i32_25 : BitVec 32 := 0#32
  let c1_i32_26 : BitVec 32 := 1#32
  let arg17 : BitVec 32 := Scf.iv c0_i32_25 c1_i32_26 k0_t1
  let c128_i32 : BitVec 32 := 128#32
  let v61 : BitVec 32 := Scalar.muli arg17 c128_i32
  let v62 : BitVec 32 := v61
  let v83 : Index := Scalar.indexCast v62
  let c0_35 : Index := 0#32
  ![v83.toNat, 0]
def k0_off4 (k0_t1 : Fin k0_t1_loop.trips) : Fin 3 → Nat :=
  let c0_i32_25 : BitVec 32 := 0#32
  let c1_i32_26 : BitVec 32 := 1#32
  let arg17 : BitVec 32 := Scf.iv c0_i32_25 c1_i32_26 k0_t1
  let v87 : Index := Scalar.indexCast arg17
  let c0_36 : Index := 0#32
  let c0_37 : Index := 0#32
  ![v87.toNat, 0, 0]
def k0_off5 (k0_t1 : Fin k0_t1_loop.trips) : Fin 2 → Nat :=
  let c1280_i32 : BitVec 32 := 1280#32
  let c0_i32_25 : BitVec 32 := 0#32
  let c1_i32_26 : BitVec 32 := 1#32
  let arg17 : BitVec 32 := Scf.iv c0_i32_25 c1_i32_26 k0_t1
  let c128_i32_34 : BitVec 32 := 128#32
  let v80 : BitVec 32 := Scalar.muli arg17 c128_i32_34
  let v81 : BitVec 32 := Scalar.addi c1280_i32 v80
  let v82 : BitVec 32 := v81
  let v97 : Index := Scalar.indexCast v82
  let c0_39 : Index := 0#32
  ![v97.toNat, 0]
def k0_off6 (k0_t1 : Fin k0_t1_loop.trips) : Fin 3 → Nat :=
  let c10_i32_40 : BitVec 32 := 10#32
  let c0_i32_25 : BitVec 32 := 0#32
  let c1_i32_26 : BitVec 32 := 1#32
  let arg17 : BitVec 32 := Scf.iv c0_i32_25 c1_i32_26 k0_t1
  let v101 : BitVec 32 := Scalar.addi c10_i32_40 arg17
  let v102 : Index := Scalar.indexCast v101
  let c0_41 : Index := 0#32
  let c0_42 : Index := 0#32
  ![v102.toNat, 0, 0]
def k0_off7 (i : grid0.Coords) : Fin 2 → Nat :=
  let arg1 : BitVec 32 := BitVec.ofNat 32 (i 1).val
  let c512_i32_10 : BitVec 32 := 512#32
  let v32 : BitVec 32 := Scalar.muli arg1 c512_i32_10
  let v33 : BitVec 32 := v32
  let v63 : Index := Scalar.indexCast v33
  let c0_28 : Index := 0#32
  ![v63.toNat, 0]
def k0_off8 (i : grid0.Coords) : Fin 2 → Nat :=
  let arg1 : BitVec 32 := BitVec.ofNat 32 (i 1).val
  let c512_i32_10 : BitVec 32 := 512#32
  let v32 : BitVec 32 := Scalar.muli arg1 c512_i32_10
  let v33 : BitVec 32 := v32
  let v73 : Index := Scalar.indexCast v33
  let c0_32 : Index := 0#32
  ![v73.toNat, 0]
def k0_off9 (i : grid0.Coords) : Fin 2 → Nat :=
  let arg1 : BitVec 32 := BitVec.ofNat 32 (i 1).val
  let c512_i32_10 : BitVec 32 := 512#32
  let v32 : BitVec 32 := Scalar.muli arg1 c512_i32_10
  let v33 : BitVec 32 := v32
  let v58 : Index := Scalar.indexCast v33
  let c0 : Index := 0#32
  ![v58.toNat, 0]
def k0_off10 (i : grid0.Coords) : Fin 2 → Nat :=
  let arg1 : BitVec 32 := BitVec.ofNat 32 (i 1).val
  let c512_i32_10 : BitVec 32 := 512#32
  let v32 : BitVec 32 := Scalar.muli arg1 c512_i32_10
  let v33 : BitVec 32 := v32
  let v99 : Index := Scalar.indexCast v33
  let c0_34 : Index := 0#32
  ![v99.toNat, 0]
def k0_off11 (i : grid0.Coords) : Fin 2 → Nat :=
  let arg1 : BitVec 32 := BitVec.ofNat 32 (i 1).val
  let c512_i32_10 : BitVec 32 := 512#32
  let v32 : BitVec 32 := Scalar.muli arg1 c512_i32_10
  let v33 : BitVec 32 := v32
  let v58 : Index := Scalar.indexCast v33
  let c0 : Index := 0#32
  ![v58.toNat, 0]
def k0_off12 (i : grid0.Coords) : Fin 2 → Nat :=
  let arg1 : BitVec 32 := BitVec.ofNat 32 (i 1).val
  let c512_i32_10 : BitVec 32 := 512#32
  let v32 : BitVec 32 := Scalar.muli arg1 c512_i32_10
  let v33 : BitVec 32 := v32
  let v71 : Index := Scalar.indexCast v33
  let c0_34 : Index := 0#32
  ![v71.toNat, 0]
def k0_cond5 (i : grid0.Coords) (v18 : BitVec 32) : BitVec 1 :=
  let arg0 : BitVec 32 := BitVec.ofNat 32 (i 0).val
  let c9_i32 : BitVec 32 := 9#32
  let v31 : BitVec 1 := Scalar.cmpi .eq arg0 c9_i32
  let arg1 : BitVec 32 := BitVec.ofNat 32 (i 1).val
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.subi v18 v29
  let c0_i32_21 : BitVec 32 := 0#32
  let v50 : BitVec 1 := Scalar.cmpi .sgt v30 c0_i32_21
  let v51 : BitVec 1 := Scalar.andi v31 v50
  let v52 : BitVec 32 := Scalar.extui v51
  let c0_i32_22 : BitVec 32 := 0#32
  let v53 : BitVec 1 := Scalar.cmpi .ne v52 c0_i32_22
  v53

def k0_cond6 (i : grid0.Coords) (v18 : BitVec 32) : BitVec 1 :=
  let arg0 : BitVec 32 := BitVec.ofNat 32 (i 0).val
  let c9_i32 : BitVec 32 := 9#32
  let v31 : BitVec 1 := Scalar.cmpi .eq arg0 c9_i32
  let arg1 : BitVec 32 := BitVec.ofNat 32 (i 1).val
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.subi v18 v29
  let c0_i32_23 : BitVec 32 := 0#32
  let v54 : BitVec 1 := Scalar.cmpi .sle v30 c0_i32_23
  let v55 : BitVec 1 := Scalar.andi v31 v54
  let v56 : BitVec 32 := Scalar.extui v55
  let c0_i32_24 : BitVec 32 := 0#32
  let v57 : BitVec 1 := Scalar.cmpi .ne v56 c0_i32_24
  v57

def k0_cond2 (i : grid0.Coords) : BitVec 1 :=
  let arg1 : BitVec 32 := BitVec.ofNat 32 (i 1).val
  let c0_i32_13 : BitVec 32 := 0#32
  let v37 : BitVec 1 := Scalar.cmpi .eq arg1 c0_i32_13
  let arg0 : BitVec 32 := BitVec.ofNat 32 (i 0).val
  let c0_i32_14 : BitVec 32 := 0#32
  let v38 : BitVec 1 := Scalar.cmpi .eq arg0 c0_i32_14
  let v39 : BitVec 1 := Scalar.andi v37 v38
  let v40 : BitVec 32 := Scalar.extui v39
  let c0_i32_15 : BitVec 32 := 0#32
  let v41 : BitVec 1 := Scalar.cmpi .ne v40 c0_i32_15
  v41

def k0_cond4 (i : grid0.Coords) (v18 : BitVec 32) : BitVec 1 :=
  let arg1 : BitVec 32 := BitVec.ofNat 32 (i 1).val
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 32 := Scalar.subi v18 v29
  let c0_i32_19 : BitVec 32 := 0#32
  let v47 : BitVec 1 := Scalar.cmpi .sgt v30 c0_i32_19
  let v48 : BitVec 32 := Scalar.extui v47
  let c0_i32_20 : BitVec 32 := 0#32
  let v49 : BitVec 1 := Scalar.cmpi .ne v48 c0_i32_20
  v49

def cc0_transform_0 (k0_off1_inb : ∀ i : grid0.Coords, ∀ a, (k0_off1 i) a + S1.size a ≤ S16.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast v16
  let v18 : BitVec 32 := pf.at 0 (Rect.unit (s := S16) ![v17.toNat] S1.size (k0_off1_inb i)) numel1_S1
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let v30 : BitVec 1 := Scalar.cmpi .sgt v18 v29
  let c2_i32_10 : BitVec 32 := 2#32
  let v31 : BitVec 32 := Scalar.divsi arg1 c2_i32_10
  let c0_i32_11 : BitVec 32 := 0#32
  let v32 : BitVec 1 := Scalar.cmpi .sgt arg1 c0_i32_11
  let v33 : BitVec 32 := Scalar.extui v32
  let c0_i32_12 : BitVec 32 := 0#32
  let v34 : BitVec 1 := Scalar.cmpi .slt arg1 c0_i32_12
  let v35 : BitVec 32 := Scalar.extui v34
  let v36 : BitVec 32 := Scalar.subi v33 v35
  let c0_i32_13 : BitVec 32 := 0#32
  let v37 : BitVec 1 := Scalar.cmpi .sgt c2_i32_10 c0_i32_13
  let v38 : BitVec 32 := Scalar.extui v37
  let c0_i32_14 : BitVec 32 := 0#32
  let v39 : BitVec 1 := Scalar.cmpi .slt c2_i32_10 c0_i32_14
  let v40 : BitVec 32 := Scalar.extui v39
  let v41 : BitVec 32 := Scalar.subi v38 v40
  let v42 : BitVec 1 := Scalar.cmpi .ne v36 v41
  let v43 : BitVec 32 := Scalar.remsi arg1 c2_i32_10
  let c0_i32_15 : BitVec 32 := 0#32
  let v44 : BitVec 1 := Scalar.cmpi .ne v43 c0_i32_15
  let v45 : BitVec 1 := Scalar.andi v42 v44
  let c1_i32_16 : BitVec 32 := 1#32
  let v46 : BitVec 32 := Scalar.subi v31 c1_i32_16
  let v47 : BitVec 32 := Scalar.select v45 v46 v31
  let c2_i32_17 : BitVec 32 := 2#32
  let v48 : BitVec 32 := Scalar.muli v47 c2_i32_17
  let v49 : BitVec 32 := Scalar.select v30 arg1 v48
  let c0_i32_18 : BitVec 32 := 0#32
  let c0_i32_19 : BitVec 32 := 0#32
  ![v49.toNat, c0_i32_18.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 1 := Scalar.cmpi .eq arg0 c9_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 1 := Scalar.cmpi .eq arg0 c9_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1280x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S20x1x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2560x48 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S48x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x48 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S2560x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S48x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S16x1024x2560 : Shape := ⟨3, ![16, 1024, 2560]⟩
abbrev S16 : Shape := ⟨1, ![16]⟩
abbrev S2560x10240 : Shape := ⟨2, ![2560, 10240]⟩
abbrev S1280x10240 : Shape := ⟨2, ![1280, 10240]⟩
abbrev S20x10240 : Shape := ⟨2, ![20, 10240]⟩
abbrev S2560x48 : Shape := ⟨2, ![2560, 48]⟩
abbrev S48x10240 : Shape := ⟨2, ![48, 10240]⟩
abbrev S_ : Shape := ⟨0, ![]⟩
abbrev S10x10240 : Shape := ⟨2, ![10, 10240]⟩
abbrev S10x128x10240 : Shape := ⟨3, ![10, 128, 10240]⟩
abbrev S16x1024x1280 : Shape := ⟨3, ![16, 1024, 1280]⟩
abbrev S16x1024x10240 : Shape := ⟨3, ![16, 1024, 10240]⟩
abbrev S16x1024x48 : Shape := ⟨3, ![16, 1024, 48]⟩
abbrev S1024 : Shape := ⟨1, ![1024]⟩
abbrev S1x1024 : Shape := ⟨2, ![1, 1024]⟩
abbrev S16x1 : Shape := ⟨2, ![16, 1]⟩
abbrev S16x1024 : Shape := ⟨2, ![16, 1024]⟩
abbrev S16x1024x1 : Shape := ⟨3, ![16, 1024, 1]⟩

abbrev nBuf : Space → Nat
  | .hbm => 78
  | .vmem => 0
  | .smem => 0
  | _ => 0

abbrev bufTy : (tb : Table) → Fin (tcTables nBuf tb) → BufTy
  | .hbm, ⟨0, _⟩ => ⟨S16x1024x2560, .bf16⟩
  | .hbm, ⟨1, _⟩ => ⟨S16, .i32⟩
  | .hbm, ⟨2, _⟩ => ⟨S2560x10240, .bf16⟩
  | .hbm, ⟨3, _⟩ => ⟨S1280x10240, .i8⟩
  | .hbm, ⟨4, _⟩ => ⟨S20x10240, .bf16⟩
  | .hbm, ⟨5, _⟩ => ⟨S2560x48, .bf16⟩
  | .hbm, ⟨6, _⟩ => ⟨S48x10240, .bf16⟩
  | .hbm, ⟨7, _⟩ => ⟨S1280x10240, .i32⟩
  | .hbm, ⟨8, _⟩ => ⟨S_, .i32⟩
  | .hbm, ⟨9, _⟩ => ⟨S1280x10240, .i32⟩
  | .hbm, ⟨10, _⟩ => ⟨S1280x10240, .i32⟩
  | .hbm, ⟨11, _⟩ => ⟨S_, .i32⟩
  | .hbm, ⟨12, _⟩ => ⟨S1280x10240, .i32⟩
  | .hbm, ⟨13, _⟩ => ⟨S1280x10240, .i32⟩
  | .hbm, ⟨14, _⟩ => ⟨S_, .i32⟩
  | .hbm, ⟨15, _⟩ => ⟨S1280x10240, .i32⟩
  | .hbm, ⟨16, _⟩ => ⟨S1280x10240, .i32⟩
  | .hbm, ⟨17, _⟩ => ⟨S_, .i32⟩
  | .hbm, ⟨18, _⟩ => ⟨S1280x10240, .i32⟩
  | .hbm, ⟨19, _⟩ => ⟨S1280x10240, .i32⟩
  | .hbm, ⟨20, _⟩ => ⟨S_, .i32⟩
  | .hbm, ⟨21, _⟩ => ⟨S1280x10240, .i32⟩
  | .hbm, ⟨22, _⟩ => ⟨S1280x10240, .i32⟩
  | .hbm, ⟨23, _⟩ => ⟨S_, .i32⟩
  | .hbm, ⟨24, _⟩ => ⟨S1280x10240, .i32⟩
  | .hbm, ⟨25, _⟩ => ⟨S1280x10240, .i32⟩
  | .hbm, ⟨26, _⟩ => ⟨S_, .i32⟩
  | .hbm, ⟨27, _⟩ => ⟨S1280x10240, .i32⟩
  | .hbm, ⟨28, _⟩ => ⟨S1280x10240, .i32⟩
  | .hbm, ⟨29, _⟩ => ⟨S10x10240, .bf16⟩
  | .hbm, ⟨30, _⟩ => ⟨S10x128x10240, .bf16⟩
  | .hbm, ⟨31, _⟩ => ⟨S1280x10240, .bf16⟩
  | .hbm, ⟨32, _⟩ => ⟨S10x10240, .bf16⟩
  | .hbm, ⟨33, _⟩ => ⟨S10x128x10240, .bf16⟩
  | .hbm, ⟨34, _⟩ => ⟨S1280x10240, .bf16⟩
  | .hbm, ⟨35, _⟩ => ⟨S1280x10240, .bf16⟩
  | .hbm, ⟨36, _⟩ => ⟨S1280x10240, .bf16⟩
  | .hbm, ⟨37, _⟩ => ⟨S1280x10240, .bf16⟩
  | .hbm, ⟨38, _⟩ => ⟨S1280x10240, .bf16⟩
  | .hbm, ⟨39, _⟩ => ⟨S1280x10240, .bf16⟩
  | .hbm, ⟨40, _⟩ => ⟨S1280x10240, .bf16⟩
  | .hbm, ⟨41, _⟩ => ⟨S1280x10240, .bf16⟩
  | .hbm, ⟨42, _⟩ => ⟨S1280x10240, .bf16⟩
  | .hbm, ⟨43, _⟩ => ⟨S16x1024x1280, .bf16⟩
  | .hbm, ⟨44, _⟩ => ⟨S16x1024x10240, .f32⟩
  | .hbm, ⟨45, _⟩ => ⟨S16x1024x1280, .bf16⟩
  | .hbm, ⟨46, _⟩ => ⟨S16x1024x10240, .f32⟩
  | .hbm, ⟨47, _⟩ => ⟨S16x1024x10240, .f32⟩
  | .hbm, ⟨48, _⟩ => ⟨S16x1024x48, .f32⟩
  | .hbm, ⟨49, _⟩ => ⟨S16x1024x48, .bf16⟩
  | .hbm, ⟨50, _⟩ => ⟨S16x1024x10240, .f32⟩
  | .hbm, ⟨51, _⟩ => ⟨S1024, .i32⟩
  | .hbm, ⟨52, _⟩ => ⟨S1x1024, .i32⟩
  | .hbm, ⟨53, _⟩ => ⟨S16x1, .i32⟩
  | .hbm, ⟨54, _⟩ => ⟨S16x1024, .i32⟩
  | .hbm, ⟨55, _⟩ => ⟨S16x1024, .i32⟩
  | .hbm, ⟨56, _⟩ => ⟨S16x1024, .i1⟩
  | .hbm, ⟨57, _⟩ => ⟨S16x1024x1, .i1⟩
  | .hbm, ⟨58, _⟩ => ⟨S16x1024x10240, .f32⟩
  | .hbm, ⟨59, _⟩ => ⟨S_, .f32⟩
  | .hbm, ⟨60, _⟩ => ⟨S_, .f32⟩
  | .hbm, ⟨61, _⟩ => ⟨S16x1024x10240, .i1⟩
  | .hbm, ⟨62, _⟩ => ⟨S16x1024x10240, .f32⟩
  | .hbm, ⟨63, _⟩ => ⟨S16x1024x10240, .f32⟩
  | .hbm, ⟨64, _⟩ => ⟨S16x1024x10240, .f32⟩
  | .hbm, ⟨65, _⟩ => ⟨S_, .f32⟩
  | .hbm, ⟨66, _⟩ => ⟨S16x1024, .f32⟩
  | .hbm, ⟨67, _⟩ => ⟨S16x1024x10240, .bf16⟩
  | .hbm, ⟨68, _⟩ => ⟨S16x1024x48, .f32⟩
  | .hbm, ⟨69, _⟩ => ⟨S16x1024x48, .bf16⟩
  | .hbm, ⟨70, _⟩ => ⟨S2560x48, .f32⟩
  | .hbm, ⟨71, _⟩ => ⟨S_, .f32⟩
  | .hbm, ⟨72, _⟩ => ⟨S2560x48, .f32⟩
  | .hbm, ⟨73, _⟩ => ⟨S2560x48, .f32⟩
  | .hbm, ⟨74, _⟩ => ⟨S48x10240, .f32⟩
  | .hbm, ⟨75, _⟩ => ⟨S_, .f32⟩
  | .hbm, ⟨76, _⟩ => ⟨S48x10240, .f32⟩
  | .hbm, ⟨77, _⟩ => ⟨S48x10240, .f32⟩
  | _, _ => ⟨S16x1024x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_c_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v45 : Ref sig .tc := ⟨.hbm, 63, rfl⟩
abbrev main_v46 : Ref sig .tc := ⟨.hbm, 64, rfl⟩
abbrev main_cst_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== Proof.Steps.lean ====
/- One load or store of a kernel body at a time, over memrefs owned at known contents: what a load through a unit-stride
   rectangle reads is a window of the contents, what a store leaves is the contents with the payload put there. -/
module

public import Idealize.ShloMosaic.Lib.Tactic
public import Idealize.ShloMosaic.Lib.Exec
public import Idealize.ShloMosaic.Lib.VecWindow
public import Idealize.ShloMosaic.Lib.Memref

@[expose] public section

noncomputable section

namespace Cert.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type} [Preorder Lvl] {Λ : Labels}

local notation "𝕄" => MT nD τ sig Ix Val Name U Lvl

variable {defs : Defs nD τ sig Val Λ} (𝒱 : Variants) (c : Thread nD τ) (bd : Option 𝒱.V) (E : Set Name)
variable {sh : Shape} {e : EltTy} {α : Type} {Q : α → sProp (MT nD τ sig Ix Val Name U Lvl)}

/-- A load through a unit-stride rectangle of a memref owned at `X` continues at that window of `X`. -/
theorem own_load {cs : CoreSpace} {m : Memref sig c.2.kind cs sh e} {off off' size : Fin sh.rank → ℕ} {inb : ∀ a, off a + size a ≤ sh.size a}
    {hl : m.view.LoadsAt (Rect.unit off size inb).toLoadRect} (q : PosShare TreeShare) (X : sh.Idx → Val e)
    (h : off = off') (inb' : ∀ a, off' a + size a ≤ sh.size a)
    {k : ((Rect.unit off size inb).shape.Idx → Val e) → Prog (TpuEff nD τ sig Val Λ c.2) α} :
    (owns c m q X : sProp 𝕄)
      ⊢ iprop((owns c m q X -∗ wp frame (wpE defs 𝒱 c bd) E (k (VecWindow.window X off' size inb')) Q)
        -∗ wp frame (wpE defs 𝒱 c bd) E (Prog.lift (.load m (Rect.unit off size inb).toLoadRect hl) >>= k) Q) := by
  iintro H Hk
  ihave H' := (show owns c m q X ⊢ iprop(∃ g, ⌜m.view.read Val g = X⌝ ∗ m.view.loc c ↦[m.view.set]{q} g) from .rfl) $$ H
  icases H' with ⟨%g, %hg, H⟩
  have e1 : wp frame (wpE defs 𝒱 c bd) E (Prog.lift (.load m (Rect.unit off size inb).toLoadRect hl) >>= k) Q
      = wp frame (wpE defs 𝒱 c bd) E (.op (.load m (Rect.unit off size inb).toLoadRect hl) k) Q := rfl
  rw [e1]
  iapply (wp_load 𝒱 c bd E (S := m.view.set) (m.view.setOn_subset_set _)) $$ H
  iintro H
  rw [View.readAt_unit _ _ inb h inb', hg]
  iapply Hk
  ihave H2 := (owns_intro c m q g) $$ H
  rw [hg]
  iexact H2

/-- A load of a whole memref owned at `X` continues at `X`. -/
theorem own_load_full {cs : CoreSpace} {m : Memref sig c.2.kind cs sh e} {off : Fin sh.rank → ℕ} {inb : ∀ a, off a + sh.size a ≤ sh.size a}
    {hl : m.view.LoadsAt (Rect.unit off sh.size inb).toLoadRect} (q : PosShare TreeShare) (X : sh.Idx → Val e)
    {k : ((Rect.unit off sh.size inb).shape.Idx → Val e) → Prog (TpuEff nD τ sig Val Λ c.2) α} :
    (owns c m q X : sProp 𝕄)
      ⊢ iprop((owns c m q X -∗ wp frame (wpE defs 𝒱 c bd) E (k X) Q)
        -∗ wp frame (wpE defs 𝒱 c bd) E (Prog.lift (.load m (Rect.unit off sh.size inb).toLoadRect hl) >>= k) Q) := by
  have hX : VecWindow.window X off sh.size inb = X := by
    funext y
    exact congrArg X (funext fun a => Fin.ext (by
      show off a + 1 * (y a).val = (y a).val
      have := inb a; omega))
  have := own_load (defs := defs) 𝒱 c bd E (m := m) (hl := hl) q X rfl inb (Q := Q) (k := k)
  rw [hX] at this
  exact this

/-- A store through a unit-stride rectangle of a memref owned at `X` leaves `X` with the payload put there. -/
theorem own_store {cs : CoreSpace} {m : Memref sig c.2.kind cs sh e} {off off' size : Fin sh.rank → ℕ} {inb : ∀ a, off a + size a ≤ sh.size a}
    {w : (Rect.unit off size inb).shape.Idx → Val e} {hx : (m.access (Rect.unit off size inb)).Stores Finset.univ} {hm}
    (X : sh.Idx → Val e) (h : off = off')
    {k : PUnit → Prog (TpuEff nD τ sig Val Λ c.2) α} :
    (owns c m fullShare X : sProp 𝕄)
      ⊢ iprop((owns c m fullShare (VecWindow.put X off' size w) -∗ wp frame (wpE defs 𝒱 c bd) E (k ⟨⟩) Q)
        -∗ wp frame (wpE defs 𝒱 c bd) E (Prog.lift (.store m (Rect.unit off size inb) w Finset.univ hx hm) >>= k) Q) := by
  iintro H Hk
  ihave H' := (show owns c m fullShare X ⊢ iprop(∃ g, ⌜m.view.read Val g = X⌝ ∗ m.view.loc c ↦[m.view.set]{fullShare} g) from .rfl) $$ H
  icases H' with ⟨%g, %hg, H⟩
  have e1 : wp frame (wpE defs 𝒱 c bd) E (Prog.lift (.store m (Rect.unit off size inb) w Finset.univ hx hm) >>= k) Q
      = wp frame (wpE defs 𝒱 c bd) E (.op (.store m (Rect.unit off size inb) w Finset.univ hx hm) k) Q := rfl
  rw [e1]
  iapply (wp_store 𝒱 c bd E (m := m) (r := Rect.unit off size inb) (w := w) (Mk := Finset.univ) (hx := hx) (hm := hm) (k := k) (S := m.view.set) (f := g) (m.view.set_slice_subset (Rect.unit off size inb))) $$ H
  iintro H
  iapply Hk
  have hr : m.view.read Val ((m.access (Rect.unit off size inb)).write Val g w Finset.univ) = VecWindow.put X off' size w := by
    have := View.read_writes_cons_put m.view g inb w [] h
    rw [View.writes_nil, hg] at this
    rw [← this]; rfl
  ihave H2 := (owns_intro c m fullShare ((m.access (Rect.unit off size inb)).write Val g w Finset.univ)) $$ H
  rw [hr]
  iexact H2

/-- A store of a whole memref leaves the payload. -/
theorem own_store_full {cs : CoreSpace} {m : Memref sig c.2.kind cs sh e} {off : Fin sh.rank → ℕ} {inb : ∀ a, off a + sh.size a ≤ sh.size a}
    {w : (Rect.unit off sh.size inb).shape.Idx → Val e} {hx : (m.access (Rect.unit off sh.size inb)).Stores Finset.univ} {hm}
    (X : sh.Idx → Val e)
    {k : PUnit → Prog (TpuEff nD τ sig Val Λ c.2) α} :
    (owns c m fullShare X : sProp 𝕄)
      ⊢ iprop((owns c m fullShare w -∗ wp frame (wpE defs 𝒱 c bd) E (k ⟨⟩) Q)
        -∗ wp frame (wpE defs 𝒱 c bd) E (Prog.lift (.store m (Rect.unit off sh.size inb) w Finset.univ hx hm) >>= k) Q) := by
  have hX : VecWindow.put X off sh.size w = w := by
    funext y
    unfold VecWindow.put
    rw [dif_pos (fun a => by have := inb a; have := (y a).isLt; omega)]
    exact congrArg w (funext fun a => Fin.ext (by
      show (y a).val - off a = (y a).val
      have := inb a; omega))
  have := own_store (defs := defs) 𝒱 c bd E (m := m) (hx := hx) (hm := hm) (w := w) X rfl (Q := Q) (k := k)
  rw [hX] at this
  exact this

/-- Reading a word of a table in scalar memory owned at `X` continues at that word of `X`. -/
theorem own_smem {m : Memref sig c.2.kind .smem sh e} {off off' size : Fin sh.rank → ℕ} {inb : ∀ a, off a + size a ≤ sh.size a}
    {hw : (m.access (Rect.unit off size inb)).Loads} {x : (Rect.unit off size inb).shape.Idx}
    (q : PosShare TreeShare) (X : sh.Idx → Val e) (h : off = off') (inb' : ∀ a, off' a + size a ≤ sh.size a)
    {k : Val e → Prog (TpuEff nD τ sig Val Λ c.2) α} :
    (owns c m q X : sProp 𝕄)
      ⊢ iprop((owns c m q X -∗ wp frame (wpE defs 𝒱 c bd) E (k (VecWindow.window X off' size inb' x)) Q)
        -∗ wp frame (wpE defs 𝒱 c bd) E (smemLoadElt m (Rect.unit off size inb) hw x .ret >>= k) Q) := by
  iintro H Hk
  ihave H' := (show owns c m q X ⊢ iprop(∃ g, ⌜m.view.read Val g = X⌝ ∗ m.view.loc c ↦[m.view.set]{q} g) from .rfl) $$ H
  icases H' with ⟨%g, %hg, H⟩
  have e1 : wp frame (wpE defs 𝒱 c bd) E (smemLoadElt m (Rect.unit off size inb) hw x .ret >>= k) Q
      = wp frame (wpE defs 𝒱 c bd) E (smemLoadElt m (Rect.unit off size inb) hw x k) Q := rfl
  rw [e1]
  iapply (wp_smemLoadElt 𝒱 c bd E (m := m) (r := Rect.unit off size inb) (hw := hw) (x := x) (k := k) (S := m.view.set) (q := q) (f := g) (m.view.set_slice_subset (Rect.unit off size inb))) $$ H
  iintro H
  have e2 : (m.access (Rect.unit off size inb)).read Val g x = VecWindow.window X off' size inb' x := by
    have := congrFun (View.readAt_unit m.view g inb h inb') x
    rw [hg] at this
    exact this
  rw [e2]
  iapply Hk
  ihave H2 := (owns_intro c m q g) $$ H
  rw [hg]
  iexact H2

end Cert.Steps

end
-- ==== Proof.BodyK.lean ====
/- What one call of the kernel's body does: from every memref at known contents, the contents it leaves, as a pure function
   of them, one conditional of the body at a time. -/
module

public import proofs.«01_k».proof.Proof.Gen.Kernel.Loops
public import proofs.«01_k».proof.Proof.Steps

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Steps

variable {F : FTy → Type} [FloatOps F]

local notation "𝕄G" => MT nD τ sig Unit (Elt F) ℕ (UR sig nD τ) ℕ

/-- The memrefs the body is called with. -/
structure Refs where
  arg2 : Memref sig .tc .smem S16 .i32
  harg2 : arg2.IsWhole
  arg3 : Memref sig .tc .vmem S512x2560 .bf16
  harg3 : arg3.IsWhole
  arg4 : Memref sig .tc .vmem S2560x1024 .bf16
  harg4 : arg4.IsWhole
  arg5 : Memref sig .tc .vmem S1280x1024 .i8
  harg5 : arg5.IsWhole
  arg6 : Memref sig .tc .vmem S20x1x1024 .bf16
  harg6 : arg6.IsWhole
  arg7 : Memref sig .tc .vmem S2560x48 .bf16
  harg7 : arg7.IsWhole
  arg8 : Memref sig .tc .vmem S48x1024 .bf16
  harg8 : arg8.IsWhole
  arg9 : Memref sig .tc .vmem S1x1x512 .f32
  harg9 : arg9.IsWhole
  arg10 : Memref sig .tc .vmem S512x48 .f32
  harg10 : arg10.IsWhole
  arg11 : Memref sig .tc .vmem S2560x48 .f32
  harg11 : arg11.IsWhole
  arg12 : Memref sig .tc .vmem S48x1024 .f32
  harg12 : arg12.IsWhole
  arg13 : Memref sig .tc .vmem S2560x1024 .bf16
  harg13 : arg13.IsWhole
  arg14 : Memref sig .tc .vmem S16384x48 .bf16
  harg14 : arg14.IsWhole
  arg15 : Memref sig .tc .vmem S16384x48 .f32
  harg15 : arg15.IsWhole
  arg16 : Memref sig .tc .vmem S16384x128 .f32
  harg16 : arg16.IsWhole

/-- The contents of the memrefs, the table apart. -/
structure St (F : FTy → Type) where
  x : S512x2560.Idx → Elt F .bf16
  w : S2560x1024.Idx → Elt F .bf16
  cd : S1280x1024.Idx → Elt F .i8
  sc : S20x1x1024.Idx → Elt F .bf16
  a : S2560x48.Idx → Elt F .bf16
  b : S48x1024.Idx → Elt F .bf16
  loss : S1x1x512.Idx → Elt F .f32
  g : S512x48.Idx → Elt F .f32
  da : S2560x48.Idx → Elt F .f32
  db : S48x1024.Idx → Elt F .f32
  e : S2560x1024.Idx → Elt F .bf16
  pb : S16384x48.Idx → Elt F .bf16
  gacc : S16384x48.Idx → Elt F .f32
  lacc : S16384x128.Idx → Elt F .f32

/-- Core `c` owns every memref: the table at `T`, at the share `q`, the others at `st`. -/
def Own (c : Dev nD) (q : PosShare TreeShare) (R : Refs) (T : S16.Idx → Elt F .i32) (st : St F) : sProp 𝕄G :=
  iprop(owns (c : Thread nD τ) R.arg2 q T ∗ owns (c : Thread nD τ) R.arg3 fullShare (st).x ∗ owns (c : Thread nD τ) R.arg4 fullShare (st).w ∗ owns (c : Thread nD τ) R.arg5 fullShare (st).cd ∗ owns (c : Thread nD τ) R.arg6 fullShare (st).sc ∗ owns (c : Thread nD τ) R.arg7 fullShare (st).a ∗ owns (c : Thread nD τ) R.arg8 fullShare (st).b ∗ owns (c : Thread nD τ) R.arg9 fullShare (st).loss ∗ owns (c : Thread nD τ) R.arg10 fullShare (st).g ∗ owns (c : Thread nD τ) R.arg11 fullShare (st).da ∗ owns (c : Thread nD τ) R.arg12 fullShare (st).db ∗ owns (c : Thread nD τ) R.arg13 fullShare (st).e ∗ owns (c : Thread nD τ) R.arg14 fullShare (st).pb ∗ owns (c : Thread nD τ) R.arg15 fullShare (st).gacc ∗ owns (c : Thread nD τ) R.arg16 fullShare (st).lacc)

/-- The row count the table gives the point's slot. -/
def word (i : grid0.Coords) (T : S16.Idx → Elt F .i32) : BitVec 32 :=
  VecWindow.window T (k0_off1 i) S1.size (k0_off1_inb i) (Shape.Idx.first (numel1_S1.symm ▸ Nat.one_pos))

/-- How many rows of the point's tile are below the row count, as the body computes it. -/
def nval (i : grid0.Coords) (v18 : BitVec 32) : BitVec 32 :=
  let arg1 : BitVec 32 := BitVec.ofNat 32 (i 1).val
  let v19 : BitVec 1 := Scalar.cmpi .eq 2#32 0#32
  let v20 : BitVec 32 := Scalar.select v19 1#32 2#32
  let v21 : BitVec 32 := Scalar.remsi arg1 v20
  let v22 : BitVec 1 := Scalar.cmpi .ne v21 0#32
  let v23 : BitVec 1 := Scalar.cmpi .slt v21 0#32
  let v24 : BitVec 1 := Scalar.cmpi .slt v20 0#32
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.muli v28 512#32
  Scalar.subi v18 v29

/-- The condition of the body's third conditional, of what the body reads it from. -/
def cond3v (arg0 v30 : BitVec 32) : BitVec 1 :=
  let v42 : BitVec 1 := Scalar.cmpi .eq arg0 0#32
  let v43 : BitVec 1 := Scalar.cmpi .sgt v30 0#32
  let v44 : BitVec 1 := Scalar.andi v42 v43
  let v45 : BitVec 32 := Scalar.extui v44
  Scalar.cmpi .ne v45 0#32

/-- The condition of the body's third conditional: the first column tile, at a tile with rows. -/
def cond3 (i : grid0.Coords) (v18 : BitVec 32) : BitVec 1 := cond3v (BitVec.ofNat 32 (i 0).val) (nval i v18)

/-- What is left of the errors of a tile's rows after the low-rank part, rows past the row count zeroed. -/
def resid (i : grid0.Coords) (v18 : BitVec 32) (st : St F) : FVec F S512x1024 .f32 :=
  k0_pay16 (nval i v18) (VecWindow.window st.pb (k0_off9 i) S512x48.size (k0_off9_inb i)) st.b st.x st.e

/-- One trip of the dequantising loop: the two row blocks it writes of the error tile. -/
def etrip (k : Fin k0_t1_loop.trips) (i : grid0.Coords) (h1 : k0_cond1 i = 1#1) (st : St F) (e : S2560x1024.Idx → Elt F .bf16) : S2560x1024.Idx → Elt F .bf16 :=
  VecWindow.put
    (VecWindow.put e (k0_off3 k) S128x1024.size
      (k0_pay14 (VecWindow.window st.cd (k0_off2 k) S128x1024.size (k0_off2_inb i k h1)) (VecWindow.window st.w (k0_off3 k) S128x1024.size (k0_off3_inb i k h1))
        (VecWindow.window st.sc (k0_off4 k) S1x1x1024.size (k0_off4_inb i k h1))))
    (k0_off5 k) S128x1024.size
    (k0_pay18 (VecWindow.window st.w (k0_off5 k) S128x1024.size (k0_off5_inb i k h1)) (k0_pay15 (VecWindow.window st.cd (k0_off2 k) S128x1024.size (k0_off2_inb i k h1)))
      (VecWindow.window st.sc (k0_off6 k) S1x1x1024.size (k0_off6_inb i k h1)))

/-- The error tile after the first `n` trips. -/
def eloop (i : grid0.Coords) (h1 : k0_cond1 i = 1#1) (st : St F) : ℕ → S2560x1024.Idx → Elt F .bf16
  | 0 => st.e
  | n + 1 => if h : n < k0_t1_loop.trips then etrip ⟨n, h⟩ i h1 st (eloop i h1 st n) else eloop i h1 st n

/-- The body's first conditional: the first tile of a column dequantises it and zeroes `d_b`. -/
def s1 (i : grid0.Coords) (st : St F) : St F :=
  if h1 : k0_cond1 i = 1#1 then { st with e := eloop i h1 st k0_t1_loop.trips, db := k0_pay19 } else st

/-- The body's conditional 2: the first point zeroes `d_a`. -/
def s2 (i : grid0.Coords) (st : St F) : St F :=
  if k0_cond2 i = 1#1 then { st with da := k0_pay1 } else st

/-- The body's conditional 3: a tile with rows, at the first column tile, computes its projection and zeroes its accumulators. -/
def s3 (i : grid0.Coords) (v18 : BitVec 32) (st : St F) : St F :=
  if cond3 i v18 = 1#1 then { st with pb := VecWindow.put st.pb (k0_off7 i) S512x48.size (k0_pay2 st.x st.a), gacc := VecWindow.put st.gacc (k0_off7 i) S512x48.size (k0_pay3 (F := F)), lacc := VecWindow.put st.lacc (k0_off8 i) S512x128.size (k0_pay4 (F := F)) } else st

/-- The body's conditional 4: a tile with rows accumulates its part of the loss, of `g` and of `d_b`. -/
def s4 (i : grid0.Coords) (v18 : BitVec 32) (st : St F) : St F :=
  if k0_cond4 i v18 = 1#1 then { st with lacc := VecWindow.put st.lacc (k0_off10 i) S512x128.size (k0_pay5 (k0_pay17 (nval i v18) (VecWindow.window st.pb (k0_off9 i) S512x48.size (k0_off9_inb i)) st.b st.x st.e (VecWindow.window st.lacc (k0_off10 i) S512x128.size (k0_off10_inb i)))), gacc := VecWindow.put st.gacc (k0_off9 i) S512x48.size (k0_pay7 st.b (resid i v18 st) (VecWindow.window st.gacc (k0_off9 i) S512x48.size (k0_off9_inb i))), db := k0_pay8 (VecWindow.window st.pb (k0_off9 i) S512x48.size (k0_off9_inb i)) (resid i v18 st) st.db } else st

/-- The body's conditional 5: at the last column tile a tile with rows writes its loss and `g` and accumulates `d_a`. -/
def s5 (i : grid0.Coords) (v18 : BitVec 32) (st : St F) : St F :=
  if k0_cond5 i v18 = 1#1 then { st with g := (VecWindow.window st.gacc (k0_off11 i) S512x48.size (k0_off11_inb i)), da := k0_pay9 (VecWindow.window st.gacc (k0_off11 i) S512x48.size (k0_off11_inb i)) st.da st.x, loss := k0_pay10 (VecWindow.window st.lacc (k0_off12 i) S512x128.size (k0_off12_inb i)) } else st

/-- The body's conditional 6: at the last column tile a tile without rows writes zeros. -/
def s6 (i : grid0.Coords) (v18 : BitVec 32) (st : St F) : St F :=
  if k0_cond6 i v18 = 1#1 then { st with g := k0_pay11, loss := k0_pay12 } else st

/-- The whole body. -/
def sBody (i : grid0.Coords) (v18 : BitVec 32) (st : St F) : St F :=
  s6 i v18 (s5 i v18 (s4 i v18 (s3 i v18 (s2 i (s1 i st)))))

/-- Conditional 2 of the body, before what follows it. -/
def p2 (i : grid0.Coords) (R : Refs) (K : PUnit.{1} → Prog (TpuEff nD τ sig (Elt F) Λ₀ .tc) PUnit) : Prog (TpuEff nD τ sig (Elt F) Λ₀ .tc) PUnit :=
  if k0_h2 : k0_cond2 i = 1#1 then do
    let v59 : Vec F S2560x48 .f32 ← Prog.lift (.load R.arg11 (Rect.unit (s := S2560x48) ![0, 0] S2560x48.size inb_S2560x48_S2560x48_0_0).toLoadRect (View.loadsAt_vmem h_S2560x48))
    Prog.lift (.store R.arg11 (Rect.unit (s := S2560x48) ![0, 0] S2560x48.size inb_S2560x48_S2560x48_0_0) (k0_pay1 (F := F)) Finset.univ (View.stores_vmem_bits_univ h_S2560x48 rfl) (.inl rfl))
    K ⟨⟩
  else K ⟨⟩

/-- Conditional 3 of the body, before what follows it. -/
def p3 (i : grid0.Coords) (R : Refs) (arg0 v30 : BitVec 32) (K : PUnit.{1} → Prog (TpuEff nD τ sig (Elt F) Λ₀ .tc) PUnit) : Prog (TpuEff nD τ sig (Elt F) Λ₀ .tc) PUnit :=
  if cond3v arg0 v30 = 1#1 then do
    let v58 : Vec F S512x2560 .bf16 ← Prog.lift (.load R.arg3 (Rect.unit (s := S512x2560) ![0, 0] S512x2560.size inb_S512x2560_S512x2560_0_0).toLoadRect (View.loadsAt_vmem h_S512x2560))
    let v60 : Vec F S2560x48 .bf16 ← Prog.lift (.load R.arg7 (Rect.unit (s := S2560x48) ![0, 0] S2560x48.size inb_S2560x48_S2560x48_0_0).toLoadRect (View.loadsAt_vmem h_S2560x48))
    let v64 : Vec F S512x48 .bf16 ← Prog.lift (.load R.arg14 (Rect.unit (s := S16384x48) (k0_off7 i) S512x48.size (k0_off7_inb i)).toLoadRect (View.loadsAt_vmem h_S512x48))
    Prog.lift (.store R.arg14 (Rect.unit (s := S16384x48) (k0_off7 i) S512x48.size (k0_off7_inb i)) (k0_pay2 v58 v60) Finset.univ (View.stores_vmem h_S512x48 (R.harg14.storeExact_slice rfl _ (k0_off7_packedbf16 i)) (fun _ => rfl)) (.inl rfl))
    let v69 : Vec F S512x48 .f32 ← Prog.lift (.load R.arg15 (Rect.unit (s := S16384x48) (k0_off7 i) S512x48.size (k0_off7_inb i)).toLoadRect (View.loadsAt_vmem h_S512x48))
    Prog.lift (.store R.arg15 (Rect.unit (s := S16384x48) (k0_off7 i) S512x48.size (k0_off7_inb i)) (k0_pay3 (F := F)) Finset.univ (View.stores_vmem_bits_univ h_S512x48 rfl) (.inl rfl))
    let v74 : Vec F S512x128 .f32 ← Prog.lift (.load R.arg16 (Rect.unit (s := S16384x128) (k0_off8 i) S512x128.size (k0_off8_inb i)).toLoadRect (View.loadsAt_vmem h_S512x128))
    Prog.lift (.store R.arg16 (Rect.unit (s := S16384x128) (k0_off8 i) S512x128.size (k0_off8_inb i)) (k0_pay4 (F := F)) Finset.univ (View.stores_vmem_bits_univ h_S512x128 rfl) (.inl rfl))
    K ⟨⟩
  else K ⟨⟩

/-- Conditional 4 of the body, before what follows it. -/
def p4 (i : grid0.Coords) (R : Refs) (v18 v30 v33 : BitVec 32) (K : PUnit.{1} → Prog (TpuEff nD τ sig (Elt F) Λ₀ .tc) PUnit) : Prog (TpuEff nD τ sig (Elt F) Λ₀ .tc) PUnit :=
  if k0_h4 : k0_cond4 i v18 = 1#1 then do
    let ⟨v59, v60, v73, v101⟩ : Σ' (v59 : Vec F S512x48 .bf16) (v60 : Vec F S48x1024 .bf16) (v73 : FVec F S512x1024 .f32), FVec F S512x128 .f32 ← k0_part2 i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 v30 v33
    Prog.lift (.store R.arg16 (Rect.unit (s := S16384x128) (k0_off10 i) S512x128.size (k0_off10_inb i)) (k0_pay5 v101) Finset.univ (View.stores_vmem_bits_univ h_S512x128 rfl) (.inl rfl))
    let v108 : Vec F S512x48 .f32 ← Prog.lift (.load R.arg15 (Rect.unit (s := S16384x48) (k0_off9 i) S512x48.size (k0_off9_inb i)).toLoadRect (View.loadsAt_vmem h_S512x48))
    let v112 : Vec F S512x48 .f32 ← Prog.lift (.load R.arg15 (Rect.unit (s := S16384x48) (k0_off9 i) S512x48.size (k0_off9_inb i)).toLoadRect (View.loadsAt_vmem h_S512x48))
    Prog.lift (.store R.arg15 (Rect.unit (s := S16384x48) (k0_off9 i) S512x48.size (k0_off9_inb i)) (k0_pay7 v60 v73 v108) Finset.univ (View.stores_vmem_bits_univ h_S512x48 rfl) (.inl rfl))
    let v115 : Vec F S48x1024 .f32 ← Prog.lift (.load R.arg12 (Rect.unit (s := S48x1024) ![0, 0] S48x1024.size inb_S48x1024_S48x1024_0_0).toLoadRect (View.loadsAt_vmem h_S48x1024))
    let v121 : Vec F S48x1024 .f32 ← Prog.lift (.load R.arg12 (Rect.unit (s := S48x1024) ![0, 0] S48x1024.size inb_S48x1024_S48x1024_0_0).toLoadRect (View.loadsAt_vmem h_S48x1024))
    Prog.lift (.store R.arg12 (Rect.unit (s := S48x1024) ![0, 0] S48x1024.size inb_S48x1024_S48x1024_0_0) (k0_pay8 v59 v73 v115) Finset.univ (View.stores_vmem_bits_univ h_S48x1024 rfl) (.inl rfl))
    K ⟨⟩
  else K ⟨⟩

/-- Conditional 5 of the body, before what follows it. -/
def p5 (i : grid0.Coords) (R : Refs) (v18 : BitVec 32) (K : PUnit.{1} → Prog (TpuEff nD τ sig (Elt F) Λ₀ .tc) PUnit) : Prog (TpuEff nD τ sig (Elt F) Λ₀ .tc) PUnit :=
  if k0_h5 : k0_cond5 i v18 = 1#1 then do
    let v59 : Vec F S512x48 .f32 ← Prog.lift (.load R.arg15 (Rect.unit (s := S16384x48) (k0_off11 i) S512x48.size (k0_off11_inb i)).toLoadRect (View.loadsAt_vmem h_S512x48))
    let v60 : Vec F S512x48 .f32 ← Prog.lift (.load R.arg10 (Rect.unit (s := S512x48) ![0, 0] S512x48.size inb_S512x48_S512x48_0_0).toLoadRect (View.loadsAt_vmem h_S512x48))
    Prog.lift (.store R.arg10 (Rect.unit (s := S512x48) ![0, 0] S512x48.size inb_S512x48_S512x48_0_0) v59 Finset.univ (View.stores_vmem_bits_univ h_S512x48 rfl) (.inl rfl))
    let v61 : Vec F S2560x48 .f32 ← Prog.lift (.load R.arg11 (Rect.unit (s := S2560x48) ![0, 0] S2560x48.size inb_S2560x48_S2560x48_0_0).toLoadRect (View.loadsAt_vmem h_S2560x48))
    let v63 : Vec F S512x2560 .bf16 ← Prog.lift (.load R.arg3 (Rect.unit (s := S512x2560) ![0, 0] S512x2560.size inb_S512x2560_S512x2560_0_0).toLoadRect (View.loadsAt_vmem h_S512x2560))
    let v70 : Vec F S2560x48 .f32 ← Prog.lift (.load R.arg11 (Rect.unit (s := S2560x48) ![0, 0] S2560x48.size inb_S2560x48_S2560x48_0_0).toLoadRect (View.loadsAt_vmem h_S2560x48))
    Prog.lift (.store R.arg11 (Rect.unit (s := S2560x48) ![0, 0] S2560x48.size inb_S2560x48_S2560x48_0_0) (k0_pay9 v59 v61 v63) Finset.univ (View.stores_vmem_bits_univ h_S2560x48 rfl) (.inl rfl))
    let v72 : Vec F S512x128 .f32 ← Prog.lift (.load R.arg16 (Rect.unit (s := S16384x128) (k0_off12 i) S512x128.size (k0_off12_inb i)).toLoadRect (View.loadsAt_vmem h_S512x128))
    let v76 : Vec F S1x1x512 .f32 ← Prog.lift (.load R.arg9 (Rect.unit (s := S1x1x512) ![0, 0, 0] S1x1x512.size inb_S1x1x512_S1x1x512_0_0_0).toLoadRect (View.loadsAt_vmem h_S1x1x512))
    Prog.lift (.store R.arg9 (Rect.unit (s := S1x1x512) ![0, 0, 0] S1x1x512.size inb_S1x1x512_S1x1x512_0_0_0) (k0_pay10 v72) Finset.univ (View.stores_vmem_bits_univ h_S1x1x512 rfl) (.inl rfl))
    K ⟨⟩
  else K ⟨⟩

/-- Conditional 6 of the body, before what follows it. -/
def p6 (i : grid0.Coords) (R : Refs) (v18 : BitVec 32) (K : PUnit.{1} → Prog (TpuEff nD τ sig (Elt F) Λ₀ .tc) PUnit) : Prog (TpuEff nD τ sig (Elt F) Λ₀ .tc) PUnit :=
  if k0_h6 : k0_cond6 i v18 = 1#1 then do
    let v59 : Vec F S512x48 .f32 ← Prog.lift (.load R.arg10 (Rect.unit (s := S512x48) ![0, 0] S512x48.size inb_S512x48_S512x48_0_0).toLoadRect (View.loadsAt_vmem h_S512x48))
    Prog.lift (.store R.arg10 (Rect.unit (s := S512x48) ![0, 0] S512x48.size inb_S512x48_S512x48_0_0) (k0_pay11 (F := F)) Finset.univ (View.stores_vmem_bits_univ h_S512x48 rfl) (.inl rfl))
    let v61 : Vec F S1x1x512 .f32 ← Prog.lift (.load R.arg9 (Rect.unit (s := S1x1x512) ![0, 0, 0] S1x1x512.size inb_S1x1x512_S1x1x512_0_0_0).toLoadRect (View.loadsAt_vmem h_S1x1x512))
    Prog.lift (.store R.arg9 (Rect.unit (s := S1x1x512) ![0, 0, 0] S1x1x512.size inb_S1x1x512_S1x1x512_0_0_0) (k0_pay12 (F := F)) Finset.univ (View.stores_vmem_bits_univ h_S1x1x512 rfl) (.inl rfl))
    K ⟨⟩
  else K ⟨⟩

/-- The body is its conditionals one after the other. -/
theorem body_eq (i : grid0.Coords) (R : Refs) :
    cc0_lowrank_fit (F := F) i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16
      = (k0_part3_skel (F := F) i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 >>= fun r => match r with
          | ⟨arg0, v18, v30, v31, v33, v37⟩ =>
            p2 i R fun _ => p3 i R arg0 v30 fun _ => p4 i R v18 v30 v33 fun _ => p5 i R v18 fun _ => p6 i R v18 fun _ => pure ⟨⟩) := rfl

variable (𝒱 : Variants) (c : Dev nD) (bd : Option 𝒱.V) (E : Set ℕ) (q : PosShare TreeShare) (R : Refs) (T : S16.Idx → Elt F .i32)

/-- One trip of the loop does `etrip` to the error tile. -/
theorem trip (i : grid0.Coords) (h1 : k0_cond1 i = 1#1) (k : Fin k0_t1_loop.trips) (st : St F) (e : S2560x1024.Idx → Elt F .bf16) :
    Own c q R T { st with e := e }
      ⊢ wp frame (wpE (defs₀ (F := F)) 𝒱 (c : Thread nD τ) bd) E (k0_t1_body (F := F) i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 h1 k PUnit.unit)
          (fun _ => Own c q R T { st with e := etrip k i h1 st e }) := by
  unfold k0_t1_body Own
  rw [k0_part1_eq_skeleton]
  unfold k0_part1_skel
  iintro ⟨H2, H3, H4, H5, H6, H7, H8, H9, H10, H11, H12, H13, H14, H15, H16⟩
  rw [wp_bind]
  iapply (own_load 𝒱 (c : Thread nD τ) bd E fullShare st.cd rfl (k0_off2_inb i k h1)) $$ H5
  iintro H5
  iapply (own_load 𝒱 (c : Thread nD τ) bd E fullShare st.w rfl (k0_off3_inb i k h1)) $$ H4
  iintro H4
  iapply (own_load 𝒱 (c : Thread nD τ) bd E fullShare st.sc rfl (k0_off4_inb i k h1)) $$ H6
  iintro H6
  iapply (own_load 𝒱 (c : Thread nD τ) bd E fullShare e rfl (k0_off3_inb i k h1)) $$ H13
  iintro H13
  iapply (own_store 𝒱 (c : Thread nD τ) bd E e rfl) $$ H13
  iintro H13
  iapply (own_load 𝒱 (c : Thread nD τ) bd E fullShare st.w rfl (k0_off5_inb i k h1)) $$ H4
  iintro H4
  iapply (le_wp_ret frame (wpE (defs₀ (F := F)) 𝒱 (c : Thread nD τ) bd) E)
  dsimp only
  iapply (own_load 𝒱 (c : Thread nD τ) bd E fullShare st.sc rfl (k0_off6_inb i k h1)) $$ H6
  iintro H6
  iapply (own_load 𝒱 (c : Thread nD τ) bd E fullShare _ rfl (k0_off5_inb i k h1)) $$ H13
  iintro H13
  iapply (own_store 𝒱 (c : Thread nD τ) bd E _ rfl) $$ H13
  iintro H13
  iapply (le_wp_ret frame (wpE (defs₀ (F := F)) 𝒱 (c : Thread nD τ) bd) E)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The loop dequantises the column tile. -/
theorem run_loop (i : grid0.Coords) (h1 : k0_cond1 i = 1#1) (st : St F) {β : Type} {kk : Unit → Prog (TpuEff nD τ sig (Elt F) Λ₀ .tc) β} {Q : β → sProp 𝕄G} :
    Own c q R T st ⊢ iprop((∀ acc, Own c q R T { st with e := eloop i h1 st k0_t1_loop.trips } -∗ wp frame (wpE (defs₀ (F := F)) 𝒱 (c : Thread nD τ) bd) E (kk acc) Q)
      -∗ wp frame (wpE (defs₀ (F := F)) 𝒱 (c : Thread nD τ) bd) E (Scf.Loop.for k0_t1_loop (k0_t1_ok i h1) ⟨⟩ (k0_t1_body (F := F) i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 h1) >>= kk) Q) :=
  exec_loop frame (wpE (defs₀ (F := F)) 𝒱 (c : Thread nD τ) bd) E _ _ _ _ _ _
    ⟨fun n _ => Own c q R T { st with e := eloop i h1 st n }, fun k _ => by
      have ht := trip 𝒱 c bd E q R T i h1 k st (eloop i h1 st k.val)
      have he : eloop i h1 st (k.val + 1) = etrip k i h1 st (eloop i h1 st k.val) := dif_pos k.isLt
      rw [he]
      exact ht⟩

/-- The first part of the body: it reads the row count and, at the first tile of a column, dequantises it. -/
theorem run1 (i : grid0.Coords) (st : St F) {Q : (Σ' (arg0 : BitVec 32) (v18 : Elt F .i32) (v30 : BitVec 32) (v31 : BitVec 1) (v33 : BitVec 32), BitVec 1) → sProp 𝕄G}
    (hK : Own c q R T (s1 i st) ⊢ Q ⟨BitVec.ofNat 32 (i 0).val, word i T, nval i (word i T), Scalar.cmpi .eq (BitVec.ofNat 32 (i 0).val) 9#32, Scalar.muli (BitVec.ofNat 32 (i 1).val) 512#32, Scalar.cmpi .eq (BitVec.ofNat 32 (i 1).val) 0#32⟩) :
    Own c q R T st ⊢ wp frame (wpE (defs₀ (F := F)) 𝒱 (c : Thread nD τ) bd) E (k0_part3_skel (F := F) i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16) Q := by
  unfold k0_part3_skel
  by_cases h : k0_cond1 i = 1#1
  · have hs : s1 i st = { st with e := eloop i h st k0_t1_loop.trips, db := k0_pay19 } := dif_pos h
    rw [hs] at hK
    dsimp only [nval, word] at hK
    unfold Own
    iintro ⟨H2, H3, H4, H5, H6, H7, H8, H9, H10, H11, H12, H13, H14, H15, H16⟩
    iapply (own_smem 𝒱 (c : Thread nD τ) bd E q T rfl (k0_off1_inb i)) $$ H2
    iintro H2
    dsimp only
    rw [dif_pos h]
    iapply (run_loop 𝒱 c bd E q R T i h st) $$ [H2 H3 H4 H5 H6 H7 H8 H9 H10 H11 H12 H13 H14 H15 H16]
    · unfold Own
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    iintro %u HO
    ihave HO := (show Own c q R T { st with e := eloop i h st k0_t1_loop.trips } ⊢ iprop(owns (c : Thread nD τ) R.arg2 q T ∗ owns (c : Thread nD τ) R.arg3 fullShare ({ st with e := eloop i h st k0_t1_loop.trips } : St F).x ∗ owns (c : Thread nD τ) R.arg4 fullShare ({ st with e := eloop i h st k0_t1_loop.trips } : St F).w ∗ owns (c : Thread nD τ) R.arg5 fullShare ({ st with e := eloop i h st k0_t1_loop.trips } : St F).cd ∗ owns (c : Thread nD τ) R.arg6 fullShare ({ st with e := eloop i h st k0_t1_loop.trips } : St F).sc ∗ owns (c : Thread nD τ) R.arg7 fullShare ({ st with e := eloop i h st k0_t1_loop.trips } : St F).a ∗ owns (c : Thread nD τ) R.arg8 fullShare ({ st with e := eloop i h st k0_t1_loop.trips } : St F).b ∗ owns (c : Thread nD τ) R.arg9 fullShare ({ st with e := eloop i h st k0_t1_loop.trips } : St F).loss ∗ owns (c : Thread nD τ) R.arg10 fullShare ({ st with e := eloop i h st k0_t1_loop.trips } : St F).g ∗ owns (c : Thread nD τ) R.arg11 fullShare ({ st with e := eloop i h st k0_t1_loop.trips } : St F).da ∗ owns (c : Thread nD τ) R.arg12 fullShare ({ st with e := eloop i h st k0_t1_loop.trips } : St F).db ∗ owns (c : Thread nD τ) R.arg13 fullShare ({ st with e := eloop i h st k0_t1_loop.trips } : St F).e ∗ owns (c : Thread nD τ) R.arg14 fullShare ({ st with e := eloop i h st k0_t1_loop.trips } : St F).pb ∗ owns (c : Thread nD τ) R.arg15 fullShare ({ st with e := eloop i h st k0_t1_loop.trips } : St F).gacc ∗ owns (c : Thread nD τ) R.arg16 fullShare ({ st with e := eloop i h st k0_t1_loop.trips } : St F).lacc) from .rfl) $$ HO
    icases HO with ⟨H2, H3, H4, H5, H6, H7, H8, H9, H10, H11, H12, H13, H14, H15, H16⟩
    iapply (own_load_full 𝒱 (c : Thread nD τ) bd E fullShare st.db) $$ H12
    iintro H12
    iapply (own_store_full 𝒱 (c : Thread nD τ) bd E st.db) $$ H12
    iintro H12
    iapply (le_wp_ret frame (wpE (defs₀ (F := F)) 𝒱 (c : Thread nD τ) bd) E)
    iapply hK
    unfold Own
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · have hs : s1 i st = st := dif_neg h
    rw [hs] at hK
    dsimp only [nval, word] at hK
    unfold Own
    iintro ⟨H2, H3, H4, H5, H6, H7, H8, H9, H10, H11, H12, H13, H14, H15, H16⟩
    iapply (own_smem 𝒱 (c : Thread nD τ) bd E q T rfl (k0_off1_inb i)) $$ H2
    iintro H2
    dsimp only
    rw [dif_neg h]
    iapply (le_wp_ret frame (wpE (defs₀ (F := F)) 𝒱 (c : Thread nD τ) bd) E)
    iapply hK
    unfold Own
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- Conditional 2 does `s2`. -/
theorem run2 (i : grid0.Coords) (st : St F) {K : PUnit.{1} → Prog (TpuEff nD τ sig (Elt F) Λ₀ .tc) PUnit} {Q : PUnit → sProp 𝕄G}
    (hK : Own c q R T (s2 i st) ⊢ wp frame (wpE (defs₀ (F := F)) 𝒱 (c : Thread nD τ) bd) E (K ⟨⟩) Q) :
    Own c q R T st ⊢ wp frame (wpE (defs₀ (F := F)) 𝒱 (c : Thread nD τ) bd) E (p2 i R K) Q := by
  unfold p2
  by_cases h : k0_cond2 i = 1#1
  · rw [dif_pos (c := k0_cond2 i = 1#1) h]
    have hs : s2 i st = { st with da := k0_pay1 } := if_pos h
    rw [hs] at hK
    unfold Own at hK ⊢
    iintro ⟨H2, H3, H4, H5, H6, H7, H8, H9, H10, H11, H12, H13, H14, H15, H16⟩
    iapply (own_load_full 𝒱 (c : Thread nD τ) bd E fullShare st.da) $$ H11
    iintro H11
    iapply (own_store_full 𝒱 (c : Thread nD τ) bd E st.da) $$ H11
    iintro H11
    iapply hK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [dif_neg (c := k0_cond2 i = 1#1) h]
    have hs : s2 i st = st := if_neg h
    rw [hs] at hK
    exact hK

/-- Conditional 3 does `s3`. -/
theorem run3 (i : grid0.Coords) (v18 : BitVec 32) (st : St F) {K : PUnit.{1} → Prog (TpuEff nD τ sig (Elt F) Λ₀ .tc) PUnit} {Q : PUnit → sProp 𝕄G}
    (hK : Own c q R T (s3 i v18 st) ⊢ wp frame (wpE (defs₀ (F := F)) 𝒱 (c : Thread nD τ) bd) E (K ⟨⟩) Q) :
    Own c q R T st ⊢ wp frame (wpE (defs₀ (F := F)) 𝒱 (c : Thread nD τ) bd) E (p3 i R (BitVec.ofNat 32 (i 0).val) (nval i v18) K) Q := by
  unfold p3
  by_cases h : cond3v (BitVec.ofNat 32 (i 0).val) (nval i v18) = 1#1
  · rw [if_pos (c := cond3v (BitVec.ofNat 32 (i 0).val) (nval i v18) = 1#1) h]
    have hs : s3 i v18 st = { st with pb := VecWindow.put st.pb (k0_off7 i) S512x48.size (k0_pay2 st.x st.a), gacc := VecWindow.put st.gacc (k0_off7 i) S512x48.size (k0_pay3 (F := F)), lacc := VecWindow.put st.lacc (k0_off8 i) S512x128.size (k0_pay4 (F := F)) } := if_pos h
    rw [hs] at hK
    unfold Own at hK ⊢
    iintro ⟨H2, H3, H4, H5, H6, H7, H8, H9, H10, H11, H12, H13, H14, H15, H16⟩
    iapply (own_load_full 𝒱 (c : Thread nD τ) bd E fullShare st.x) $$ H3
    iintro H3
    iapply (own_load_full 𝒱 (c : Thread nD τ) bd E fullShare st.a) $$ H7
    iintro H7
    iapply (own_load 𝒱 (c : Thread nD τ) bd E fullShare st.pb rfl (k0_off7_inb i)) $$ H14
    iintro H14
    iapply (own_store 𝒱 (c : Thread nD τ) bd E st.pb rfl) $$ H14
    iintro H14
    iapply (own_load 𝒱 (c : Thread nD τ) bd E fullShare st.gacc rfl (k0_off7_inb i)) $$ H15
    iintro H15
    iapply (own_store 𝒱 (c : Thread nD τ) bd E st.gacc rfl) $$ H15
    iintro H15
    iapply (own_load 𝒱 (c : Thread nD τ) bd E fullShare st.lacc rfl (k0_off8_inb i)) $$ H16
    iintro H16
    iapply (own_store 𝒱 (c : Thread nD τ) bd E st.lacc rfl) $$ H16
    iintro H16
    iapply hK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [if_neg (c := cond3v (BitVec.ofNat 32 (i 0).val) (nval i v18) = 1#1) h]
    have hs : s3 i v18 st = st := if_neg h
    rw [hs] at hK
    exact hK

/-- Conditional 4 does `s4`. -/
theorem run4 (i : grid0.Coords) (v18 : BitVec 32) (st : St F) {K : PUnit.{1} → Prog (TpuEff nD τ sig (Elt F) Λ₀ .tc) PUnit} {Q : PUnit → sProp 𝕄G}
    (hK : Own c q R T (s4 i v18 st) ⊢ wp frame (wpE (defs₀ (F := F)) 𝒱 (c : Thread nD τ) bd) E (K ⟨⟩) Q) :
    Own c q R T st ⊢ wp frame (wpE (defs₀ (F := F)) 𝒱 (c : Thread nD τ) bd) E (p4 i R v18 (nval i v18) (Scalar.muli (BitVec.ofNat 32 (i 1).val) 512#32) K) Q := by
  unfold p4
  by_cases h : k0_cond4 i v18 = 1#1
  · rw [dif_pos (c := k0_cond4 i v18 = 1#1) h]
    have hs : s4 i v18 st = { st with lacc := VecWindow.put st.lacc (k0_off10 i) S512x128.size (k0_pay5 (k0_pay17 (nval i v18) (VecWindow.window st.pb (k0_off9 i) S512x48.size (k0_off9_inb i)) st.b st.x st.e (VecWindow.window st.lacc (k0_off10 i) S512x128.size (k0_off10_inb i)))), gacc := VecWindow.put st.gacc (k0_off9 i) S512x48.size (k0_pay7 st.b (resid i v18 st) (VecWindow.window st.gacc (k0_off9 i) S512x48.size (k0_off9_inb i))), db := k0_pay8 (VecWindow.window st.pb (k0_off9 i) S512x48.size (k0_off9_inb i)) (resid i v18 st) st.db } := if_pos h
    rw [hs] at hK
    unfold Own at hK ⊢
    iintro ⟨H2, H3, H4, H5, H6, H7, H8, H9, H10, H11, H12, H13, H14, H15, H16⟩
    rw [k0_part2_eq_skeleton]
    unfold k0_part2_skel
    rw [wp_bind]
    iapply (own_load 𝒱 (c : Thread nD τ) bd E fullShare st.pb rfl (k0_off9_inb i)) $$ H14
    iintro H14
    iapply (own_load_full 𝒱 (c : Thread nD τ) bd E fullShare st.b) $$ H8
    iintro H8
    iapply (own_load_full 𝒱 (c : Thread nD τ) bd E fullShare st.x) $$ H3
    iintro H3
    iapply (own_load_full 𝒱 (c : Thread nD τ) bd E fullShare st.e) $$ H13
    iintro H13
    iapply (own_load 𝒱 (c : Thread nD τ) bd E fullShare st.lacc rfl (k0_off10_inb i)) $$ H16
    iintro H16
    iapply (own_load 𝒱 (c : Thread nD τ) bd E fullShare st.lacc rfl (k0_off10_inb i)) $$ H16
    iintro H16
    iapply (le_wp_ret frame (wpE (defs₀ (F := F)) 𝒱 (c : Thread nD τ) bd) E)
    dsimp only
    iapply (own_store 𝒱 (c : Thread nD τ) bd E st.lacc rfl) $$ H16
    iintro H16
    iapply (own_load 𝒱 (c : Thread nD τ) bd E fullShare st.gacc rfl (k0_off9_inb i)) $$ H15
    iintro H15
    iapply (own_load 𝒱 (c : Thread nD τ) bd E fullShare st.gacc rfl (k0_off9_inb i)) $$ H15
    iintro H15
    iapply (own_store 𝒱 (c : Thread nD τ) bd E st.gacc rfl) $$ H15
    iintro H15
    iapply (own_load_full 𝒱 (c : Thread nD τ) bd E fullShare st.db) $$ H12
    iintro H12
    iapply (own_load_full 𝒱 (c : Thread nD τ) bd E fullShare st.db) $$ H12
    iintro H12
    iapply (own_store_full 𝒱 (c : Thread nD τ) bd E st.db) $$ H12
    iintro H12
    iapply hK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [dif_neg (c := k0_cond4 i v18 = 1#1) h]
    have hs : s4 i v18 st = st := if_neg h
    rw [hs] at hK
    exact hK

/-- Conditional 5 does `s5`. -/
theorem run5 (i : grid0.Coords) (v18 : BitVec 32) (st : St F) {K : PUnit.{1} → Prog (TpuEff nD τ sig (Elt F) Λ₀ .tc) PUnit} {Q : PUnit → sProp 𝕄G}
    (hK : Own c q R T (s5 i v18 st) ⊢ wp frame (wpE (defs₀ (F := F)) 𝒱 (c : Thread nD τ) bd) E (K ⟨⟩) Q) :
    Own c q R T st ⊢ wp frame (wpE (defs₀ (F := F)) 𝒱 (c : Thread nD τ) bd) E (p5 i R v18 K) Q := by
  unfold p5
  by_cases h : k0_cond5 i v18 = 1#1
  · rw [dif_pos (c := k0_cond5 i v18 = 1#1) h]
    have hs : s5 i v18 st = { st with g := (VecWindow.window st.gacc (k0_off11 i) S512x48.size (k0_off11_inb i)), da := k0_pay9 (VecWindow.window st.gacc (k0_off11 i) S512x48.size (k0_off11_inb i)) st.da st.x, loss := k0_pay10 (VecWindow.window st.lacc (k0_off12 i) S512x128.size (k0_off12_inb i)) } := if_pos h
    rw [hs] at hK
    unfold Own at hK ⊢
    iintro ⟨H2, H3, H4, H5, H6, H7, H8, H9, H10, H11, H12, H13, H14, H15, H16⟩
    iapply (own_load 𝒱 (c : Thread nD τ) bd E fullShare st.gacc rfl (k0_off11_inb i)) $$ H15
    iintro H15
    iapply (own_load_full 𝒱 (c : Thread nD τ) bd E fullShare st.g) $$ H10
    iintro H10
    iapply (own_store_full 𝒱 (c : Thread nD τ) bd E st.g) $$ H10
    iintro H10
    iapply (own_load_full 𝒱 (c : Thread nD τ) bd E fullShare st.da) $$ H11
    iintro H11
    iapply (own_load_full 𝒱 (c : Thread nD τ) bd E fullShare st.x) $$ H3
    iintro H3
    iapply (own_load_full 𝒱 (c : Thread nD τ) bd E fullShare st.da) $$ H11
    iintro H11
    iapply (own_store_full 𝒱 (c : Thread nD τ) bd E st.da) $$ H11
    iintro H11
    iapply (own_load 𝒱 (c : Thread nD τ) bd E fullShare st.lacc rfl (k0_off12_inb i)) $$ H16
    iintro H16
    iapply (own_load_full 𝒱 (c : Thread nD τ) bd E fullShare st.loss) $$ H9
    iintro H9
    iapply (own_store_full 𝒱 (c : Thread nD τ) bd E st.loss) $$ H9
    iintro H9
    iapply hK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [dif_neg (c := k0_cond5 i v18 = 1#1) h]
    have hs : s5 i v18 st = st := if_neg h
    rw [hs] at hK
    exact hK

/-- Conditional 6 does `s6`. -/
theorem run6 (i : grid0.Coords) (v18 : BitVec 32) (st : St F) {K : PUnit.{1} → Prog (TpuEff nD τ sig (Elt F) Λ₀ .tc) PUnit} {Q : PUnit → sProp 𝕄G}
    (hK : Own c q R T (s6 i v18 st) ⊢ wp frame (wpE (defs₀ (F := F)) 𝒱 (c : Thread nD τ) bd) E (K ⟨⟩) Q) :
    Own c q R T st ⊢ wp frame (wpE (defs₀ (F := F)) 𝒱 (c : Thread nD τ) bd) E (p6 i R v18 K) Q := by
  unfold p6
  by_cases h : k0_cond6 i v18 = 1#1
  · rw [dif_pos (c := k0_cond6 i v18 = 1#1) h]
    have hs : s6 i v18 st = { st with g := k0_pay11, loss := k0_pay12 } := if_pos h
    rw [hs] at hK
    unfold Own at hK ⊢
    iintro ⟨H2, H3, H4, H5, H6, H7, H8, H9, H10, H11, H12, H13, H14, H15, H16⟩
    iapply (own_load_full 𝒱 (c : Thread nD τ) bd E fullShare st.g) $$ H10
    iintro H10
    iapply (own_store_full 𝒱 (c : Thread nD τ) bd E st.g) $$ H10
    iintro H10
    iapply (own_load_full 𝒱 (c : Thread nD τ) bd E fullShare st.loss) $$ H9
    iintro H9
    iapply (own_store_full 𝒱 (c : Thread nD τ) bd E st.loss) $$ H9
    iintro H9
    iapply hK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [dif_neg (c := k0_cond6 i v18 = 1#1) h]
    have hs : s6 i v18 st = st := if_neg h
    rw [hs] at hK
    exact hK

/-- One call of the body does `sBody`. -/
theorem run_body (i : grid0.Coords) (st : St F) :
    Own c q R T st ⊢ wp frame (wpE (defs₀ (F := F)) 𝒱 (c : Thread nD τ) bd) E (cc0_lowrank_fit (F := F) i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16)
      (fun _ => Own c q R T (sBody i (word i T) st)) := by
  rw [body_eq, wp_bind]
  refine run1 𝒱 c bd E q R T i st ?_
  refine run2 𝒱 c bd E q R T i _ ?_
  refine run3 𝒱 c bd E q R T i (word i T) _ ?_
  refine run4 𝒱 c bd E q R T i (word i T) _ ?_
  refine run5 𝒱 c bd E q R T i (word i T) _ ?_
  refine run6 𝒱 c bd E q R T i (word i T) _ ?_
  exact le_wp_ret frame (wpE (defs₀ (F := F)) 𝒱 (c : Thread nD τ) bd) E PUnit.unit (fun _ => Own c q R T (sBody i (word i T) st))

end Cert.Kernel.Hand

end
-- ==== Proof.CondK.lean ====
/- The conditions of the body's conditionals, as plain facts of the grid's point and of the row count. -/
module

public import proofs.«01_k».proof.Proof.BodyK

@[expose] public section

set_option maxRecDepth 16384

noncomputable section

namespace Cert.Kernel.Hand

open Idealize.ShloMosaic Idealize.ShloMosaic.TcCoe
open Cert.Kernel.Gen

variable {F : FTy → Type} [FloatOps F]

/-- The row offset of a tile inside its problem. -/
def rowOff (m : ℕ) : BitVec 32 := BitVec.ofNat 32 (m % 2 * 512)

/-- The row count less the tile's offset. -/
theorem nval_eq (i : grid0.Coords) (v : BitVec 32) : nval i v = v - rowOff (i 1).val := by
  unfold nval rowOff
  dsimp only
  have h : ∀ m : Fin 32, Scalar.muli (Scalar.select (Scalar.andi (Scalar.xori (Scalar.cmpi .slt (Scalar.remsi (BitVec.ofNat 32 m.val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 m.val) (Scalar.select (Scalar.cmpi .eq 2#32 0#32) 1#32 2#32)) 0#32)) (Scalar.addi (Scalar.remsi (BitVec.ofNat 32 m.val) (Scalar.select (Scalar.cmpi .eq 2#32 0#32) 1#32 2#32)) (Scalar.select (Scalar.cmpi .eq 2#32 0#32) 1#32 2#32)) (Scalar.remsi (BitVec.ofNat 32 m.val) (Scalar.select (Scalar.cmpi .eq 2#32 0#32) 1#32 2#32))) 512#32 = BitVec.ofNat 32 (m.val % 2 * 512) := by decide
  rw [h (i 1)]
  rfl

/-- The tile has rows below the row count. -/
def valid (i : grid0.Coords) (v : BitVec 32) : Prop := Scalar.cmpi .sgt (nval i v) 0#32 = 1#1
/-- It can be decided. -/
instance (i : grid0.Coords) (v : BitVec 32) : Decidable (valid i v) := by unfold valid; infer_instance

/-- A tile is valid when the row count less its offset is positive. -/
theorem valid_iff (i : grid0.Coords) (v : BitVec 32) : valid i v ↔ 0 < (v - rowOff (i 1).val).toInt := by
  unfold valid
  rw [nval_eq]
  generalize v - rowOff (i 1).val = x
  simp [Scalar.cmpi, IntOp.cmpi, BitVec.slt]
  rcases h : decide (0 < x.toInt) <;> simp_all

/-- The first conditional: the first tile of a column. -/
theorem cond1_iff (i : grid0.Coords) : k0_cond1 i = 1#1 ↔ (i 1).val = 0 := by
  have h : ∀ m : Fin 32, (Scalar.cmpi .ne (Scalar.extui (Scalar.cmpi .eq (BitVec.ofNat 32 m.val) 0#32) : BitVec 32) 0#32 : BitVec 1) = 1#1 ↔ m.val = 0 := by decide
  exact h (i 1)

/-- The second conditional: the first point. -/
theorem cond2_iff (i : grid0.Coords) : k0_cond2 i = 1#1 ↔ (i 0).val = 0 ∧ (i 1).val = 0 := by
  have h : ∀ (m : Fin 32) (n : Fin 10), (Scalar.cmpi .ne (Scalar.extui (Scalar.andi (Scalar.cmpi .eq (BitVec.ofNat 32 m.val) 0#32) (Scalar.cmpi .eq (BitVec.ofNat 32 n.val) 0#32)) : BitVec 32) 0#32 : BitVec 1) = 1#1 ↔ n.val = 0 ∧ m.val = 0 := by decide
  exact h (i 1) (i 0)

/-- The third conditional: a valid tile of the first column. -/
theorem cond3_iff (i : grid0.Coords) (v : BitVec 32) : cond3 i v = 1#1 ↔ (i 0).val = 0 ∧ valid i v := by
  have h : ∀ (n : Fin 10) (b : BitVec 1), (Scalar.cmpi .ne (Scalar.extui (Scalar.andi (Scalar.cmpi .eq (BitVec.ofNat 32 n.val) 0#32) b) : BitVec 32) 0#32 : BitVec 1) = 1#1 ↔ n.val = 0 ∧ b = 1#1 := by decide
  exact h (i 0) _

/-- The fourth conditional: a valid tile. -/
theorem cond4_iff (i : grid0.Coords) (v : BitVec 32) : k0_cond4 i v = 1#1 ↔ valid i v := by
  have h : ∀ (b : BitVec 1), (Scalar.cmpi .ne (Scalar.extui b : BitVec 32) 0#32 : BitVec 1) = 1#1 ↔ b = 1#1 := by decide
  exact h _

/-- The fifth conditional: a valid tile of the last column. -/
theorem cond5_iff (i : grid0.Coords) (v : BitVec 32) : k0_cond5 i v = 1#1 ↔ (i 0).val = 9 ∧ valid i v := by
  have h : ∀ (n : Fin 10) (b : BitVec 1), (Scalar.cmpi .ne (Scalar.extui (Scalar.andi (Scalar.cmpi .eq (BitVec.ofNat 32 n.val) 9#32) b) : BitVec 32) 0#32 : BitVec 1) = 1#1 ↔ n.val = 9 ∧ b = 1#1 := by decide
  exact h (i 0) _

/-- The sixth conditional: a tile without rows, of the last column. -/
theorem cond6_iff (i : grid0.Coords) (v : BitVec 32) : k0_cond6 i v = 1#1 ↔ (i 0).val = 9 ∧ ¬ valid i v := by
  have h : ∀ (n : Fin 10) (b : BitVec 1), (Scalar.cmpi .ne (Scalar.extui (Scalar.andi (Scalar.cmpi .eq (BitVec.ofNat 32 n.val) 9#32) b) : BitVec 32) 0#32 : BitVec 1) = 1#1 ↔ n.val = 9 ∧ b = 1#1 := by decide
  have h2 : (Scalar.cmpi .sle (nval i v) 0#32 : BitVec 1) = 1#1 ↔ ¬ valid i v := by
    unfold valid
    generalize nval i v = x
    simp [Scalar.cmpi, IntOp.cmpi, BitVec.slt, BitVec.sle]
    by_cases h : 0 < x.toInt
    · simp [h, not_le.mpr h]
    · simp [h, not_lt.mp h]
  rw [← h2]
  exact h (i 0) _

/-- The table word of a point is the one of its problem. -/
theorem off1_eq (i : grid0.Coords) : k0_off1 i 0 = (i 1).val / 2 := by
  have h : ∀ m : Fin 32, (let arg1 := BitVec.ofNat 32 m.val; (Scalar.indexCast (Scalar.select (Scalar.andi (Scalar.cmpi .ne (Scalar.subi (Scalar.extui (Scalar.cmpi .sgt arg1 0#32) : BitVec 32) (Scalar.extui (Scalar.cmpi .slt arg1 0#32))) (Scalar.subi (Scalar.extui (Scalar.cmpi .sgt 2#32 0#32)) (Scalar.extui (Scalar.cmpi .slt 2#32 0#32)))) (Scalar.cmpi .ne (Scalar.remsi arg1 2#32) 0#32)) (Scalar.subi (Scalar.divsi arg1 2#32) 1#32) (Scalar.divsi arg1 2#32)) : Index).toNat) = m.val / 2 := by decide
  exact h (i 1)

/-- The words a tile's problem reads. -/
theorem word_eq (i : grid0.Coords) (T : S16.Idx → Elt F .i32) : word i T = T (fun a => ⟨(i 1).val / 2, by
    have : (i 1).val < 32 := (i 1).isLt
    have e : S16.size a = 16 := by fin_cases a; rfl
    omega⟩) := by
  unfold word VecWindow.window
  congr 1
  funext a
  apply Fin.ext
  fin_cases a
  show k0_off1 i 0 + 1 * ((Shape.Idx.first (s := S1) (numel1_S1.symm ▸ Nat.one_pos)) 0 : Fin 1).val = (i 1).val / 2
  have z : ∀ q : Fin 1, q.val = 0 := fun q => Fin.val_eq_zero q
  refine (congrArg (fun t => k0_off1 i 0 + 1 * t) (z _)).trans ?_
  rw [off1_eq]
  rfl

/-- The table as the schedule reads it is the word. -/
theorem atD_eq (i : grid0.Coords) (pf : pre0.Contents (Elt F)) : pf.atD 0 (k0_off1 i) = word i (pf 0) := by
  have hb : ∀ a, k0_off1 i a + 1 ≤ (pre0.ref 0).ty.shape.size a := fun a => by
    have := k0_off1_inb i a
    fin_cases a
    exact this
  refine (dif_pos hb).trans ?_
  refine Eq.trans ?_ (word_eq i (pf 0)).symm
  refine congrArg (pf 0 : S16.Idx → Elt F .i32) ?_
  funext a
  apply Fin.ext
  fin_cases a
  exact off1_eq i

/-- The block of the windowed `x` at a point: its own tile when the row count is past the tile's offset, else the first tile of its problem. -/
theorem tr0_eq (pf : pre0.Contents (Elt F)) (i : grid0.Coords) :
    cc0_transform_0 k0_off1_inb numel1_S1 pf i 1 = 0 ∧
      cc0_transform_0 k0_off1_inb numel1_S1 pf i 0
        = if Scalar.cmpi .sgt (word i (pf 0)) (rowOff (i 1).val) = 1#1 then (i 1).val else (i 1).val / 2 * 2 := by
  refine ⟨rfl, ?_⟩
  have h : ∀ (m : Fin 32) (b : BitVec 1), (let arg1 := BitVec.ofNat 32 m.val; (Scalar.select b arg1 (Scalar.muli (Scalar.select (Scalar.andi (Scalar.cmpi .ne (Scalar.subi (Scalar.extui (Scalar.cmpi .sgt arg1 0#32) : BitVec 32) (Scalar.extui (Scalar.cmpi .slt arg1 0#32))) (Scalar.subi (Scalar.extui (Scalar.cmpi .sgt 2#32 0#32)) (Scalar.extui (Scalar.cmpi .slt 2#32 0#32)))) (Scalar.cmpi .ne (Scalar.remsi arg1 2#32) 0#32)) (Scalar.subi (Scalar.divsi arg1 2#32) 1#32) (Scalar.divsi arg1 2#32)) 2#32)).toNat) = if b = 1#1 then m.val else m.val / 2 * 2 := by decide
  have h2 : ∀ m : Fin 32, Scalar.muli (Scalar.select (Scalar.andi (Scalar.xori (Scalar.cmpi .slt (Scalar.remsi (BitVec.ofNat 32 m.val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 m.val) (Scalar.select (Scalar.cmpi .eq 2#32 0#32) 1#32 2#32)) 0#32)) (Scalar.addi (Scalar.remsi (BitVec.ofNat 32 m.val) (Scalar.select (Scalar.cmpi .eq 2#32 0#32) 1#32 2#32)) (Scalar.select (Scalar.cmpi .eq 2#32 0#32) 1#32 2#32)) (Scalar.remsi (BitVec.ofNat 32 m.val) (Scalar.select (Scalar.cmpi .eq 2#32 0#32) 1#32 2#32))) 512#32 = rowOff m.val := by unfold rowOff; decide
  rw [← h2 (i 1)]
  exact h (i 1) _

end Cert.Kernel.Hand

end
-- ==== Proof.KitK.lean ====
/- The launch around the kernel's region: what its buffers hold when the region is entered, the host lines before and after
   it, and that every contents of the table of lengths are admissible. -/
module

public import proofs.«01_k».proof.Proof.Gen.Kernel.Launch
public import proofs.«01_k».proof.Proof.CondK
public import Idealize.ShloMosaic.Lib.Pipeline.FrameSuffix

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Steps

variable {F : FTy → Type} [FloatOps F]

local notation "𝕄G" => MT nD τ sig Unit (Elt F) ℕ (UR sig nD τ) ℕ

variable (m : (ℓ : Loc nD τ sig) → Buf (Elt F) ℓ)

/-- What the buffers of core `c` hold when the region is entered, as a valuation. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- The lines before the region allocate nothing. -/
theorem hostOps0_fresh : (hostOps0 : List (HloOp τ sig (Elt F))).Forall fun op => op.fresh = ∅ := ⟨rfl, rfl⟩
/-- The lines after the region allocate nothing. -/
theorem hostOps1_fresh : (hostOps1 : List (HloOp τ sig (Elt F))).Forall fun op => op.fresh = ∅ := ⟨rfl, rfl⟩

/-- The program reduces to its region, continued by the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch no table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl
  all_goals intro j; fin_cases j <;> simp only [StableHlo.reshape_bufs, Finset.mem_insert, Finset.mem_singleton, not_or] <;> and_intros <;> exact StableHlo.devRef_ne_of_ne (by decide)

/-- The lines after the region allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The lines after the region write no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.reshape_writes, Finset.mem_singleton] <;> exact StableHlo.devRef_ne_of_ne (by decide)

/-- The buffers the later lines write. -/
def T0 : Finset (Ref sig .tc) := {main_v3, main_v4}
/-- Every reference a later line writes is in `T0`. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl
  all_goals
    intro b hb
    simp only [StableHlo.reshape_writes, Finset.mem_singleton] at hb
    have hb := Proc.devRef_injective _ hb
    subst hb
    simp [T0]

/-- The table's contents when the region is entered. -/
def tbl : pre0.Contents (Elt F) := fun j => V m (0 : Dev nD) (pre0.ref j)
/-- Every device's table holds them (there is one device). -/
theorem V_pre (c : Dev nD) (j : Fin 1) : V m c (pre0.ref j) = tbl m j := by
  obtain rfl : c = 0 := Subsingleton.elim _ _; rfl

/-- Every contents of the table are admissible. -/
theorem ok_all (pf : pre0.Contents (Elt F)) : ok0 pf := by
  intro i
  have r_i1 : (i 1).val < 32 := (i 1).isLt
  obtain ⟨h1, h0⟩ := tr0_eq pf i
  refine ⟨fun a => ?_, .inr (Affine.block_words_dvd (of_decide_eq_true rfl) (by decide))⟩
  fin_cases a
  · show (cc0_transform_0 k0_off1_inb numel1_S1 pf i 0 + 1) * 512 ≤ 16384
    rw [h0]; split <;> omega
  · show (cc0_transform_0 k0_off1_inb numel1_S1 pf i 1 + 1) * 2560 ≤ 2560
    rw [h1]

/-- The table's contents as admissible contents. -/
abbrev adm : (pcfg0 (F := F)).Adm := ⟨tbl m, ok_all (tbl m)⟩
/-- The pipeline at them. -/
abbrev cfgM : Pipeline.Cfg sig Λ₀ := cfg0 (adm m)

/-- A memref of a whole buffer, owned, is its buffer at those contents. -/
theorem own_whole (c : Dev nD) (r : Ref sig .tc) (q : PosShare TreeShare) (f : Buf (Elt F) ((c : Thread nD τ).loc r)) :
    (owns (c : Thread nD τ) (Memref.whole r) q f : sProp 𝕄G) = (((c : Thread nD τ).loc r) ↦{q} f) := by
  unfold owns
  rw [show (Memref.whole r).view.set = Finset.univ from View.set_whole r]
  refine Entails.antisymm (show (iprop(∃ g, ⌜(Memref.whole r).view.read (Elt F) g = f⌝ ∗ (Memref.whole r).view.loc (c : Thread nD τ) ↦{q} g) : sProp 𝕄G) ⊢ _ from ?_)
    (show (((c : Thread nD τ).loc r) ↦{q} f : sProp 𝕄G) ⊢ iprop(∃ g, ⌜(Memref.whole r).view.read (Elt F) g = f⌝ ∗ (Memref.whole r).view.loc (c : Thread nD τ) ↦{q} g) from ?_)
  · iintro ⟨%g, %h, H⟩
    subst h
    iexact H
  · iintro H
    iexists f
    isplitr
    · ipureintro; rfl
    · iexact H

/-- The half of the table the region hands the body. -/
theorem PhiT_eq (pf : pre0.Contents (Elt F)) (c : Dev nD) : (Pipeline.ΦT pre0 pf c : sProp 𝕄G)
    = owns (c : Thread nD τ) (Memref.whole main_arg1) fullShare.right (pf 0) := by
  refine Eq.trans ?_ (own_whole c main_arg1 fullShare.right (pf 0)).symm
  unfold Pipeline.ΦT Pipeline.prefHeld
  rw [show (Finset.univ : Finset (Fin 1)) = {(0 : Fin 1)} from by decide, bigSep_singleton]
  rfl

/-- Equal propositions entail each other. -/
theorem eq_entails {M : Type} [URA M] {P Q : sProp M} (h : P = Q) : P ⊢ Q := h ▸ .rfl

/-- The lines before the region leave `main_arg0` as it was. -/
theorem V_arg0 (c : Dev nD) : V m c main_arg0 = m ((c : Thread nD τ).loc main_arg0) :=
  StableHlo.after_of_forall_not_mem (b := Proc.devRef .tc main_arg0) _ _ (by
    intro op hop
    simp only [List.flatten_cons, List.flatten_nil, List.append_nil, hostOps0, List.mem_cons, List.mem_nil_iff, or_false] at hop
    rcases hop with rfl | rfl
    all_goals simp only [StableHlo.reshape_writes, Finset.mem_singleton]; exact StableHlo.devRef_ne_of_ne (by decide))

/-- The lines before the region leave `main_arg1` as it was. -/
theorem V_arg1 (c : Dev nD) : V m c main_arg1 = m ((c : Thread nD τ).loc main_arg1) :=
  StableHlo.after_of_forall_not_mem (b := Proc.devRef .tc main_arg1) _ _ (by
    intro op hop
    simp only [List.flatten_cons, List.flatten_nil, List.append_nil, hostOps0, List.mem_cons, List.mem_nil_iff, or_false] at hop
    rcases hop with rfl | rfl
    all_goals simp only [StableHlo.reshape_writes, Finset.mem_singleton]; exact StableHlo.devRef_ne_of_ne (by decide))

/-- The lines before the region leave `main_arg2` as it was. -/
theorem V_arg2 (c : Dev nD) : V m c main_arg2 = m ((c : Thread nD τ).loc main_arg2) :=
  StableHlo.after_of_forall_not_mem (b := Proc.devRef .tc main_arg2) _ _ (by
    intro op hop
    simp only [List.flatten_cons, List.flatten_nil, List.append_nil, hostOps0, List.mem_cons, List.mem_nil_iff, or_false] at hop
    rcases hop with rfl | rfl
    all_goals simp only [StableHlo.reshape_writes, Finset.mem_singleton]; exact StableHlo.devRef_ne_of_ne (by decide))

/-- The lines before the region leave `main_arg3` as it was. -/
theorem V_arg3 (c : Dev nD) : V m c main_arg3 = m ((c : Thread nD τ).loc main_arg3) :=
  StableHlo.after_of_forall_not_mem (b := Proc.devRef .tc main_arg3) _ _ (by
    intro op hop
    simp only [List.flatten_cons, List.flatten_nil, List.append_nil, hostOps0, List.mem_cons, List.mem_nil_iff, or_false] at hop
    rcases hop with rfl | rfl
    all_goals simp only [StableHlo.reshape_writes, Finset.mem_singleton]; exact StableHlo.devRef_ne_of_ne (by decide))

/-- The lines before the region leave `main_arg4` as it was. -/
theorem V_arg4 (c : Dev nD) : V m c main_arg4 = m ((c : Thread nD τ).loc main_arg4) :=
  StableHlo.after_of_forall_not_mem (b := Proc.devRef .tc main_arg4) _ _ (by
    intro op hop
    simp only [List.flatten_cons, List.flatten_nil, List.append_nil, hostOps0, List.mem_cons, List.mem_nil_iff, or_false] at hop
    rcases hop with rfl | rfl
    all_goals simp only [StableHlo.reshape_writes, Finset.mem_singleton]; exact StableHlo.devRef_ne_of_ne (by decide))

/-- The lines before the region leave `main_arg5` as it was. -/
theorem V_arg5 (c : Dev nD) : V m c main_arg5 = m ((c : Thread nD τ).loc main_arg5) :=
  StableHlo.after_of_forall_not_mem (b := Proc.devRef .tc main_arg5) _ _ (by
    intro op hop
    simp only [List.flatten_cons, List.flatten_nil, List.append_nil, hostOps0, List.mem_cons, List.mem_nil_iff, or_false] at hop
    rcases hop with rfl | rfl
    all_goals simp only [StableHlo.reshape_writes, Finset.mem_singleton]; exact StableHlo.devRef_ne_of_ne (by decide))

/-- The lines before the region leave `main_arg6` as it was. -/
theorem V_arg6 (c : Dev nD) : V m c main_arg6 = m ((c : Thread nD τ).loc main_arg6) :=
  StableHlo.after_of_forall_not_mem (b := Proc.devRef .tc main_arg6) _ _ (by
    intro op hop
    simp only [List.flatten_cons, List.flatten_nil, List.append_nil, hostOps0, List.mem_cons, List.mem_nil_iff, or_false] at hop
    rcases hop with rfl | rfl
    all_goals simp only [StableHlo.reshape_writes, Finset.mem_singleton]; exact StableHlo.devRef_ne_of_ne (by decide))

/-- Two states with the same inputs. -/
def SameIn (st st' : St F) : Prop :=
  st.x = st'.x ∧ st.w = st'.w ∧ st.cd = st'.cd ∧ st.sc = st'.sc ∧ st.a = st'.a ∧ st.b = st'.b

/-- Two states with the inputs of a third have the same inputs. -/
theorem SameIn.trans {s s' s'' : St F} (h : SameIn s s') (h' : SameIn s' s'') : SameIn s s'' :=
  ⟨h.1.trans h'.1, h.2.1.trans h'.2.1, h.2.2.1.trans h'.2.2.1, h.2.2.2.1.trans h'.2.2.2.1, h.2.2.2.2.1.trans h'.2.2.2.2.1, h.2.2.2.2.2.trans h'.2.2.2.2.2⟩

/-- The first step, which writes the error tile and zeroes `d_b`, keeps the inputs. -/
theorem sInp1 (i : grid0.Coords) (st : St F) : SameIn (s1 i st) st := by
  unfold s1; split <;> exact ⟨rfl, rfl, rfl, rfl, rfl, rfl⟩

/-- The second step, which zeroes `d_a`, keeps the inputs. -/
theorem sInp2 (i : grid0.Coords) (st : St F) : SameIn (s2 i st) st := by
  unfold s2; split <;> exact ⟨rfl, rfl, rfl, rfl, rfl, rfl⟩

/-- The third step, which writes the projection and zeroes the accumulators, keeps the inputs. -/
theorem sInp3 (i : grid0.Coords) (v : BitVec 32) (st : St F) : SameIn (s3 i v st) st := by
  unfold s3; split <;> exact ⟨rfl, rfl, rfl, rfl, rfl, rfl⟩

/-- The fourth step, which accumulates, keeps the inputs. -/
theorem sInp4 (i : grid0.Coords) (v : BitVec 32) (st : St F) : SameIn (s4 i v st) st := by
  unfold s4; split <;> exact ⟨rfl, rfl, rfl, rfl, rfl, rfl⟩

/-- The fifth step, which writes the results of a tile with valid rows, keeps the inputs. -/
theorem sInp5 (i : grid0.Coords) (v : BitVec 32) (st : St F) : SameIn (s5 i v st) st := by
  unfold s5; split <;> exact ⟨rfl, rfl, rfl, rfl, rfl, rfl⟩

/-- The sixth step, which writes the results of a tile without valid rows, keeps the inputs. -/
theorem sInp6 (i : grid0.Coords) (v : BitVec 32) (st : St F) : SameIn (s6 i v st) st := by
  unfold s6; split <;> exact ⟨rfl, rfl, rfl, rfl, rfl, rfl⟩

/-- The body leaves its inputs as they were. -/
theorem sBody_inputs (i : grid0.Coords) (v : BitVec 32) (st : St F) : SameIn (sBody i v st) st :=
  (sInp6 i v _).trans ((sInp5 i v _).trans ((sInp4 i v _).trans ((sInp3 i v _).trans ((sInp2 i _).trans (sInp1 i st)))))

end Cert.Kernel.Hand

end
-- ==== Proof.FrameK.lean ====
/- The frame of the kernel: from any memory it runs to completion, leaves its arguments as they were and every counter at
   zero. The outputs are not described here. -/
module

public import proofs.«01_k».proof.Proof.KitK

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.Kernel.Gen Cert.Steps

variable {F : FTy → Type} [FloatOps F] [∀ e, Nonempty (Elt F e)]

local notation "𝕄G" => MT nD τ sig Unit (Elt F) ℕ (UR sig nD τ) ℕ

variable (m : (ℓ : Loc nD τ sig) → Buf (Elt F) ℓ)

/-- The memrefs the body is called with at a point. -/
def refs (t : Fin (cfgM m).N) : Refs where
  arg2 := Memref.whole main_arg1
  harg2 := Memref.isWhole_whole _
  arg3 := spec0_0.stage ((cfgM m).slots t 0)
  harg3 := hstage0_0 (((cfgM m).slots t 0).cast nbuf0_0)
  arg4 := spec0_1.stage ((cfgM m).slots t 1)
  harg4 := hstage0_1 (((cfgM m).slots t 1).cast nbuf0_1)
  arg5 := spec0_2.stage ((cfgM m).slots t 2)
  harg5 := hstage0_2 (((cfgM m).slots t 2).cast nbuf0_2)
  arg6 := spec0_3.stage ((cfgM m).slots t 3)
  harg6 := hstage0_3 (((cfgM m).slots t 3).cast nbuf0_3)
  arg7 := spec0_4.stage ((cfgM m).slots t 4)
  harg7 := hstage0_4 (((cfgM m).slots t 4).cast nbuf0_4)
  arg8 := spec0_5.stage ((cfgM m).slots t 5)
  harg8 := hstage0_5 (((cfgM m).slots t 5).cast nbuf0_5)
  arg9 := spec0_6.stage ((cfgM m).slots t 6)
  harg9 := hstage0_6 (((cfgM m).slots t 6).cast nbuf0_6)
  arg10 := spec0_7.stage ((cfgM m).slots t 7)
  harg10 := hstage0_7 (((cfgM m).slots t 7).cast nbuf0_7)
  arg11 := spec0_8.stage ((cfgM m).slots t 8)
  harg11 := hstage0_8 (((cfgM m).slots t 8).cast nbuf0_8)
  arg12 := spec0_9.stage ((cfgM m).slots t 9)
  harg12 := hstage0_9 (((cfgM m).slots t 9).cast nbuf0_9)
  arg13 := Memref.whole cc0_scratch0
  harg13 := Memref.isWhole_whole _
  arg14 := Memref.whole cc0_scratch1
  harg14 := Memref.isWhole_whole _
  arg15 := Memref.whole cc0_scratch2
  harg15 := Memref.isWhole_whole _
  arg16 := Memref.whole cc0_scratch3
  harg16 := Memref.isWhole_whole _

/-- The body's program at a point is the kernel's function on those memrefs. -/
theorem defs_tc : (defs₀ (F := F)) .tc (cfgM m).body
    = fun a => cc0_lowrank_fit (F := F) (grid0.coords a.1) (Memref.whole main_arg1) (Memref.isWhole_whole _)
      (spec0_0.stage (a.2 0)) (hstage0_0 ((a.2 0).cast nbuf0_0)) (spec0_1.stage (a.2 1)) (hstage0_1 ((a.2 1).cast nbuf0_1))
      (spec0_2.stage (a.2 2)) (hstage0_2 ((a.2 2).cast nbuf0_2)) (spec0_3.stage (a.2 3)) (hstage0_3 ((a.2 3).cast nbuf0_3))
      (spec0_4.stage (a.2 4)) (hstage0_4 ((a.2 4).cast nbuf0_4)) (spec0_5.stage (a.2 5)) (hstage0_5 ((a.2 5).cast nbuf0_5))
      (spec0_6.stage (a.2 6)) (hstage0_6 ((a.2 6).cast nbuf0_6)) (spec0_7.stage (a.2 7)) (hstage0_7 ((a.2 7).cast nbuf0_7))
      (spec0_8.stage (a.2 8)) (hstage0_8 ((a.2 8).cast nbuf0_8)) (spec0_9.stage (a.2 9)) (hstage0_9 ((a.2 9).cast nbuf0_9))
      (Memref.whole cc0_scratch0) (Memref.isWhole_whole _) (Memref.whole cc0_scratch1) (Memref.isWhole_whole _)
      (Memref.whole cc0_scratch2) (Memref.isWhole_whole _) (Memref.whole cc0_scratch3) (Memref.isWhole_whole _) := rfl

/-- The program of the body at a point. -/
abbrev prog (i : grid0.Coords) (R : Refs) : Prog (TpuEff nD τ sig (Elt F) Λ₀ .tc) PUnit :=
  cc0_lowrank_fit (F := F) i R.arg2 R.harg2 R.arg3 R.harg3 R.arg4 R.harg4 R.arg5 R.harg5 R.arg6 R.harg6 R.arg7 R.harg7 R.arg8 R.harg8 R.arg9 R.harg9
    R.arg10 R.harg10 R.arg11 R.harg11 R.arg12 R.harg12 R.arg13 R.harg13 R.arg14 R.harg14 R.arg15 R.harg15 R.arg16 R.harg16

/-- The launch's body at a point is that program. -/
theorem prog_eq (t : Fin (cfgM m).N) : (defs₀ (F := F)) .tc (cfgM m).body ((cfgM m).bodyArgs t ((cfgM m).slots t)) = prog (grid0.coords t) (refs m t) :=
  (congrFun (defs_tc m) _).trans rfl

/-- A window's block at a point, read off its array as the region finds it. -/
def iblk (c : Dev nD) (w : Fin 10) (t : Fin (cfgM m).N) : (((cfgM m).win w).xblock ((cfgM m).grid.coords t)).Idx → Elt F ((cfgM m).win w).elt :=
  (((cfgM m).win w).blk t).view.read (Elt F) (V m c (Pipeline.arrRef spec0 w))

/-- The scratch the body carries from point to point, at any contents. -/
theorem PhiA_eq (c : Dev nD) : (Pipeline.ΦA spec0 c : sProp 𝕄G)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f)) ∗ ∃ r, prngReg c r) := by
  unfold Pipeline.ΦA; rw [scopedRest0_eq]

/-- The proof data of the frame: inputs hold their blocks, outputs are not described, the scratch is at any contents. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
    | ⟨7, _⟩ => fun _ => Classical.arbitrary _
    | ⟨8, _⟩ => fun _ => Classical.arbitrary _
    | ⟨9, _⟩ => fun _ => Classical.arbitrary _
  Φ _ := iprop(Pipeline.ΦA spec0 c ∗ Pipeline.ΦT pre0 (tbl m) c)
  q _ := fullShare
  owed _ := 0

/-- The outputs, which the frame does not describe. -/
def fgt : Fin 10 → Bool := fun
  | ⟨0, _⟩ => false | ⟨1, _⟩ => false | ⟨2, _⟩ => false | ⟨3, _⟩ => false | ⟨4, _⟩ => false | ⟨5, _⟩ => false
  | ⟨6, _⟩ => true | ⟨7, _⟩ => true | ⟨8, _⟩ => true | ⟨9, _⟩ => true

/-- Input 0 holds its block at every point. -/
theorem before_0 (c : Dev nD) (t : Fin (cfgM m).N) (d) : (dats m 0 c).before 0 t d = iblk m c 0 t :=
  ((dats m 0 c).before_in_eq_fetched 0 rfl (fun _ => rfl) (fun _ _ _ => rfl) (fun _ => rfl) t d).trans rfl

/-- Input 1 holds its block at every point. -/
theorem before_1 (c : Dev nD) (t : Fin (cfgM m).N) (d) : (dats m 0 c).before 1 t d = iblk m c 1 t :=
  ((dats m 0 c).before_in_eq_fetched 1 rfl (fun _ => rfl) (fun _ _ _ => rfl) (fun _ => rfl) t d).trans rfl

/-- Input 2 holds its block at every point. -/
theorem before_2 (c : Dev nD) (t : Fin (cfgM m).N) (d) : (dats m 0 c).before 2 t d = iblk m c 2 t :=
  ((dats m 0 c).before_in_eq_fetched 2 rfl (fun _ => rfl) (fun _ _ _ => rfl) (fun _ => rfl) t d).trans rfl

/-- Input 3 holds its block at every point. -/
theorem before_3 (c : Dev nD) (t : Fin (cfgM m).N) (d) : (dats m 0 c).before 3 t d = iblk m c 3 t :=
  ((dats m 0 c).before_in_eq_fetched 3 rfl (fun _ => rfl) (fun _ _ _ => rfl) (fun _ => rfl) t d).trans rfl

/-- Input 4 holds its block at every point. -/
theorem before_4 (c : Dev nD) (t : Fin (cfgM m).N) (d) : (dats m 0 c).before 4 t d = iblk m c 4 t :=
  ((dats m 0 c).before_in_eq_fetched 4 rfl (fun _ => rfl) (fun _ _ _ => rfl) (fun _ => rfl) t d).trans rfl

/-- Input 5 holds its block at every point. -/
theorem before_5 (c : Dev nD) (t : Fin (cfgM m).N) (d) : (dats m 0 c).before 5 t d = iblk m c 5 t :=
  ((dats m 0 c).before_in_eq_fetched 5 rfl (fun _ => rfl) (fun _ _ _ => rfl) (fun _ => rfl) t d).trans rfl

set_option maxHeartbeats 1000000 in
/-- At every point the body runs, from any contents of the outputs and of the scratch. -/
theorem body_obligation (c : Dev nD) : BodyObligation (dats (F := F) m 0 c) (defs₀ (F := F)) Variants.none () Set.univ fgt := fun t => by
  rw [bigSep_W0, bigSep_W0]
  dsimp only [fgt]
  rw [show (dats m 0 c).Φ t.castSucc = iprop(Pipeline.ΦA spec0 c ∗ Pipeline.ΦT pre0 (tbl m) c) from rfl, show (dats m 0 c).Φ t.succ = iprop(Pipeline.ΦA spec0 c ∗ Pipeline.ΦT pre0 (tbl m) c) from rfl]
  rw [PhiA_eq, PhiT_eq]
  simp only [← own_whole]
  iintro ⟨⟨⟨⟨⟨%f0, S0⟩, ⟨%f1, S1⟩, ⟨%f2, S2⟩, ⟨%f3, S3⟩⟩, HP⟩, HT⟩, HO, ⟨%d0, W0⟩, ⟨%d1, W1⟩, ⟨%d2, W2⟩, ⟨%d3, W3⟩, ⟨%d4, W4⟩, ⟨%d5, W5⟩, ⟨%X6, W6⟩, ⟨%X7, W7⟩, ⟨%X8, W8⟩, ⟨%X9, W9⟩⟩
  sl_rw [prog_eq m t]
  have hin := sBody_inputs (grid0.coords t) (word (grid0.coords t) (tbl m 0))
    (⟨iblk m c 0 t, iblk m c 1 t, iblk m c 2 t, iblk m c 3 t, iblk m c 4 t, iblk m c 5 t, X6, X7, X8, X9, f0, f1, f2, f3⟩ : St F)
  ihave Hk := ((run_body (F := F) Variants.none c none Set.univ fullShare.right (refs m t) (tbl m 0) (grid0.coords t)
    ⟨iblk m c 0 t, iblk m c 1 t, iblk m c 2 t, iblk m c 3 t, iblk m c 4 t, iblk m c 5 t, X6, X7, X8, X9, f0, f1, f2, f3⟩).trans (wp_wand _ _ _)) $$ [HT W0 W1 W2 W3 W4 W5 W6 W7 W8 W9 S0 S1 S2 S3]
  · unfold Own
    isplitl [HT]; · iexact HT
    isplitl [W0]; · iapply (eq_entails (congrArg (owns (c : Thread nD τ) (refs m t).arg3 fullShare) (before_0 m c t d0))); iexact W0
    isplitl [W1]; · iapply (eq_entails (congrArg (owns (c : Thread nD τ) (refs m t).arg4 fullShare) (before_1 m c t d1))); iexact W1
    isplitl [W2]; · iapply (eq_entails (congrArg (owns (c : Thread nD τ) (refs m t).arg5 fullShare) (before_2 m c t d2))); iexact W2
    isplitl [W3]; · iapply (eq_entails (congrArg (owns (c : Thread nD τ) (refs m t).arg6 fullShare) (before_3 m c t d3))); iexact W3
    isplitl [W4]; · iapply (eq_entails (congrArg (owns (c : Thread nD τ) (refs m t).arg7 fullShare) (before_4 m c t d4))); iexact W4
    isplitl [W5]; · iapply (eq_entails (congrArg (owns (c : Thread nD τ) (refs m t).arg8 fullShare) (before_5 m c t d5))); iexact W5
    isplitl [W6]; · iexact W6
    isplitl [W7]; · iexact W7
    isplitl [W8]; · iexact W8
    isplitl [W9]; · iexact W9
    isplitl [S0]; · iexact S0
    isplitl [S1]; · iexact S1
    isplitl [S2]; · iexact S2
    iexact S3
  iapply Hk
  iintro %_ HOwn
  unfold Own
  rw [hin.1, hin.2.1, hin.2.2.1, hin.2.2.2.1, hin.2.2.2.2.1, hin.2.2.2.2.2]
  icases HOwn with ⟨HT, W0, W1, W2, W3, W4, W5, W6, W7, W8, W9, S0, S1, S2, S3⟩
  isplitl [HT S0 S1 S2 S3 HP]
  · isplitr [HT]
    · isplitr [HP]
      · isplitl [S0]; · iexists _; iexact S0
        isplitl [S1]; · iexists _; iexact S1
        isplitl [S2]; · iexists _; iexact S2
        iexists _; iexact S3
      · iexact HP
    · iexact HT
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexists _; iexact W6
  isplitl [W7]; · iexists _; iexact W7
  isplitl [W8]; · iexists _; iexact W8
  iexists _; iexact W9

set_option maxHeartbeats 1000000 in
/-- From any memory with zero counters the kernel runs to completion, its arguments as they were and every counter at zero. -/
theorem run_frame (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  Pipeline.θ_run_frameP_around_T_track_forget pcfgs (fun _ => adm m) (dats m) (0 : Fin 1) launch0 defs₀ Variants.none fgt T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := fun _ _ => rfl) (hpf := V_pre m)
    (hin := fun _ => .rfl) (hout := fun c => by
      show iprop(Pipeline.ΦA spec0 c ∗ Pipeline.ΦT pre0 (tbl m) c) ⊢ _
      iintro ⟨H, -⟩; iexact H)
    (Q' := (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0))
    (hQ' := fun r h => ⟨fun c => ⟨((h.1 c).2 main_arg0 (by decide : main_arg0 ∈ Pipeline.restRefs sig spec0 \ T0)).trans (V_arg0 m c),
      ((h.1 c).2 main_arg1 (by decide : main_arg1 ∈ Pipeline.restRefs sig spec0 \ T0)).trans (V_arg1 m c),
      (Pipeline.RDat.FramePostR.arr_in h.1 c 1 rfl).trans (V_arg2 m c),
      (Pipeline.RDat.FramePostR.arr_in h.1 c 2 rfl).trans (V_arg3 m c),
      ((h.1 c).2 main_arg4 (by decide : main_arg4 ∈ Pipeline.restRefs sig spec0 \ T0)).trans (V_arg4 m c),
      (Pipeline.RDat.FramePostR.arr_in h.1 c 4 rfl).trans (V_arg5 m c),
      (Pipeline.RDat.FramePostR.arr_in h.1 c 5 rfl).trans (V_arg6 m c)⟩, h.2⟩)

end Cert.Kernel.Hand

end
-- ==== Proof.BodyI.lean ====
/- What one call of the kernel's body does: from every memref at known contents, the contents it leaves, as a pure function
   of them, one conditional of the body at a time. -/
module

public import proofs.«01_k».proof.Proof.Gen.KernelIdeal.Loops
public import proofs.«01_k».proof.Proof.Steps

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Steps

variable {F : FTy → Type} [FloatOps F]

local notation "𝕄G" => MT nD τ sig Unit (Elt F) ℕ (UR sig nD τ) ℕ

/-- The memrefs the body is called with. -/
structure Refs where
  arg2 : Memref sig .tc .smem S16 .i32
  harg2 : arg2.IsWhole
  arg3 : Memref sig .tc .vmem S512x2560 .bf16
  harg3 : arg3.IsWhole
  arg4 : Memref sig .tc .vmem S2560x1024 .bf16
  harg4 : arg4.IsWhole
  arg5 : Memref sig .tc .vmem S1280x1024 .i8
  harg5 : arg5.IsWhole
  arg6 : Memref sig .tc .vmem S20x1x1024 .bf16
  harg6 : arg6.IsWhole
  arg7 : Memref sig .tc .vmem S2560x48 .bf16
  harg7 : arg7.IsWhole
  arg8 : Memref sig .tc .vmem S48x1024 .bf16
  harg8 : arg8.IsWhole
  arg9 : Memref sig .tc .vmem S1x1x512 .f32
  harg9 : arg9.IsWhole
  arg10 : Memref sig .tc .vmem S512x48 .f32
  harg10 : arg10.IsWhole
  arg11 : Memref sig .tc .vmem S2560x48 .f32
  harg11 : arg11.IsWhole
  arg12 : Memref sig .tc .vmem S48x1024 .f32
  harg12 : arg12.IsWhole
  arg13 : Memref sig .tc .vmem S2560x1024 .bf16
  harg13 : arg13.IsWhole
  arg14 : Memref sig .tc .vmem S16384x48 .bf16
  harg14 : arg14.IsWhole
  arg15 : Memref sig .tc .vmem S16384x48 .f32
  harg15 : arg15.IsWhole
  arg16 : Memref sig .tc .vmem S16384x128 .f32
  harg16 : arg16.IsWhole

/-- The contents of the memrefs, the table apart. -/
structure St (F : FTy → Type) where
  x : S512x2560.Idx → Elt F .bf16
  w : S2560x1024.Idx → Elt F .bf16
  cd : S1280x1024.Idx → Elt F .i8
  sc : S20x1x1024.Idx → Elt F .bf16
  a : S2560x48.Idx → Elt F .bf16
  b : S48x1024.Idx → Elt F .bf16
  loss : S1x1x512.Idx → Elt F .f32
  g : S512x48.Idx → Elt F .f32
  da : S2560x48.Idx → Elt F .f32
  db : S48x1024.Idx → Elt F .f32
  e : S2560x1024.Idx → Elt F .bf16
  pb : S16384x48.Idx → Elt F .bf16
  gacc : S16384x48.Idx → Elt F .f32
  lacc : S16384x128.Idx → Elt F .f32

/-- Core `c` owns every memref: the table at `T`, at the share `q`, the others at `st`. -/
def Own (c : Dev nD) (q : PosShare TreeShare) (R : Refs) (T : S16.Idx → Elt F .i32) (st : St F) : sProp 𝕄G :=
  iprop(owns (c : Thread nD τ) R.arg2 q T ∗ owns (c : Thread nD τ) R.arg3 fullShare (st).x ∗ owns (c : Thread nD τ) R.arg4 fullShare (st).w ∗ owns (c : Thread nD τ) R.arg5 fullShare (st).cd ∗ owns (c : Thread nD τ) R.arg6 fullShare (st).sc ∗ owns (c : Thread nD τ) R.arg7 fullShare (st).a ∗ owns (c : Thread nD τ) R.arg8 fullShare (st).b ∗ owns (c : Thread nD τ) R.arg9 fullShare (st).loss ∗ owns (c : Thread nD τ) R.arg10 fullShare (st).g ∗ owns (c : Thread nD τ) R.arg11 fullShare (st).da ∗ owns (c : Thread nD τ) R.arg12 fullShare (st).db ∗ owns (c : Thread nD τ) R.arg13 fullShare (st).e ∗ owns (c : Thread nD τ) R.arg14 fullShare (st).pb ∗ owns (c : Thread nD τ) R.arg15 fullShare (st).gacc ∗ owns (c : Thread nD τ) R.arg16 fullShare (st).lacc)

/-- The row count the table gives the point's slot. -/
def word (i : grid0.Coords) (T : S16.Idx → Elt F .i32) : BitVec 32 :=
  VecWindow.window T (k0_off1 i) S1.size (k0_off1_inb i) (Shape.Idx.first (numel1_S1.symm ▸ Nat.one_pos))

/-- How many rows of the point's tile are below the row count, as the body computes it. -/
def nval (i : grid0.Coords) (v18 : BitVec 32) : BitVec 32 :=
  let arg1 : BitVec 32 := BitVec.ofNat 32 (i 1).val
  let v19 : BitVec 1 := Scalar.cmpi .eq 2#32 0#32
  let v20 : BitVec 32 := Scalar.select v19 1#32 2#32
  let v21 : BitVec 32 := Scalar.remsi arg1 v20
  let v22 : BitVec 1 := Scalar.cmpi .ne v21 0#32
  let v23 : BitVec 1 := Scalar.cmpi .slt v21 0#32
  let v24 : BitVec 1 := Scalar.cmpi .slt v20 0#32
  let v25 : BitVec 1 := Scalar.xori v23 v24
  let v26 : BitVec 1 := Scalar.andi v25 v22
  let v27 : BitVec 32 := Scalar.addi v21 v20
  let v28 : BitVec 32 := Scalar.select v26 v27 v21
  let v29 : BitVec 32 := Scalar.muli v28 512#32
  Scalar.subi v18 v29

/-- The condition of the body's third conditional, of what the body reads it from. -/
def cond3v (arg0 v30 : BitVec 32) : BitVec 1 :=
  let v42 : BitVec 1 := Scalar.cmpi .eq arg0 0#32
  let v43 : BitVec 1 := Scalar.cmpi .sgt v30 0#32
  let v44 : BitVec 1 := Scalar.andi v42 v43
  let v45 : BitVec 32 := Scalar.extui v44
  Scalar.cmpi .ne v45 0#32

/-- The condition of the body's third conditional: the first column tile, at a tile with rows. -/
def cond3 (i : grid0.Coords) (v18 : BitVec 32) : BitVec 1 := cond3v (BitVec.ofNat 32 (i 0).val) (nval i v18)

/-- What is left of the errors of a tile's rows after the low-rank part, rows past the row count zeroed. -/
def resid (i : grid0.Coords) (v18 : BitVec 32) (st : St F) : FVec F S512x1024 .f32 :=
  k0_pay16 (nval i v18) (VecWindow.window st.pb (k0_off9 i) S512x48.size (k0_off9_inb i)) st.b st.x st.e

/-- One trip of the dequantising loop: the two row blocks it writes of the error tile. -/
def etrip (k : Fin k0_t1_loop.trips) (i : grid0.Coords) (h1 : k0_cond1 i = 1#1) (st : St F) (e : S2560x1024.Idx → Elt F .bf16) : S2560x1024.Idx → Elt F .bf16 :=
  VecWindow.put
    (VecWindow.put e (k0_off3 k) S128x1024.size
      (k0_pay14 (VecWindow.window st.cd (k0_off2 k) S128x1024.size (k0_off2_inb i k h1)) (VecWindow.window st.w (k0_off3 k) S128x1024.size (k0_off3_inb i k h1))
        (VecWindow.window st.sc (k0_off4 k) S1x1x1024.size (k0_off4_inb i k h1))))
    (k0_off5 k) S128x1024.size
    (k0_pay18 (VecWindow.window st.w (k0_off5 k) S128x1024.size (k0_off5_inb i k h1)) (k0_pay15 (VecWindow.window st.cd (k0_off2 k) S128x1024.size (k0_off2_inb i k h1)))
      (VecWindow.window st.sc (k0_off6 k) S1x1x1024.size (k0_off6_inb i k h1)))

/-- The error tile after the first `n` trips. -/
def eloop (i : grid0.Coords) (h1 : k0_cond1 i = 1#1) (st : St F) : ℕ → S2560x1024.Idx → Elt F .bf16
  | 0 => st.e
  | n + 1 => if h : n < k0_t1_loop.trips then etrip ⟨n, h⟩ i h1 st (eloop i h1 st n) else eloop i h1 st n

/-- The body's first conditional: the first tile of a column dequantises it and zeroes `d_b`. -/
def s1 (i : grid0.Coords) (st : St F) : St F :=
  if h1 : k0_cond1 i = 1#1 then { st with e := eloop i h1 st k0_t1_loop.trips, db := k0_pay19 } else st

/-- The body's conditional 2: the first point zeroes `d_a`. -/
def s2 (i : grid0.Coords) (st : St F) : St F :=
  if k0_cond2 i = 1#1 then { st with da := k0_pay1 } else st

/-- The body's conditional 3: a tile with rows, at the first column tile, computes its projection and zeroes its accumulators. -/
def s3 (i : grid0.Coords) (v18 : BitVec 32) (st : St F) : St F :=
  if cond3 i v18 = 1#1 then { st with pb := VecWindow.put st.pb (k0_off7 i) S512x48.size (k0_pay2 st.x st.a), gacc := VecWindow.put st.gacc (k0_off7 i) S512x48.size (k0_pay3 (F := F)), lacc := VecWindow.put st.lacc (k0_off8 i) S512x128.size (k0_pay4 (F := F)) } else st

/-- The body's conditional 4: a tile with rows accumulates its part of the loss, of `g` and of `d_b`. -/
def s4 (i : grid0.Coords) (v18 : BitVec 32) (st : St F) : St F :=
  if k0_cond4 i v18 = 1#1 then { st with lacc := VecWindow.put st.lacc (k0_off10 i) S512x128.size (k0_pay5 (k0_pay17 (nval i v18) (VecWindow.window st.pb (k0_off9 i) S512x48.size (k0_off9_inb i)) st.b st.x st.e (VecWindow.window st.lacc (k0_off10 i) S512x128.size (k0_off10_inb i)))), gacc := VecWindow.put st.gacc (k0_off9 i) S512x48.size (k0_pay7 st.b (resid i v18 st) (VecWindow.window st.gacc (k0_off9 i) S512x48.size (k0_off9_inb i))), db := k0_pay8 (VecWindow.window st.pb (k0_off9 i) S512x48.size (k0_off9_inb i)) (resid i v18 st) st.db } else st

/-- The body's conditional 5: at the last column tile a tile with rows writes its loss and `g` and accumulates `d_a`. -/
def s5 (i : grid0.Coords) (v18 : BitVec 32) (st : St F) : St F :=
  if k0_cond5 i v18 = 1#1 then { st with g := (VecWindow.window st.gacc (k0_off11 i) S512x48.size (k0_off11_inb i)), da := k0_pay9 (VecWindow.window st.gacc (k0_off11 i) S512x48.size (k0_off11_inb i)) st.da st.x, loss := k0_pay10 (VecWindow.window st.lacc (k0_off12 i) S512x128.size (k0_off12_inb i)) } else st

/-- The body's conditional 6: at the last column tile a tile without rows writes zeros. -/
def s6 (i : grid0.Coords) (v18 : BitVec 32) (st : St F) : St F :=
  if k0_cond6 i v18 = 1#1 then { st with g := k0_pay11, loss := k0_pay12 } else st

/-- The whole body. -/
def sBody (i : grid0.Coords) (v18 : BitVec 32) (st : St F) : St F :=
  s6 i v18 (s5 i v18 (s4 i v18 (s3 i v18 (s2 i (s1 i st)))))

/-- Conditional 2 of the body, before what follows it. -/
def p2 (i : grid0.Coords) (R : Refs) (K : PUnit.{1} → Prog (TpuEff nD τ sig (Elt F) Λ₀ .tc) PUnit) : Prog (TpuEff nD τ sig (Elt F) Λ₀ .tc) PUnit :=
  if k0_h2 : k0_cond2 i = 1#1 then do
    let v59 : Vec F S2560x48 .f32 ← Prog.lift (.load R.arg11 (Rect.unit (s := S2560x48) ![0, 0] S2560x48.size inb_S2560x48_S2560x48_0_0).toLoadRect (View.loadsAt_vmem h_S2560x48))
    Prog.lift (.store R.arg11 (Rect.unit (s := S2560x48) ![0, 0] S2560x48.size inb_S2560x48_S2560x48_0_0) (k0_pay1 (F := F)) Finset.univ (View.stores_vmem_bits_univ h_S2560x48 rfl) (.inl rfl))
    K ⟨⟩
  else K ⟨⟩

/-- Conditional 3 of the body, before what follows it. -/
def p3 (i : grid0.Coords) (R : Refs) (arg0 v30 : BitVec 32) (K : PUnit.{1} → Prog (TpuEff nD τ sig (Elt F) Λ₀ .tc) PUnit) : Prog (TpuEff nD τ sig (Elt F) Λ₀ .tc) PUnit :=
  if cond3v arg0 v30 = 1#1 then do
    let v58 : Vec F S512x2560 .bf16 ← Prog.lift (.load R.arg3 (Rect.unit (s := S512x2560) ![0, 0] S512x2560.size inb_S512x2560_S512x2560_0_0).toLoadRect (View.loadsAt_vmem h_S512x2560))
    let v60 : Vec F S2560x48 .bf16 ← Prog.lift (.load R.arg7 (Rect.unit (s := S2560x48) ![0, 0] S2560x48.size inb_S2560x48_S2560x48_0_0).toLoadRect (View.loadsAt_vmem h_S2560x48))
    let v64 : Vec F S512x48 .bf16 ← Prog.lift (.load R.arg14 (Rect.unit (s := S16384x48) (k0_off7 i) S512x48.size (k0_off7_inb i)).toLoadRect (View.loadsAt_vmem h_S512x48))
    Prog.lift (.store R.arg14 (Rect.unit (s := S16384x48) (k0_off7 i) S512x48.size (k0_off7_inb i)) (k0_pay2 v58 v60) Finset.univ (View.stores_vmem h_S512x48 (R.harg14.storeExact_slice rfl _ (k0_off7_packedbf16 i)) (fun _ => rfl)) (.inl rfl))
    let v69 : Vec F S512x48 .f32 ← Prog.lift (.load R.arg15 (Rect.unit (s := S16384x48) (k0_off7 i) S512x48.size (k0_off7_inb i)).toLoadRect (View.loadsAt_vmem h_S512x48))
    Prog.lift (.store R.arg15 (Rect.unit (s := S16384x48) (k0_off7 i) S512x48.size (k0_off7_inb i)) (k0_pay3 (F := F)) Finset.univ (View.stores_vmem_bits_univ h_S512x48 rfl) (.inl rfl))
    let v74 : Vec F S512x128 .f32 ← Prog.lift (.load R.arg16 (Rect.unit (s := S16384x128) (k0_off8 i) S512x128.size (k0_off8_inb i)).toLoadRect (View.loadsAt_vmem h_S512x128))
    Prog.lift (.store R.arg16 (Rect.unit (s := S16384x128) (k0_off8 i) S512x128.size (k0_off8_inb i)) (k0_pay4 (F := F)) Finset.univ (View.stores_vmem_bits_univ h_S512x128 rfl) (.inl rfl))
    K ⟨⟩
  else K ⟨⟩

/-- Conditional 4 of the body, before what follows it. -/
def p4 (i : grid0.Coords) (R : Refs) (v18 v30 v33 : BitVec 32) (K : PUnit.{1} → Prog (TpuEff nD τ sig (Elt F) Λ₀ .tc) PUnit) : Prog (TpuEff nD τ sig (Elt F) Λ₀ .tc) PUnit :=
  if k0_h4 : k0_cond4 i v18 = 1#1 then do
    let ⟨v59, v60, v73, v101⟩ : Σ' (v59 : Vec F S512x48 .bf16) (v60 : Vec F S48x1024 .bf16) (v73 : FVec F S512x1024 .f32), FVec F S512x128 .f32 ← k0_part2 i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 v30 v33
    Prog.lift (.store R.arg16 (Rect.unit (s := S16384x128) (k0_off10 i) S512x128.size (k0_off10_inb i)) (k0_pay5 v101) Finset.univ (View.stores_vmem_bits_univ h_S512x128 rfl) (.inl rfl))
    let v108 : Vec F S512x48 .f32 ← Prog.lift (.load R.arg15 (Rect.unit (s := S16384x48) (k0_off9 i) S512x48.size (k0_off9_inb i)).toLoadRect (View.loadsAt_vmem h_S512x48))
    let v112 : Vec F S512x48 .f32 ← Prog.lift (.load R.arg15 (Rect.unit (s := S16384x48) (k0_off9 i) S512x48.size (k0_off9_inb i)).toLoadRect (View.loadsAt_vmem h_S512x48))
    Prog.lift (.store R.arg15 (Rect.unit (s := S16384x48) (k0_off9 i) S512x48.size (k0_off9_inb i)) (k0_pay7 v60 v73 v108) Finset.univ (View.stores_vmem_bits_univ h_S512x48 rfl) (.inl rfl))
    let v115 : Vec F S48x1024 .f32 ← Prog.lift (.load R.arg12 (Rect.unit (s := S48x1024) ![0, 0] S48x1024.size inb_S48x1024_S48x1024_0_0).toLoadRect (View.loadsAt_vmem h_S48x1024))
    let v121 : Vec F S48x1024 .f32 ← Prog.lift (.load R.arg12 (Rect.unit (s := S48x1024) ![0, 0] S48x1024.size inb_S48x1024_S48x1024_0_0).toLoadRect (View.loadsAt_vmem h_S48x1024))
    Prog.lift (.store R.arg12 (Rect.unit (s := S48x1024) ![0, 0] S48x1024.size inb_S48x1024_S48x1024_0_0) (k0_pay8 v59 v73 v115) Finset.univ (View.stores_vmem_bits_univ h_S48x1024 rfl) (.inl rfl))
    K ⟨⟩
  else K ⟨⟩

/-- Conditional 5 of the body, before what follows it. -/
def p5 (i : grid0.Coords) (R : Refs) (v18 : BitVec 32) (K : PUnit.{1} → Prog (TpuEff nD τ sig (Elt F) Λ₀ .tc) PUnit) : Prog (TpuEff nD τ sig (Elt F) Λ₀ .tc) PUnit :=
  if k0_h5 : k0_cond5 i v18 = 1#1 then do
    let v59 : Vec F S512x48 .f32 ← Prog.lift (.load R.arg15 (Rect.unit (s := S16384x48) (k0_off11 i) S512x48.size (k0_off11_inb i)).toLoadRect (View.loadsAt_vmem h_S512x48))
    let v60 : Vec F S512x48 .f32 ← Prog.lift (.load R.arg10 (Rect.unit (s := S512x48) ![0, 0] S512x48.size inb_S512x48_S512x48_0_0).toLoadRect (View.loadsAt_vmem h_S512x48))
    Prog.lift (.store R.arg10 (Rect.unit (s := S512x48) ![0, 0] S512x48.size inb_S512x48_S512x48_0_0) v59 Finset.univ (View.stores_vmem_bits_univ h_S512x48 rfl) (.inl rfl))
    let v61 : Vec F S2560x48 .f32 ← Prog.lift (.load R.arg11 (Rect.unit (s := S2560x48) ![0, 0] S2560x48.size inb_S2560x48_S2560x48_0_0).toLoadRect (View.loadsAt_vmem h_S2560x48))
    let v63 : Vec F S512x2560 .bf16 ← Prog.lift (.load R.arg3 (Rect.unit (s := S512x2560) ![0, 0] S512x2560.size inb_S512x2560_S512x2560_0_0).toLoadRect (View.loadsAt_vmem h_S512x2560))
    let v70 : Vec F S2560x48 .f32 ← Prog.lift (.load R.arg11 (Rect.unit (s := S2560x48) ![0, 0] S2560x48.size inb_S2560x48_S2560x48_0_0).toLoadRect (View.loadsAt_vmem h_S2560x48))
    Prog.lift (.store R.arg11 (Rect.unit (s := S2560x48) ![0, 0] S2560x48.size inb_S2560x48_S2560x48_0_0) (k0_pay9 v59 v61 v63) Finset.univ (View.stores_vmem_bits_univ h_S2560x48 rfl) (.inl rfl))
    let v72 : Vec F S512x128 .f32 ← Prog.lift (.load R.arg16 (Rect.unit (s := S16384x128) (k0_off12 i) S512x128.size (k0_off12_inb i)).toLoadRect (View.loadsAt_vmem h_S512x128))
    let v76 : Vec F S1x1x512 .f32 ← Prog.lift (.load R.arg9 (Rect.unit (s := S1x1x512) ![0, 0, 0] S1x1x512.size inb_S1x1x512_S1x1x512_0_0_0).toLoadRect (View.loadsAt_vmem h_S1x1x512))
    Prog.lift (.store R.arg9 (Rect.unit (s := S1x1x512) ![0, 0, 0] S1x1x512.size inb_S1x1x512_S1x1x512_0_0_0) (k0_pay10 v72) Finset.univ (View.stores_vmem_bits_univ h_S1x1x512 rfl) (.inl rfl))
    K ⟨⟩
  else K ⟨⟩

/-- Conditional 6 of the body, before what follows it. -/
def p6 (i : grid0.Coords) (R : Refs) (v18 : BitVec 32) (K : PUnit.{1} → Prog (TpuEff nD τ sig (Elt F) Λ₀ .tc) PUnit) : Prog (TpuEff nD τ sig (Elt F) Λ₀ .tc) PUnit :=
  if k0_h6 : k0_cond6 i v18 = 1#1 then do
    let v59 : Vec F S512x48 .f32 ← Prog.lift (.load R.arg10 (Rect.unit (s := S512x48) ![0, 0] S512x48.size inb_S512x48_S512x48_0_0).toLoadRect (View.loadsAt_vmem h_S512x48))
    Prog.lift (.store R.arg10 (Rect.unit (s := S512x48) ![0, 0] S512x48.size inb_S512x48_S512x48_0_0) (k0_pay11 (F := F)) Finset.univ (View.stores_vmem_bits_univ h_S512x48 rfl) (.inl rfl))
    let v61 : Vec F S1x1x512 .f32 ← Prog.lift (.load R.arg9 (Rect.unit (s := S1x1x512) ![0, 0, 0] S1x1x512.size inb_S1x1x512_S1x1x512_0_0_0).toLoadRect (View.loadsAt_vmem h_S1x1x512))
    Prog.lift (.store R.arg9 (Rect.unit (s := S1x1x512) ![0, 0, 0] S1x1x512.size inb_S1x1x512_S1x1x512_0_0_0) (k0_pay12 (F := F)) Finset.univ (View.stores_vmem_bits_univ h_S1x1x512 rfl) (.inl rfl))
    K ⟨⟩
  else K ⟨⟩

/-- The body is its conditionals one after the other. -/
theorem body_eq (i : grid0.Coords) (R : Refs) :
    cc0_lowrank_fit (F := F) i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16
      = (k0_part3_skel (F := F) i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 >>= fun r => match r with
          | ⟨arg0, v18, v30, v31, v33, v37⟩ =>
            p2 i R fun _ => p3 i R arg0 v30 fun _ => p4 i R v18 v30 v33 fun _ => p5 i R v18 fun _ => p6 i R v18 fun _ => pure ⟨⟩) := rfl

variable (𝒱 : Variants) (c : Dev nD) (bd : Option 𝒱.V) (E : Set ℕ) (q : PosShare TreeShare) (R : Refs) (T : S16.Idx → Elt F .i32)

/-- One trip of the loop does `etrip` to the error tile. -/
theorem trip (i : grid0.Coords) (h1 : k0_cond1 i = 1#1) (k : Fin k0_t1_loop.trips) (st : St F) (e : S2560x1024.Idx → Elt F .bf16) :
    Own c q R T { st with e := e }
      ⊢ wp frame (wpE (defs₀ (F := F)) 𝒱 (c : Thread nD τ) bd) E (k0_t1_body (F := F) i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 h1 k PUnit.unit)
          (fun _ => Own c q R T { st with e := etrip k i h1 st e }) := by
  unfold k0_t1_body Own
  rw [k0_part1_eq_skeleton]
  unfold k0_part1_skel
  iintro ⟨H2, H3, H4, H5, H6, H7, H8, H9, H10, H11, H12, H13, H14, H15, H16⟩
  rw [wp_bind]
  iapply (own_load 𝒱 (c : Thread nD τ) bd E fullShare st.cd rfl (k0_off2_inb i k h1)) $$ H5
  iintro H5
  iapply (own_load 𝒱 (c : Thread nD τ) bd E fullShare st.w rfl (k0_off3_inb i k h1)) $$ H4
  iintro H4
  iapply (own_load 𝒱 (c : Thread nD τ) bd E fullShare st.sc rfl (k0_off4_inb i k h1)) $$ H6
  iintro H6
  iapply (own_load 𝒱 (c : Thread nD τ) bd E fullShare e rfl (k0_off3_inb i k h1)) $$ H13
  iintro H13
  iapply (own_store 𝒱 (c : Thread nD τ) bd E e rfl) $$ H13
  iintro H13
  iapply (own_load 𝒱 (c : Thread nD τ) bd E fullShare st.w rfl (k0_off5_inb i k h1)) $$ H4
  iintro H4
  iapply (le_wp_ret frame (wpE (defs₀ (F := F)) 𝒱 (c : Thread nD τ) bd) E)
  dsimp only
  iapply (own_load 𝒱 (c : Thread nD τ) bd E fullShare st.sc rfl (k0_off6_inb i k h1)) $$ H6
  iintro H6
  iapply (own_load 𝒱 (c : Thread nD τ) bd E fullShare _ rfl (k0_off5_inb i k h1)) $$ H13
  iintro H13
  iapply (own_store 𝒱 (c : Thread nD τ) bd E _ rfl) $$ H13
  iintro H13
  iapply (le_wp_ret frame (wpE (defs₀ (F := F)) 𝒱 (c : Thread nD τ) bd) E)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The loop dequantises the column tile. -/
theorem run_loop (i : grid0.Coords) (h1 : k0_cond1 i = 1#1) (st : St F) {β : Type} {kk : Unit → Prog (TpuEff nD τ sig (Elt F) Λ₀ .tc) β} {Q : β → sProp 𝕄G} :
    Own c q R T st ⊢ iprop((∀ acc, Own c q R T { st with e := eloop i h1 st k0_t1_loop.trips } -∗ wp frame (wpE (defs₀ (F := F)) 𝒱 (c : Thread nD τ) bd) E (kk acc) Q)
      -∗ wp frame (wpE (defs₀ (F := F)) 𝒱 (c : Thread nD τ) bd) E (Scf.Loop.for k0_t1_loop (k0_t1_ok i h1) ⟨⟩ (k0_t1_body (F := F) i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 h1) >>= kk) Q) :=
  exec_loop frame (wpE (defs₀ (F := F)) 𝒱 (c : Thread nD τ) bd) E _ _ _ _ _ _
    ⟨fun n _ => Own c q R T { st with e := eloop i h1 st n }, fun k _ => by
      have ht := trip 𝒱 c bd E q R T i h1 k st (eloop i h1 st k.val)
      have he : eloop i h1 st (k.val + 1) = etrip k i h1 st (eloop i h1 st k.val) := dif_pos k.isLt
      rw [he]
      exact ht⟩

/-- The first part of the body: it reads the row count and, at the first tile of a column, dequantises it. -/
theorem run1 (i : grid0.Coords) (st : St F) {Q : (Σ' (arg0 : BitVec 32) (v18 : Elt F .i32) (v30 : BitVec 32) (v31 : BitVec 1) (v33 : BitVec 32), BitVec 1) → sProp 𝕄G}
    (hK : Own c q R T (s1 i st) ⊢ Q ⟨BitVec.ofNat 32 (i 0).val, word i T, nval i (word i T), Scalar.cmpi .eq (BitVec.ofNat 32 (i 0).val) 9#32, Scalar.muli (BitVec.ofNat 32 (i 1).val) 512#32, Scalar.cmpi .eq (BitVec.ofNat 32 (i 1).val) 0#32⟩) :
    Own c q R T st ⊢ wp frame (wpE (defs₀ (F := F)) 𝒱 (c : Thread nD τ) bd) E (k0_part3_skel (F := F) i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16) Q := by
  unfold k0_part3_skel
  by_cases h : k0_cond1 i = 1#1
  · have hs : s1 i st = { st with e := eloop i h st k0_t1_loop.trips, db := k0_pay19 } := dif_pos h
    rw [hs] at hK
    dsimp only [nval, word] at hK
    unfold Own
    iintro ⟨H2, H3, H4, H5, H6, H7, H8, H9, H10, H11, H12, H13, H14, H15, H16⟩
    iapply (own_smem 𝒱 (c : Thread nD τ) bd E q T rfl (k0_off1_inb i)) $$ H2
    iintro H2
    dsimp only
    rw [dif_pos h]
    iapply (run_loop 𝒱 c bd E q R T i h st) $$ [H2 H3 H4 H5 H6 H7 H8 H9 H10 H11 H12 H13 H14 H15 H16]
    · unfold Own
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    iintro %u HO
    ihave HO := (show Own c q R T { st with e := eloop i h st k0_t1_loop.trips } ⊢ iprop(owns (c : Thread nD τ) R.arg2 q T ∗ owns (c : Thread nD τ) R.arg3 fullShare ({ st with e := eloop i h st k0_t1_loop.trips } : St F).x ∗ owns (c : Thread nD τ) R.arg4 fullShare ({ st with e := eloop i h st k0_t1_loop.trips } : St F).w ∗ owns (c : Thread nD τ) R.arg5 fullShare ({ st with e := eloop i h st k0_t1_loop.trips } : St F).cd ∗ owns (c : Thread nD τ) R.arg6 fullShare ({ st with e := eloop i h st k0_t1_loop.trips } : St F).sc ∗ owns (c : Thread nD τ) R.arg7 fullShare ({ st with e := eloop i h st k0_t1_loop.trips } : St F).a ∗ owns (c : Thread nD τ) R.arg8 fullShare ({ st with e := eloop i h st k0_t1_loop.trips } : St F).b ∗ owns (c : Thread nD τ) R.arg9 fullShare ({ st with e := eloop i h st k0_t1_loop.trips } : St F).loss ∗ owns (c : Thread nD τ) R.arg10 fullShare ({ st with e := eloop i h st k0_t1_loop.trips } : St F).g ∗ owns (c : Thread nD τ) R.arg11 fullShare ({ st with e := eloop i h st k0_t1_loop.trips } : St F).da ∗ owns (c : Thread nD τ) R.arg12 fullShare ({ st with e := eloop i h st k0_t1_loop.trips } : St F).db ∗ owns (c : Thread nD τ) R.arg13 fullShare ({ st with e := eloop i h st k0_t1_loop.trips } : St F).e ∗ owns (c : Thread nD τ) R.arg14 fullShare ({ st with e := eloop i h st k0_t1_loop.trips } : St F).pb ∗ owns (c : Thread nD τ) R.arg15 fullShare ({ st with e := eloop i h st k0_t1_loop.trips } : St F).gacc ∗ owns (c : Thread nD τ) R.arg16 fullShare ({ st with e := eloop i h st k0_t1_loop.trips } : St F).lacc) from .rfl) $$ HO
    icases HO with ⟨H2, H3, H4, H5, H6, H7, H8, H9, H10, H11, H12, H13, H14, H15, H16⟩
    iapply (own_load_full 𝒱 (c : Thread nD τ) bd E fullShare st.db) $$ H12
    iintro H12
    iapply (own_store_full 𝒱 (c : Thread nD τ) bd E st.db) $$ H12
    iintro H12
    iapply (le_wp_ret frame (wpE (defs₀ (F := F)) 𝒱 (c : Thread nD τ) bd) E)
    iapply hK
    unfold Own
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · have hs : s1 i st = st := dif_neg h
    rw [hs] at hK
    dsimp only [nval, word] at hK
    unfold Own
    iintro ⟨H2, H3, H4, H5, H6, H7, H8, H9, H10, H11, H12, H13, H14, H15, H16⟩
    iapply (own_smem 𝒱 (c : Thread nD τ) bd E q T rfl (k0_off1_inb i)) $$ H2
    iintro H2
    dsimp only
    rw [dif_neg h]
    iapply (le_wp_ret frame (wpE (defs₀ (F := F)) 𝒱 (c : Thread nD τ) bd) E)
    iapply hK
    unfold Own
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16

/-- Conditional 2 does `s2`. -/
theorem run2 (i : grid0.Coords) (st : St F) {K : PUnit.{1} → Prog (TpuEff nD τ sig (Elt F) Λ₀ .tc) PUnit} {Q : PUnit → sProp 𝕄G}
    (hK : Own c q R T (s2 i st) ⊢ wp frame (wpE (defs₀ (F := F)) 𝒱 (c : Thread nD τ) bd) E (K ⟨⟩) Q) :
    Own c q R T st ⊢ wp frame (wpE (defs₀ (F := F)) 𝒱 (c : Thread nD τ) bd) E (p2 i R K) Q := by
  unfold p2
  by_cases h : k0_cond2 i = 1#1
  · rw [dif_pos (c := k0_cond2 i = 1#1) h]
    have hs : s2 i st = { st with da := k0_pay1 } := if_pos h
    rw [hs] at hK
    unfold Own at hK ⊢
    iintro ⟨H2, H3, H4, H5, H6, H7, H8, H9, H10, H11, H12, H13, H14, H15, H16⟩
    iapply (own_load_full 𝒱 (c : Thread nD τ) bd E fullShare st.da) $$ H11
    iintro H11
    iapply (own_store_full 𝒱 (c : Thread nD τ) bd E st.da) $$ H11
    iintro H11
    iapply hK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [dif_neg (c := k0_cond2 i = 1#1) h]
    have hs : s2 i st = st := if_neg h
    rw [hs] at hK
    exact hK

/-- Conditional 3 does `s3`. -/
theorem run3 (i : grid0.Coords) (v18 : BitVec 32) (st : St F) {K : PUnit.{1} → Prog (TpuEff nD τ sig (Elt F) Λ₀ .tc) PUnit} {Q : PUnit → sProp 𝕄G}
    (hK : Own c q R T (s3 i v18 st) ⊢ wp frame (wpE (defs₀ (F := F)) 𝒱 (c : Thread nD τ) bd) E (K ⟨⟩) Q) :
    Own c q R T st ⊢ wp frame (wpE (defs₀ (F := F)) 𝒱 (c : Thread nD τ) bd) E (p3 i R (BitVec.ofNat 32 (i 0).val) (nval i v18) K) Q := by
  unfold p3
  by_cases h : cond3v (BitVec.ofNat 32 (i 0).val) (nval i v18) = 1#1
  · rw [if_pos (c := cond3v (BitVec.ofNat 32 (i 0).val) (nval i v18) = 1#1) h]
    have hs : s3 i v18 st = { st with pb := VecWindow.put st.pb (k0_off7 i) S512x48.size (k0_pay2 st.x st.a), gacc := VecWindow.put st.gacc (k0_off7 i) S512x48.size (k0_pay3 (F := F)), lacc := VecWindow.put st.lacc (k0_off8 i) S512x128.size (k0_pay4 (F := F)) } := if_pos h
    rw [hs] at hK
    unfold Own at hK ⊢
    iintro ⟨H2, H3, H4, H5, H6, H7, H8, H9, H10, H11, H12, H13, H14, H15, H16⟩
    iapply (own_load_full 𝒱 (c : Thread nD τ) bd E fullShare st.x) $$ H3
    iintro H3
    iapply (own_load_full 𝒱 (c : Thread nD τ) bd E fullShare st.a) $$ H7
    iintro H7
    iapply (own_load 𝒱 (c : Thread nD τ) bd E fullShare st.pb rfl (k0_off7_inb i)) $$ H14
    iintro H14
    iapply (own_store 𝒱 (c : Thread nD τ) bd E st.pb rfl) $$ H14
    iintro H14
    iapply (own_load 𝒱 (c : Thread nD τ) bd E fullShare st.gacc rfl (k0_off7_inb i)) $$ H15
    iintro H15
    iapply (own_store 𝒱 (c : Thread nD τ) bd E st.gacc rfl) $$ H15
    iintro H15
    iapply (own_load 𝒱 (c : Thread nD τ) bd E fullShare st.lacc rfl (k0_off8_inb i)) $$ H16
    iintro H16
    iapply (own_store 𝒱 (c : Thread nD τ) bd E st.lacc rfl) $$ H16
    iintro H16
    iapply hK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [if_neg (c := cond3v (BitVec.ofNat 32 (i 0).val) (nval i v18) = 1#1) h]
    have hs : s3 i v18 st = st := if_neg h
    rw [hs] at hK
    exact hK

/-- Conditional 4 does `s4`. -/
theorem run4 (i : grid0.Coords) (v18 : BitVec 32) (st : St F) {K : PUnit.{1} → Prog (TpuEff nD τ sig (Elt F) Λ₀ .tc) PUnit} {Q : PUnit → sProp 𝕄G}
    (hK : Own c q R T (s4 i v18 st) ⊢ wp frame (wpE (defs₀ (F := F)) 𝒱 (c : Thread nD τ) bd) E (K ⟨⟩) Q) :
    Own c q R T st ⊢ wp frame (wpE (defs₀ (F := F)) 𝒱 (c : Thread nD τ) bd) E (p4 i R v18 (nval i v18) (Scalar.muli (BitVec.ofNat 32 (i 1).val) 512#32) K) Q := by
  unfold p4
  by_cases h : k0_cond4 i v18 = 1#1
  · rw [dif_pos (c := k0_cond4 i v18 = 1#1) h]
    have hs : s4 i v18 st = { st with lacc := VecWindow.put st.lacc (k0_off10 i) S512x128.size (k0_pay5 (k0_pay17 (nval i v18) (VecWindow.window st.pb (k0_off9 i) S512x48.size (k0_off9_inb i)) st.b st.x st.e (VecWindow.window st.lacc (k0_off10 i) S512x128.size (k0_off10_inb i)))), gacc := VecWindow.put st.gacc (k0_off9 i) S512x48.size (k0_pay7 st.b (resid i v18 st) (VecWindow.window st.gacc (k0_off9 i) S512x48.size (k0_off9_inb i))), db := k0_pay8 (VecWindow.window st.pb (k0_off9 i) S512x48.size (k0_off9_inb i)) (resid i v18 st) st.db } := if_pos h
    rw [hs] at hK
    unfold Own at hK ⊢
    iintro ⟨H2, H3, H4, H5, H6, H7, H8, H9, H10, H11, H12, H13, H14, H15, H16⟩
    rw [k0_part2_eq_skeleton]
    unfold k0_part2_skel
    rw [wp_bind]
    iapply (own_load 𝒱 (c : Thread nD τ) bd E fullShare st.pb rfl (k0_off9_inb i)) $$ H14
    iintro H14
    iapply (own_load_full 𝒱 (c : Thread nD τ) bd E fullShare st.b) $$ H8
    iintro H8
    iapply (own_load_full 𝒱 (c : Thread nD τ) bd E fullShare st.x) $$ H3
    iintro H3
    iapply (own_load_full 𝒱 (c : Thread nD τ) bd E fullShare st.e) $$ H13
    iintro H13
    iapply (own_load 𝒱 (c : Thread nD τ) bd E fullShare st.lacc rfl (k0_off10_inb i)) $$ H16
    iintro H16
    iapply (own_load 𝒱 (c : Thread nD τ) bd E fullShare st.lacc rfl (k0_off10_inb i)) $$ H16
    iintro H16
    iapply (le_wp_ret frame (wpE (defs₀ (F := F)) 𝒱 (c : Thread nD τ) bd) E)
    dsimp only
    iapply (own_store 𝒱 (c : Thread nD τ) bd E st.lacc rfl) $$ H16
    iintro H16
    iapply (own_load 𝒱 (c : Thread nD τ) bd E fullShare st.gacc rfl (k0_off9_inb i)) $$ H15
    iintro H15
    iapply (own_load 𝒱 (c : Thread nD τ) bd E fullShare st.gacc rfl (k0_off9_inb i)) $$ H15
    iintro H15
    iapply (own_store 𝒱 (c : Thread nD τ) bd E st.gacc rfl) $$ H15
    iintro H15
    iapply (own_load_full 𝒱 (c : Thread nD τ) bd E fullShare st.db) $$ H12
    iintro H12
    iapply (own_load_full 𝒱 (c : Thread nD τ) bd E fullShare st.db) $$ H12
    iintro H12
    iapply (own_store_full 𝒱 (c : Thread nD τ) bd E st.db) $$ H12
    iintro H12
    iapply hK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [dif_neg (c := k0_cond4 i v18 = 1#1) h]
    have hs : s4 i v18 st = st := if_neg h
    rw [hs] at hK
    exact hK

/-- Conditional 5 does `s5`. -/
theorem run5 (i : grid0.Coords) (v18 : BitVec 32) (st : St F) {K : PUnit.{1} → Prog (TpuEff nD τ sig (Elt F) Λ₀ .tc) PUnit} {Q : PUnit → sProp 𝕄G}
    (hK : Own c q R T (s5 i v18 st) ⊢ wp frame (wpE (defs₀ (F := F)) 𝒱 (c : Thread nD τ) bd) E (K ⟨⟩) Q) :
    Own c q R T st ⊢ wp frame (wpE (defs₀ (F := F)) 𝒱 (c : Thread nD τ) bd) E (p5 i R v18 K) Q := by
  unfold p5
  by_cases h : k0_cond5 i v18 = 1#1
  · rw [dif_pos (c := k0_cond5 i v18 = 1#1) h]
    have hs : s5 i v18 st = { st with g := (VecWindow.window st.gacc (k0_off11 i) S512x48.size (k0_off11_inb i)), da := k0_pay9 (VecWindow.window st.gacc (k0_off11 i) S512x48.size (k0_off11_inb i)) st.da st.x, loss := k0_pay10 (VecWindow.window st.lacc (k0_off12 i) S512x128.size (k0_off12_inb i)) } := if_pos h
    rw [hs] at hK
    unfold Own at hK ⊢
    iintro ⟨H2, H3, H4, H5, H6, H7, H8, H9, H10, H11, H12, H13, H14, H15, H16⟩
    iapply (own_load 𝒱 (c : Thread nD τ) bd E fullShare st.gacc rfl (k0_off11_inb i)) $$ H15
    iintro H15
    iapply (own_load_full 𝒱 (c : Thread nD τ) bd E fullShare st.g) $$ H10
    iintro H10
    iapply (own_store_full 𝒱 (c : Thread nD τ) bd E st.g) $$ H10
    iintro H10
    iapply (own_load_full 𝒱 (c : Thread nD τ) bd E fullShare st.da) $$ H11
    iintro H11
    iapply (own_load_full 𝒱 (c : Thread nD τ) bd E fullShare st.x) $$ H3
    iintro H3
    iapply (own_load_full 𝒱 (c : Thread nD τ) bd E fullShare st.da) $$ H11
    iintro H11
    iapply (own_store_full 𝒱 (c : Thread nD τ) bd E st.da) $$ H11
    iintro H11
    iapply (own_load 𝒱 (c : Thread nD τ) bd E fullShare st.lacc rfl (k0_off12_inb i)) $$ H16
    iintro H16
    iapply (own_load_full 𝒱 (c : Thread nD τ) bd E fullShare st.loss) $$ H9
    iintro H9
    iapply (own_store_full 𝒱 (c : Thread nD τ) bd E st.loss) $$ H9
    iintro H9
    iapply hK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [dif_neg (c := k0_cond5 i v18 = 1#1) h]
    have hs : s5 i v18 st = st := if_neg h
    rw [hs] at hK
    exact hK

/-- Conditional 6 does `s6`. -/
theorem run6 (i : grid0.Coords) (v18 : BitVec 32) (st : St F) {K : PUnit.{1} → Prog (TpuEff nD τ sig (Elt F) Λ₀ .tc) PUnit} {Q : PUnit → sProp 𝕄G}
    (hK : Own c q R T (s6 i v18 st) ⊢ wp frame (wpE (defs₀ (F := F)) 𝒱 (c : Thread nD τ) bd) E (K ⟨⟩) Q) :
    Own c q R T st ⊢ wp frame (wpE (defs₀ (F := F)) 𝒱 (c : Thread nD τ) bd) E (p6 i R v18 K) Q := by
  unfold p6
  by_cases h : k0_cond6 i v18 = 1#1
  · rw [dif_pos (c := k0_cond6 i v18 = 1#1) h]
    have hs : s6 i v18 st = { st with g := k0_pay11, loss := k0_pay12 } := if_pos h
    rw [hs] at hK
    unfold Own at hK ⊢
    iintro ⟨H2, H3, H4, H5, H6, H7, H8, H9, H10, H11, H12, H13, H14, H15, H16⟩
    iapply (own_load_full 𝒱 (c : Thread nD τ) bd E fullShare st.g) $$ H10
    iintro H10
    iapply (own_store_full 𝒱 (c : Thread nD τ) bd E st.g) $$ H10
    iintro H10
    iapply (own_load_full 𝒱 (c : Thread nD τ) bd E fullShare st.loss) $$ H9
    iintro H9
    iapply (own_store_full 𝒱 (c : Thread nD τ) bd E st.loss) $$ H9
    iintro H9
    iapply hK
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  · rw [dif_neg (c := k0_cond6 i v18 = 1#1) h]
    have hs : s6 i v18 st = st := if_neg h
    rw [hs] at hK
    exact hK

/-- One call of the body does `sBody`. -/
theorem run_body (i : grid0.Coords) (st : St F) :
    Own c q R T st ⊢ wp frame (wpE (defs₀ (F := F)) 𝒱 (c : Thread nD τ) bd) E (cc0_lowrank_fit (F := F) i R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16)
      (fun _ => Own c q R T (sBody i (word i T) st)) := by
  rw [body_eq, wp_bind]
  refine run1 𝒱 c bd E q R T i st ?_
  refine run2 𝒱 c bd E q R T i _ ?_
  refine run3 𝒱 c bd E q R T i (word i T) _ ?_
  refine run4 𝒱 c bd E q R T i (word i T) _ ?_
  refine run5 𝒱 c bd E q R T i (word i T) _ ?_
  refine run6 𝒱 c bd E q R T i (word i T) _ ?_
  exact le_wp_ret frame (wpE (defs₀ (F := F)) 𝒱 (c : Thread nD τ) bd) E PUnit.unit (fun _ => Own c q R T (sBody i (word i T) st))

end Cert.KernelIdeal.Hand

end
-- ==== Proof.CondI.lean ====
/- The conditions of the body's conditionals, as plain facts of the grid's point and of the row count. -/
module

public import proofs.«01_k».proof.Proof.BodyI

@[expose] public section

set_option maxRecDepth 16384

noncomputable section

namespace Cert.KernelIdeal.Hand

open Idealize.ShloMosaic Idealize.ShloMosaic.TcCoe
open Cert.KernelIdeal.Gen

variable {F : FTy → Type} [FloatOps F]

/-- The row offset of a tile inside its problem. -/
def rowOff (m : ℕ) : BitVec 32 := BitVec.ofNat 32 (m % 2 * 512)

/-- The row count less the tile's offset. -/
theorem nval_eq (i : grid0.Coords) (v : BitVec 32) : nval i v = v - rowOff (i 1).val := by
  unfold nval rowOff
  dsimp only
  have h : ∀ m : Fin 32, Scalar.muli (Scalar.select (Scalar.andi (Scalar.xori (Scalar.cmpi .slt (Scalar.remsi (BitVec.ofNat 32 m.val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 m.val) (Scalar.select (Scalar.cmpi .eq 2#32 0#32) 1#32 2#32)) 0#32)) (Scalar.addi (Scalar.remsi (BitVec.ofNat 32 m.val) (Scalar.select (Scalar.cmpi .eq 2#32 0#32) 1#32 2#32)) (Scalar.select (Scalar.cmpi .eq 2#32 0#32) 1#32 2#32)) (Scalar.remsi (BitVec.ofNat 32 m.val) (Scalar.select (Scalar.cmpi .eq 2#32 0#32) 1#32 2#32))) 512#32 = BitVec.ofNat 32 (m.val % 2 * 512) := by decide
  rw [h (i 1)]
  rfl

/-- The tile has rows below the row count. -/
def valid (i : grid0.Coords) (v : BitVec 32) : Prop := Scalar.cmpi .sgt (nval i v) 0#32 = 1#1
/-- It can be decided. -/
instance (i : grid0.Coords) (v : BitVec 32) : Decidable (valid i v) := by unfold valid; infer_instance

/-- A tile is valid when the row count less its offset is positive. -/
theorem valid_iff (i : grid0.Coords) (v : BitVec 32) : valid i v ↔ 0 < (v - rowOff (i 1).val).toInt := by
  unfold valid
  rw [nval_eq]
  generalize v - rowOff (i 1).val = x
  simp [Scalar.cmpi, IntOp.cmpi, BitVec.slt]
  rcases h : decide (0 < x.toInt) <;> simp_all

/-- The first conditional: the first tile of a column. -/
theorem cond1_iff (i : grid0.Coords) : k0_cond1 i = 1#1 ↔ (i 1).val = 0 := by
  have h : ∀ m : Fin 32, (Scalar.cmpi .ne (Scalar.extui (Scalar.cmpi .eq (BitVec.ofNat 32 m.val) 0#32) : BitVec 32) 0#32 : BitVec 1) = 1#1 ↔ m.val = 0 := by decide
  exact h (i 1)

/-- The second conditional: the first point. -/
theorem cond2_iff (i : grid0.Coords) : k0_cond2 i = 1#1 ↔ (i 0).val = 0 ∧ (i 1).val = 0 := by
  have h : ∀ (m : Fin 32) (n : Fin 10), (Scalar.cmpi .ne (Scalar.extui (Scalar.andi (Scalar.cmpi .eq (BitVec.ofNat 32 m.val) 0#32) (Scalar.cmpi .eq (BitVec.ofNat 32 n.val) 0#32)) : BitVec 32) 0#32 : BitVec 1) = 1#1 ↔ n.val = 0 ∧ m.val = 0 := by decide
  exact h (i 1) (i 0)

/-- The third conditional: a valid tile of the first column. -/
theorem cond3_iff (i : grid0.Coords) (v : BitVec 32) : cond3 i v = 1#1 ↔ (i 0).val = 0 ∧ valid i v := by
  have h : ∀ (n : Fin 10) (b : BitVec 1), (Scalar.cmpi .ne (Scalar.extui (Scalar.andi (Scalar.cmpi .eq (BitVec.ofNat 32 n.val) 0#32) b) : BitVec 32) 0#32 : BitVec 1) = 1#1 ↔ n.val = 0 ∧ b = 1#1 := by decide
  exact h (i 0) _

/-- The fourth conditional: a valid tile. -/
theorem cond4_iff (i : grid0.Coords) (v : BitVec 32) : k0_cond4 i v = 1#1 ↔ valid i v := by
  have h : ∀ (b : BitVec 1), (Scalar.cmpi .ne (Scalar.extui b : BitVec 32) 0#32 : BitVec 1) = 1#1 ↔ b = 1#1 := by decide
  exact h _

/-- The fifth conditional: a valid tile of the last column. -/
theorem cond5_iff (i : grid0.Coords) (v : BitVec 32) : k0_cond5 i v = 1#1 ↔ (i 0).val = 9 ∧ valid i v := by
  have h : ∀ (n : Fin 10) (b : BitVec 1), (Scalar.cmpi .ne (Scalar.extui (Scalar.andi (Scalar.cmpi .eq (BitVec.ofNat 32 n.val) 9#32) b) : BitVec 32) 0#32 : BitVec 1) = 1#1 ↔ n.val = 9 ∧ b = 1#1 := by decide
  exact h (i 0) _

/-- The sixth conditional: a tile without rows, of the last column. -/
theorem cond6_iff (i : grid0.Coords) (v : BitVec 32) : k0_cond6 i v = 1#1 ↔ (i 0).val = 9 ∧ ¬ valid i v := by
  have h : ∀ (n : Fin 10) (b : BitVec 1), (Scalar.cmpi .ne (Scalar.extui (Scalar.andi (Scalar.cmpi .eq (BitVec.ofNat 32 n.val) 9#32) b) : BitVec 32) 0#32 : BitVec 1) = 1#1 ↔ n.val = 9 ∧ b = 1#1 := by decide
  have h2 : (Scalar.cmpi .sle (nval i v) 0#32 : BitVec 1) = 1#1 ↔ ¬ valid i v := by
    unfold valid
    generalize nval i v = x
    simp [Scalar.cmpi, IntOp.cmpi, BitVec.slt, BitVec.sle]
    by_cases h : 0 < x.toInt
    · simp [h, not_le.mpr h]
    · simp [h, not_lt.mp h]
  rw [← h2]
  exact h (i 0) _

/-- The table word of a point is the one of its problem. -/
theorem off1_eq (i : grid0.Coords) : k0_off1 i 0 = (i 1).val / 2 := by
  have h : ∀ m : Fin 32, (let arg1 := BitVec.ofNat 32 m.val; (Scalar.indexCast (Scalar.select (Scalar.andi (Scalar.cmpi .ne (Scalar.subi (Scalar.extui (Scalar.cmpi .sgt arg1 0#32) : BitVec 32) (Scalar.extui (Scalar.cmpi .slt arg1 0#32))) (Scalar.subi (Scalar.extui (Scalar.cmpi .sgt 2#32 0#32)) (Scalar.extui (Scalar.cmpi .slt 2#32 0#32)))) (Scalar.cmpi .ne (Scalar.remsi arg1 2#32) 0#32)) (Scalar.subi (Scalar.divsi arg1 2#32) 1#32) (Scalar.divsi arg1 2#32)) : Index).toNat) = m.val / 2 := by decide
  exact h (i 1)

/-- The words a tile's problem reads. -/
theorem word_eq (i : grid0.Coords) (T : S16.Idx → Elt F .i32) : word i T = T (fun a => ⟨(i 1).val / 2, by
    have : (i 1).val < 32 := (i 1).isLt
    have e : S16.size a = 16 := by fin_cases a; rfl
    omega⟩) := by
  unfold word VecWindow.window
  congr 1
  funext a
  apply Fin.ext
  fin_cases a
  show k0_off1 i 0 + 1 * ((Shape.Idx.first (s := S1) (numel1_S1.symm ▸ Nat.one_pos)) 0 : Fin 1).val = (i 1).val / 2
  have z : ∀ q : Fin 1, q.val = 0 := fun q => Fin.val_eq_zero q
  refine (congrArg (fun t => k0_off1 i 0 + 1 * t) (z _)).trans ?_
  rw [off1_eq]
  rfl

/-- The table as the schedule reads it is the word. -/
theorem atD_eq (i : grid0.Coords) (pf : pre0.Contents (Elt F)) : pf.atD 0 (k0_off1 i) = word i (pf 0) := by
  have hb : ∀ a, k0_off1 i a + 1 ≤ (pre0.ref 0).ty.shape.size a := fun a => by
    have := k0_off1_inb i a
    fin_cases a
    exact this
  refine (dif_pos hb).trans ?_
  refine Eq.trans ?_ (word_eq i (pf 0)).symm
  refine congrArg (pf 0 : S16.Idx → Elt F .i32) ?_
  funext a
  apply Fin.ext
  fin_cases a
  exact off1_eq i

/-- The block of the windowed `x` at a point: its own tile when the row count is past the tile's offset, else the first tile of its problem. -/
theorem tr0_eq (pf : pre0.Contents (Elt F)) (i : grid0.Coords) :
    cc0_transform_0 k0_off1_inb numel1_S1 pf i 1 = 0 ∧
      cc0_transform_0 k0_off1_inb numel1_S1 pf i 0
        = if Scalar.cmpi .sgt (word i (pf 0)) (rowOff (i 1).val) = 1#1 then (i 1).val else (i 1).val / 2 * 2 := by
  refine ⟨rfl, ?_⟩
  have h : ∀ (m : Fin 32) (b : BitVec 1), (let arg1 := BitVec.ofNat 32 m.val; (Scalar.select b arg1 (Scalar.muli (Scalar.select (Scalar.andi (Scalar.cmpi .ne (Scalar.subi (Scalar.extui (Scalar.cmpi .sgt arg1 0#32) : BitVec 32) (Scalar.extui (Scalar.cmpi .slt arg1 0#32))) (Scalar.subi (Scalar.extui (Scalar.cmpi .sgt 2#32 0#32)) (Scalar.extui (Scalar.cmpi .slt 2#32 0#32)))) (Scalar.cmpi .ne (Scalar.remsi arg1 2#32) 0#32)) (Scalar.subi (Scalar.divsi arg1 2#32) 1#32) (Scalar.divsi arg1 2#32)) 2#32)).toNat) = if b = 1#1 then m.val else m.val / 2 * 2 := by decide
  have h2 : ∀ m : Fin 32, Scalar.muli (Scalar.select (Scalar.andi (Scalar.xori (Scalar.cmpi .slt (Scalar.remsi (BitVec.ofNat 32 m.val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 m.val) (Scalar.select (Scalar.cmpi .eq 2#32 0#32) 1#32 2#32)) 0#32)) (Scalar.addi (Scalar.remsi (BitVec.ofNat 32 m.val) (Scalar.select (Scalar.cmpi .eq 2#32 0#32) 1#32 2#32)) (Scalar.select (Scalar.cmpi .eq 2#32 0#32) 1#32 2#32)) (Scalar.remsi (BitVec.ofNat 32 m.val) (Scalar.select (Scalar.cmpi .eq 2#32 0#32) 1#32 2#32))) 512#32 = rowOff m.val := by unfold rowOff; decide
  rw [← h2 (i 1)]
  exact h (i 1) _

end Cert.KernelIdeal.Hand

end
-- ==== Proof.KitI.lean ====
/- The launch around the kernel's region: what its buffers hold when the region is entered, the host lines before and after
   it, and that every contents of the table of lengths are admissible. -/
module

public import proofs.«01_k».proof.Proof.Gen.KernelIdeal.Launch
public import proofs.«01_k».proof.Proof.CondI
public import Idealize.ShloMosaic.Lib.Pipeline.FrameSuffix

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Steps

variable {F : FTy → Type} [FloatOps F]

local notation "𝕄G" => MT nD τ sig Unit (Elt F) ℕ (UR sig nD τ) ℕ

variable (m : (ℓ : Loc nD τ sig) → Buf (Elt F) ℓ)

/-- What the buffers of core `c` hold when the region is entered, as a valuation. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- The lines before the region allocate nothing. -/
theorem hostOps0_fresh : (hostOps0 : List (HloOp τ sig (Elt F))).Forall fun op => op.fresh = ∅ := ⟨rfl, rfl⟩
/-- The lines after the region allocate nothing. -/
theorem hostOps1_fresh : (hostOps1 : List (HloOp τ sig (Elt F))).Forall fun op => op.fresh = ∅ := ⟨rfl, rfl⟩

/-- The program reduces to its region, continued by the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch no table. -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl
  all_goals intro j; fin_cases j <;> simp only [StableHlo.reshape_bufs, Finset.mem_insert, Finset.mem_singleton, not_or] <;> and_intros <;> exact StableHlo.devRef_ne_of_ne (by decide)

/-- The lines after the region allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The lines after the region write no array of the region. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.reshape_writes, Finset.mem_singleton] <;> exact StableHlo.devRef_ne_of_ne (by decide)

/-- The buffers the later lines write. -/
def T0 : Finset (Ref sig .tc) := {main_v3, main_v4}
/-- Every reference a later line writes is in `T0`. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  simp only [hostOps1, List.mem_cons, List.mem_nil_iff, or_false] at hop
  rcases hop with rfl | rfl
  all_goals
    intro b hb
    simp only [StableHlo.reshape_writes, Finset.mem_singleton] at hb
    have hb := Proc.devRef_injective _ hb
    subst hb
    simp [T0]

/-- The table's contents when the region is entered. -/
def tbl : pre0.Contents (Elt F) := fun j => V m (0 : Dev nD) (pre0.ref j)
/-- Every device's table holds them (there is one device). -/
theorem V_pre (c : Dev nD) (j : Fin 1) : V m c (pre0.ref j) = tbl m j := by
  obtain rfl : c = 0 := Subsingleton.elim _ _; rfl

/-- Every contents of the table are admissible. -/
theorem ok_all (pf : pre0.Contents (Elt F)) : ok0 pf := by
  intro i
  have r_i1 : (i 1).val < 32 := (i 1).isLt
  obtain ⟨h1, h0⟩ := tr0_eq pf i
  refine ⟨fun a => ?_, .inr (Affine.block_words_dvd (of_decide_eq_true rfl) (by decide))⟩
  fin_cases a
  · show (cc0_transform_0 k0_off1_inb numel1_S1 pf i 0 + 1) * 512 ≤ 16384
    rw [h0]; split <;> omega
  · show (cc0_transform_0 k0_off1_inb numel1_S1 pf i 1 + 1) * 2560 ≤ 2560
    rw [h1]

/-- The table's contents as admissible contents. -/
abbrev adm : (pcfg0 (F := F)).Adm := ⟨tbl m, ok_all (tbl m)⟩
/-- The pipeline at them. -/
abbrev cfgM : Pipeline.Cfg sig Λ₀ := cfg0 (adm m)

/-- A memref of a whole buffer, owned, is its buffer at those contents. -/
theorem own_whole (c : Dev nD) (r : Ref sig .tc) (q : PosShare TreeShare) (f : Buf (Elt F) ((c : Thread nD τ).loc r)) :
    (owns (c : Thread nD τ) (Memref.whole r) q f : sProp 𝕄G) = (((c : Thread nD τ).loc r) ↦{q} f) := by
  unfold owns
  rw [show (Memref.whole r).view.set = Finset.univ from View.set_whole r]
  refine Entails.antisymm (show (iprop(∃ g, ⌜(Memref.whole r).view.read (Elt F) g = f⌝ ∗ (Memref.whole r).view.loc (c : Thread nD τ) ↦{q} g) : sProp 𝕄G) ⊢ _ from ?_)
    (show (((c : Thread nD τ).loc r) ↦{q} f : sProp 𝕄G) ⊢ iprop(∃ g, ⌜(Memref.whole r).view.read (Elt F) g = f⌝ ∗ (Memref.whole r).view.loc (c : Thread nD τ) ↦{q} g) from ?_)
  · iintro ⟨%g, %h, H⟩
    subst h
    iexact H
  · iintro H
    iexists f
    isplitr
    · ipureintro; rfl
    · iexact H

/-- The half of the table the region hands the body. -/
theorem PhiT_eq (pf : pre0.Contents (Elt F)) (c : Dev nD) : (Pipeline.ΦT pre0 pf c : sProp 𝕄G)
    = owns (c : Thread nD τ) (Memref.whole main_arg1) fullShare.right (pf 0) := by
  refine Eq.trans ?_ (own_whole c main_arg1 fullShare.right (pf 0)).symm
  unfold Pipeline.ΦT Pipeline.prefHeld
  rw [show (Finset.univ : Finset (Fin 1)) = {(0 : Fin 1)} from by decide, bigSep_singleton]
  rfl

/-- Equal propositions entail each other. -/
theorem eq_entails {M : Type} [URA M] {P Q : sProp M} (h : P = Q) : P ⊢ Q := h ▸ .rfl

/-- The lines before the region leave `main_arg0` as it was. -/
theorem V_arg0 (c : Dev nD) : V m c main_arg0 = m ((c : Thread nD τ).loc main_arg0) :=
  StableHlo.after_of_forall_not_mem (b := Proc.devRef .tc main_arg0) _ _ (by
    intro op hop
    simp only [List.flatten_cons, List.flatten_nil, List.append_nil, hostOps0, List.mem_cons, List.mem_nil_iff, or_false] at hop
    rcases hop with rfl | rfl
    all_goals simp only [StableHlo.reshape_writes, Finset.mem_singleton]; exact StableHlo.devRef_ne_of_ne (by decide))

/-- The lines before the region leave `main_arg1` as it was. -/
theorem V_arg1 (c : Dev nD) : V m c main_arg1 = m ((c : Thread nD τ).loc main_arg1) :=
  StableHlo.after_of_forall_not_mem (b := Proc.devRef .tc main_arg1) _ _ (by
    intro op hop
    simp only [List.flatten_cons, List.flatten_nil, List.append_nil, hostOps0, List.mem_cons, List.mem_nil_iff, or_false] at hop
    rcases hop with rfl | rfl
    all_goals simp only [StableHlo.reshape_writes, Finset.mem_singleton]; exact StableHlo.devRef_ne_of_ne (by decide))

/-- The lines before the region leave `main_arg2` as it was. -/
theorem V_arg2 (c : Dev nD) : V m c main_arg2 = m ((c : Thread nD τ).loc main_arg2) :=
  StableHlo.after_of_forall_not_mem (b := Proc.devRef .tc main_arg2) _ _ (by
    intro op hop
    simp only [List.flatten_cons, List.flatten_nil, List.append_nil, hostOps0, List.mem_cons, List.mem_nil_iff, or_false] at hop
    rcases hop with rfl | rfl
    all_goals simp only [StableHlo.reshape_writes, Finset.mem_singleton]; exact StableHlo.devRef_ne_of_ne (by decide))

/-- The lines before the region leave `main_arg3` as it was. -/
theorem V_arg3 (c : Dev nD) : V m c main_arg3 = m ((c : Thread nD τ).loc main_arg3) :=
  StableHlo.after_of_forall_not_mem (b := Proc.devRef .tc main_arg3) _ _ (by
    intro op hop
    simp only [List.flatten_cons, List.flatten_nil, List.append_nil, hostOps0, List.mem_cons, List.mem_nil_iff, or_false] at hop
    rcases hop with rfl | rfl
    all_goals simp only [StableHlo.reshape_writes, Finset.mem_singleton]; exact StableHlo.devRef_ne_of_ne (by decide))

/-- The lines before the region leave `main_arg4` as it was. -/
theorem V_arg4 (c : Dev nD) : V m c main_arg4 = m ((c : Thread nD τ).loc main_arg4) :=
  StableHlo.after_of_forall_not_mem (b := Proc.devRef .tc main_arg4) _ _ (by
    intro op hop
    simp only [List.flatten_cons, List.flatten_nil, List.append_nil, hostOps0, List.mem_cons, List.mem_nil_iff, or_false] at hop
    rcases hop with rfl | rfl
    all_goals simp only [StableHlo.reshape_writes, Finset.mem_singleton]; exact StableHlo.devRef_ne_of_ne (by decide))

/-- The lines before the region leave `main_arg5` as it was. -/
theorem V_arg5 (c : Dev nD) : V m c main_arg5 = m ((c : Thread nD τ).loc main_arg5) :=
  StableHlo.after_of_forall_not_mem (b := Proc.devRef .tc main_arg5) _ _ (by
    intro op hop
    simp only [List.flatten_cons, List.flatten_nil, List.append_nil, hostOps0, List.mem_cons, List.mem_nil_iff, or_false] at hop
    rcases hop with rfl | rfl
    all_goals simp only [StableHlo.reshape_writes, Finset.mem_singleton]; exact StableHlo.devRef_ne_of_ne (by decide))

/-- The lines before the region leave `main_arg6` as it was. -/
theorem V_arg6 (c : Dev nD) : V m c main_arg6 = m ((c : Thread nD τ).loc main_arg6) :=
  StableHlo.after_of_forall_not_mem (b := Proc.devRef .tc main_arg6) _ _ (by
    intro op hop
    simp only [List.flatten_cons, List.flatten_nil, List.append_nil, hostOps0, List.mem_cons, List.mem_nil_iff, or_false] at hop
    rcases hop with rfl | rfl
    all_goals simp only [StableHlo.reshape_writes, Finset.mem_singleton]; exact StableHlo.devRef_ne_of_ne (by decide))

/-- Two states with the same inputs. -/
def SameIn (st st' : St F) : Prop :=
  st.x = st'.x ∧ st.w = st'.w ∧ st.cd = st'.cd ∧ st.sc = st'.sc ∧ st.a = st'.a ∧ st.b = st'.b

/-- Two states with the inputs of a third have the same inputs. -/
theorem SameIn.trans {s s' s'' : St F} (h : SameIn s s') (h' : SameIn s' s'') : SameIn s s'' :=
  ⟨h.1.trans h'.1, h.2.1.trans h'.2.1, h.2.2.1.trans h'.2.2.1, h.2.2.2.1.trans h'.2.2.2.1, h.2.2.2.2.1.trans h'.2.2.2.2.1, h.2.2.2.2.2.trans h'.2.2.2.2.2⟩

/-- The first step, which writes the error tile and zeroes `d_b`, keeps the inputs. -/
theorem sInp1 (i : grid0.Coords) (st : St F) : SameIn (s1 i st) st := by
  unfold s1; split <;> exact ⟨rfl, rfl, rfl, rfl, rfl, rfl⟩

/-- The second step, which zeroes `d_a`, keeps the inputs. -/
theorem sInp2 (i : grid0.Coords) (st : St F) : SameIn (s2 i st) st := by
  unfold s2; split <;> exact ⟨rfl, rfl, rfl, rfl, rfl, rfl⟩

/-- The third step, which writes the projection and zeroes the accumulators, keeps the inputs. -/
theorem sInp3 (i : grid0.Coords) (v : BitVec 32) (st : St F) : SameIn (s3 i v st) st := by
  unfold s3; split <;> exact ⟨rfl, rfl, rfl, rfl, rfl, rfl⟩

/-- The fourth step, which accumulates, keeps the inputs. -/
theorem sInp4 (i : grid0.Coords) (v : BitVec 32) (st : St F) : SameIn (s4 i v st) st := by
  unfold s4; split <;> exact ⟨rfl, rfl, rfl, rfl, rfl, rfl⟩

/-- The fifth step, which writes the results of a tile with valid rows, keeps the inputs. -/
theorem sInp5 (i : grid0.Coords) (v : BitVec 32) (st : St F) : SameIn (s5 i v st) st := by
  unfold s5; split <;> exact ⟨rfl, rfl, rfl, rfl, rfl, rfl⟩

/-- The sixth step, which writes the results of a tile without valid rows, keeps the inputs. -/
theorem sInp6 (i : grid0.Coords) (v : BitVec 32) (st : St F) : SameIn (s6 i v st) st := by
  unfold s6; split <;> exact ⟨rfl, rfl, rfl, rfl, rfl, rfl⟩

/-- The body leaves its inputs as they were. -/
theorem sBody_inputs (i : grid0.Coords) (v : BitVec 32) (st : St F) : SameIn (sBody i v st) st :=
  (sInp6 i v _).trans ((sInp5 i v _).trans ((sInp4 i v _).trans ((sInp3 i v _).trans ((sInp2 i _).trans (sInp1 i st)))))

end Cert.KernelIdeal.Hand

end
-- ==== Proof.FrameI.lean ====
/- The frame of the kernel: from any memory it runs to completion, leaves its arguments as they were and every counter at
   zero. The outputs are not described here. -/
module

public import proofs.«01_k».proof.Proof.KitI

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal.Gen Cert.Steps

variable {F : FTy → Type} [FloatOps F] [∀ e, Nonempty (Elt F e)]

local notation "𝕄G" => MT nD τ sig Unit (Elt F) ℕ (UR sig nD τ) ℕ

variable (m : (ℓ : Loc nD τ sig) → Buf (Elt F) ℓ)

/-- The memrefs the body is called with at a point. -/
def refs (t : Fin (cfgM m).N) : Refs where
  arg2 := Memref.whole main_arg1
  harg2 := Memref.isWhole_whole _
  arg3 := spec0_0.stage ((cfgM m).slots t 0)
  harg3 := hstage0_0 (((cfgM m).slots t 0).cast nbuf0_0)
  arg4 := spec0_1.stage ((cfgM m).slots t 1)
  harg4 := hstage0_1 (((cfgM m).slots t 1).cast nbuf0_1)
  arg5 := spec0_2.stage ((cfgM m).slots t 2)
  harg5 := hstage0_2 (((cfgM m).slots t 2).cast nbuf0_2)
  arg6 := spec0_3.stage ((cfgM m).slots t 3)
  harg6 := hstage0_3 (((cfgM m).slots t 3).cast nbuf0_3)
  arg7 := spec0_4.stage ((cfgM m).slots t 4)
  harg7 := hstage0_4 (((cfgM m).slots t 4).cast nbuf0_4)
  arg8 := spec0_5.stage ((cfgM m).slots t 5)
  harg8 := hstage0_5 (((cfgM m).slots t 5).cast nbuf0_5)
  arg9 := spec0_6.stage ((cfgM m).slots t 6)
  harg9 := hstage0_6 (((cfgM m).slots t 6).cast nbuf0_6)
  arg10 := spec0_7.stage ((cfgM m).slots t 7)
  harg10 := hstage0_7 (((cfgM m).slots t 7).cast nbuf0_7)
  arg11 := spec0_8.stage ((cfgM m).slots t 8)
  harg11 := hstage0_8 (((cfgM m).slots t 8).cast nbuf0_8)
  arg12 := spec0_9.stage ((cfgM m).slots t 9)
  harg12 := hstage0_9 (((cfgM m).slots t 9).cast nbuf0_9)
  arg13 := Memref.whole cc0_scratch0
  harg13 := Memref.isWhole_whole _
  arg14 := Memref.whole cc0_scratch1
  harg14 := Memref.isWhole_whole _
  arg15 := Memref.whole cc0_scratch2
  harg15 := Memref.isWhole_whole _
  arg16 := Memref.whole cc0_scratch3
  harg16 := Memref.isWhole_whole _

/-- The body's program at a point is the kernel's function on those memrefs. -/
theorem defs_tc : (defs₀ (F := F)) .tc (cfgM m).body
    = fun a => cc0_lowrank_fit (F := F) (grid0.coords a.1) (Memref.whole main_arg1) (Memref.isWhole_whole _)
      (spec0_0.stage (a.2 0)) (hstage0_0 ((a.2 0).cast nbuf0_0)) (spec0_1.stage (a.2 1)) (hstage0_1 ((a.2 1).cast nbuf0_1))
      (spec0_2.stage (a.2 2)) (hstage0_2 ((a.2 2).cast nbuf0_2)) (spec0_3.stage (a.2 3)) (hstage0_3 ((a.2 3).cast nbuf0_3))
      (spec0_4.stage (a.2 4)) (hstage0_4 ((a.2 4).cast nbuf0_4)) (spec0_5.stage (a.2 5)) (hstage0_5 ((a.2 5).cast nbuf0_5))
      (spec0_6.stage (a.2 6)) (hstage0_6 ((a.2 6).cast nbuf0_6)) (spec0_7.stage (a.2 7)) (hstage0_7 ((a.2 7).cast nbuf0_7))
      (spec0_8.stage (a.2 8)) (hstage0_8 ((a.2 8).cast nbuf0_8)) (spec0_9.stage (a.2 9)) (hstage0_9 ((a.2 9).cast nbuf0_9))
      (Memref.whole cc0_scratch0) (Memref.isWhole_whole _) (Memref.whole cc0_scratch1) (Memref.isWhole_whole _)
      (Memref.whole cc0_scratch2) (Memref.isWhole_whole _) (Memref.whole cc0_scratch3) (Memref.isWhole_whole _) := rfl

/-- The program of the body at a point. -/
abbrev prog (i : grid0.Coords) (R : Refs) : Prog (TpuEff nD τ sig (Elt F) Λ₀ .tc) PUnit :=
  cc0_lowrank_fit (F := F) i R.arg2 R.harg2 R.arg3 R.harg3 R.arg4 R.harg4 R.arg5 R.harg5 R.arg6 R.harg6 R.arg7 R.harg7 R.arg8 R.harg8 R.arg9 R.harg9
    R.arg10 R.harg10 R.arg11 R.harg11 R.arg12 R.harg12 R.arg13 R.harg13 R.arg14 R.harg14 R.arg15 R.harg15 R.arg16 R.harg16

/-- The launch's body at a point is that program. -/
theorem prog_eq (t : Fin (cfgM m).N) : (defs₀ (F := F)) .tc (cfgM m).body ((cfgM m).bodyArgs t ((cfgM m).slots t)) = prog (grid0.coords t) (refs m t) :=
  (congrFun (defs_tc m) _).trans rfl

/-- A window's block at a point, read off its array as the region finds it. -/
def iblk (c : Dev nD) (w : Fin 10) (t : Fin (cfgM m).N) : (((cfgM m).win w).xblock ((cfgM m).grid.coords t)).Idx → Elt F ((cfgM m).win w).elt :=
  (((cfgM m).win w).blk t).view.read (Elt F) (V m c (Pipeline.arrRef spec0 w))

/-- The scratch the body carries from point to point, at any contents. -/
theorem PhiA_eq (c : Dev nD) : (Pipeline.ΦA spec0 c : sProp 𝕄G)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f)) ∗ ∃ r, prngReg c r) := by
  unfold Pipeline.ΦA; rw [scopedRest0_eq]

/-- The proof data of the frame: inputs hold their blocks, outputs are not described, the scratch is at any contents. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => fun _ => Classical.arbitrary _
    | ⟨7, _⟩ => fun _ => Classical.arbitrary _
    | ⟨8, _⟩ => fun _ => Classical.arbitrary _
    | ⟨9, _⟩ => fun _ => Classical.arbitrary _
  Φ _ := iprop(Pipeline.ΦA spec0 c ∗ Pipeline.ΦT pre0 (tbl m) c)
  q _ := fullShare
  owed _ := 0

/-- The outputs, which the frame does not describe. -/
def fgt : Fin 10 → Bool := fun
  | ⟨0, _⟩ => false | ⟨1, _⟩ => false | ⟨2, _⟩ => false | ⟨3, _⟩ => false | ⟨4, _⟩ => false | ⟨5, _⟩ => false
  | ⟨6, _⟩ => true | ⟨7, _⟩ => true | ⟨8, _⟩ => true | ⟨9, _⟩ => true

/-- Input 0 holds its block at every point. -/
theorem before_0 (c : Dev nD) (t : Fin (cfgM m).N) (d) : (dats m 0 c).before 0 t d = iblk m c 0 t :=
  ((dats m 0 c).before_in_eq_fetched 0 rfl (fun _ => rfl) (fun _ _ _ => rfl) (fun _ => rfl) t d).trans rfl

/-- Input 1 holds its block at every point. -/
theorem before_1 (c : Dev nD) (t : Fin (cfgM m).N) (d) : (dats m 0 c).before 1 t d = iblk m c 1 t :=
  ((dats m 0 c).before_in_eq_fetched 1 rfl (fun _ => rfl) (fun _ _ _ => rfl) (fun _ => rfl) t d).trans rfl

/-- Input 2 holds its block at every point. -/
theorem before_2 (c : Dev nD) (t : Fin (cfgM m).N) (d) : (dats m 0 c).before 2 t d = iblk m c 2 t :=
  ((dats m 0 c).before_in_eq_fetched 2 rfl (fun _ => rfl) (fun _ _ _ => rfl) (fun _ => rfl) t d).trans rfl

/-- Input 3 holds its block at every point. -/
theorem before_3 (c : Dev nD) (t : Fin (cfgM m).N) (d) : (dats m 0 c).before 3 t d = iblk m c 3 t :=
  ((dats m 0 c).before_in_eq_fetched 3 rfl (fun _ => rfl) (fun _ _ _ => rfl) (fun _ => rfl) t d).trans rfl

/-- Input 4 holds its block at every point. -/
theorem before_4 (c : Dev nD) (t : Fin (cfgM m).N) (d) : (dats m 0 c).before 4 t d = iblk m c 4 t :=
  ((dats m 0 c).before_in_eq_fetched 4 rfl (fun _ => rfl) (fun _ _ _ => rfl) (fun _ => rfl) t d).trans rfl

/-- Input 5 holds its block at every point. -/
theorem before_5 (c : Dev nD) (t : Fin (cfgM m).N) (d) : (dats m 0 c).before 5 t d = iblk m c 5 t :=
  ((dats m 0 c).before_in_eq_fetched 5 rfl (fun _ => rfl) (fun _ _ _ => rfl) (fun _ => rfl) t d).trans rfl

set_option maxHeartbeats 1000000 in
/-- At every point the body runs, from any contents of the outputs and of the scratch. -/
theorem body_obligation (c : Dev nD) : BodyObligation (dats (F := F) m 0 c) (defs₀ (F := F)) Variants.none () Set.univ fgt := fun t => by
  rw [bigSep_W0, bigSep_W0]
  dsimp only [fgt]
  rw [show (dats m 0 c).Φ t.castSucc = iprop(Pipeline.ΦA spec0 c ∗ Pipeline.ΦT pre0 (tbl m) c) from rfl, show (dats m 0 c).Φ t.succ = iprop(Pipeline.ΦA spec0 c ∗ Pipeline.ΦT pre0 (tbl m) c) from rfl]
  rw [PhiA_eq, PhiT_eq]
  simp only [← own_whole]
  iintro ⟨⟨⟨⟨⟨%f0, S0⟩, ⟨%f1, S1⟩, ⟨%f2, S2⟩, ⟨%f3, S3⟩⟩, HP⟩, HT⟩, HO, ⟨%d0, W0⟩, ⟨%d1, W1⟩, ⟨%d2, W2⟩, ⟨%d3, W3⟩, ⟨%d4, W4⟩, ⟨%d5, W5⟩, ⟨%X6, W6⟩, ⟨%X7, W7⟩, ⟨%X8, W8⟩, ⟨%X9, W9⟩⟩
  sl_rw [prog_eq m t]
  have hin := sBody_inputs (grid0.coords t) (word (grid0.coords t) (tbl m 0))
    (⟨iblk m c 0 t, iblk m c 1 t, iblk m c 2 t, iblk m c 3 t, iblk m c 4 t, iblk m c 5 t, X6, X7, X8, X9, f0, f1, f2, f3⟩ : St F)
  ihave Hk := ((run_body (F := F) Variants.none c none Set.univ fullShare.right (refs m t) (tbl m 0) (grid0.coords t)
    ⟨iblk m c 0 t, iblk m c 1 t, iblk m c 2 t, iblk m c 3 t, iblk m c 4 t, iblk m c 5 t, X6, X7, X8, X9, f0, f1, f2, f3⟩).trans (wp_wand _ _ _)) $$ [HT W0 W1 W2 W3 W4 W5 W6 W7 W8 W9 S0 S1 S2 S3]
  · unfold Own
    isplitl [HT]; · iexact HT
    isplitl [W0]; · iapply (eq_entails (congrArg (owns (c : Thread nD τ) (refs m t).arg3 fullShare) (before_0 m c t d0))); iexact W0
    isplitl [W1]; · iapply (eq_entails (congrArg (owns (c : Thread nD τ) (refs m t).arg4 fullShare) (before_1 m c t d1))); iexact W1
    isplitl [W2]; · iapply (eq_entails (congrArg (owns (c : Thread nD τ) (refs m t).arg5 fullShare) (before_2 m c t d2))); iexact W2
    isplitl [W3]; · iapply (eq_entails (congrArg (owns (c : Thread nD τ) (refs m t).arg6 fullShare) (before_3 m c t d3))); iexact W3
    isplitl [W4]; · iapply (eq_entails (congrArg (owns (c : Thread nD τ) (refs m t).arg7 fullShare) (before_4 m c t d4))); iexact W4
    isplitl [W5]; · iapply (eq_entails (congrArg (owns (c : Thread nD τ) (refs m t).arg8 fullShare) (before_5 m c t d5))); iexact W5
    isplitl [W6]; · iexact W6
    isplitl [W7]; · iexact W7
    isplitl [W8]; · iexact W8
    isplitl [W9]; · iexact W9
    isplitl [S0]; · iexact S0
    isplitl [S1]; · iexact S1
    isplitl [S2]; · iexact S2
    iexact S3
  iapply Hk
  iintro %_ HOwn
  unfold Own
  rw [hin.1, hin.2.1, hin.2.2.1, hin.2.2.2.1, hin.2.2.2.2.1, hin.2.2.2.2.2]
  icases HOwn with ⟨HT, W0, W1, W2, W3, W4, W5, W6, W7, W8, W9, S0, S1, S2, S3⟩
  isplitl [HT S0 S1 S2 S3 HP]
  · isplitr [HT]
    · isplitr [HP]
      · isplitl [S0]; · iexists _; iexact S0
        isplitl [S1]; · iexists _; iexact S1
        isplitl [S2]; · iexists _; iexact S2
        iexists _; iexact S3
      · iexact HP
    · iexact HT
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexists _; iexact W6
  isplitl [W7]; · iexists _; iexact W7
  isplitl [W8]; · iexists _; iexact W8
  iexists _; iexact W9

set_option maxHeartbeats 1000000 in
/-- From any memory with zero counters the kernel runs to completion, its arguments as they were and every counter at zero. -/
theorem run_frame (ρ : Dev nD → PrngReg) :
    θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0) :=
  Pipeline.θ_run_frameP_around_T_track_forget pcfgs (fun _ => adm m) (dats m) (0 : Fin 1) launch0 defs₀ Variants.none fgt T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := fun _ _ => rfl) (hpf := V_pre m)
    (hin := fun _ => .rfl) (hout := fun c => by
      show iprop(Pipeline.ΦA spec0 c ∗ Pipeline.ΦT pre0 (tbl m) c) ⊢ _
      iintro ⟨H, -⟩; iexact H)
    (Q' := (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6))
      ∧ r.2.sem = fun _ => 0))
    (hQ' := fun r h => ⟨fun c => ⟨((h.1 c).2 main_arg0 (by decide : main_arg0 ∈ Pipeline.restRefs sig spec0 \ T0)).trans (V_arg0 m c),
      ((h.1 c).2 main_arg1 (by decide : main_arg1 ∈ Pipeline.restRefs sig spec0 \ T0)).trans (V_arg1 m c),
      (Pipeline.RDat.FramePostR.arr_in h.1 c 1 rfl).trans (V_arg2 m c),
      (Pipeline.RDat.FramePostR.arr_in h.1 c 2 rfl).trans (V_arg3 m c),
      ((h.1 c).2 main_arg4 (by decide : main_arg4 ∈ Pipeline.restRefs sig spec0 \ T0)).trans (V_arg4 m c),
      (Pipeline.RDat.FramePostR.arr_in h.1 c 4 rfl).trans (V_arg5 m c),
      (Pipeline.RDat.FramePostR.arr_in h.1 c 5 rfl).trans (V_arg6 m c)⟩, h.2⟩)

end Cert.KernelIdeal.Hand

end
-- ==== Proof.StepI.lean ====
/- One point of the grid, as a pure step: if the scratch and the outputs hold, before the point, what the schedule's history says they
   hold, then after the body they hold what the next point's history says. -/
module

public import proofs.«01_k».proof.Proof.KitI

@[expose] public section

set_option maxRecDepth 16384

noncomputable section

namespace Cert.KernelIdeal.Hand

open Idealize.ShloMosaic Idealize.ShloMosaic.TcCoe
open Cert.KernelIdeal.Gen

variable {F : FTy → Type} [FloatOps F]

/-- What the kernel reads: the table, the row tiles of `x`, the column tiles of the rest, and the error tiles made of them. -/
structure In (F : FTy → Type) where
  T : S16.Idx → Elt F .i32
  X : ℕ → S512x2560.Idx → Elt F .bf16
  W : ℕ → S2560x1024.Idx → Elt F .bf16
  C : ℕ → S1280x1024.Idx → Elt F .i8
  S : ℕ → S20x1x1024.Idx → Elt F .bf16
  A : S2560x48.Idx → Elt F .bf16
  B : ℕ → S48x1024.Idx → Elt F .bf16
  E : ℕ → S2560x1024.Idx → Elt F .bf16

namespace In

variable (D : In F)

/-- How many rows of tile `m` are below its problem's row count. -/
def v (m : ℕ) : BitVec 32 := D.T (fun a => ⟨m / 2 % 16, by
  have e : S16.size a = 16 := by fin_cases a; rfl
  omega⟩) - rowOff m

/-- Tile `m` has rows. -/
def ok (m : ℕ) : Prop := 0 < (D.v m).toInt
/-- It can be decided. -/
instance (m : ℕ) : Decidable (D.ok m) := by unfold ok; infer_instance

/-- The projection of tile `m`. -/
def P (m : ℕ) : S512x48.Idx → Elt F .bf16 := k0_pay2 (D.X m) D.A

/-- What is left of the errors at tile `(n, m)`. -/
def R (n m : ℕ) : FVec F S512x1024 .f32 := k0_pay16 (D.v m) (D.P m) (D.B n) (D.X m) (D.E n)

/-- The loss of tile `m`, by lane, after `n` column tiles. -/
def L (m : ℕ) : ℕ → S512x128.Idx → Elt F .f32
  | 0 => k0_pay4 (F := F)
  | n + 1 => k0_pay5 (k0_pay17 (D.v m) (D.P m) (D.B n) (D.X m) (D.E n) (L m n))

/-- `g` of tile `m` after `n` column tiles. -/
def G (m : ℕ) : ℕ → S512x48.Idx → Elt F .f32
  | 0 => k0_pay3 (F := F)
  | n + 1 => k0_pay7 (D.B n) (D.R n m) (G m n)

/-- `d_b` of column tile `n` after `m` row tiles. -/
def DB (n : ℕ) : ℕ → S48x1024.Idx → Elt F .f32
  | 0 => k0_pay19 (F := F)
  | m + 1 => if D.ok m then k0_pay8 (D.P m) (D.R n m) (DB n m) else DB n m

/-- `d_a` after `m` row tiles of the last column. -/
def DA : ℕ → S2560x48.Idx → Elt F .f32
  | 0 => k0_pay1 (F := F)
  | m + 1 => if D.ok m then k0_pay9 (D.G m 10) (DA m) (D.X m) else DA m

end In

/-- The rows of tile `m'` are inside the carried buffers of 48 columns. -/
theorem inb48 (m' : Fin 32) : ∀ a, (![512 * m'.val, 0] : Fin 2 → ℕ) a + S512x48.size a ≤ S16384x48.size a := fun a => by
  have := m'.isLt
  fin_cases a
  · show 512 * m'.val + 512 ≤ 16384; omega
  · show 0 + 48 ≤ 48; omega

/-- The rows of tile `m'` are inside the carried buffer of 128 lanes. -/
theorem inb128 (m' : Fin 32) : ∀ a, (![512 * m'.val, 0] : Fin 2 → ℕ) a + S512x128.size a ≤ S16384x128.size a := fun a => by
  have := m'.isLt
  fin_cases a
  · show 512 * m'.val + 512 ≤ 16384; omega
  · show 0 + 128 ≤ 128; omega

/-- The rows of tile `m'` of a carried buffer of 48 columns. -/
def win48 {α : Type} (f : S16384x48.Idx → α) (m' : Fin 32) : S512x48.Idx → α :=
  VecWindow.window f ![512 * m'.val, 0] S512x48.size (inb48 m')

/-- The rows of tile `m'` of the carried buffer of 128 lanes. -/
def win128 {α : Type} (f : S16384x128.Idx → α) (m' : Fin 32) : S512x128.Idx → α :=
  VecWindow.window f ![512 * m'.val, 0] S512x128.size (inb128 m')

/-- A window of 512 rows of the projection or of the accumulator of `g` is the rows of that tile. -/
theorem window48 {α : Type} (f : S16384x48.Idx → α) (m' : Fin 32) (off : Fin 2 → ℕ) (h : off = ![512 * m'.val, 0]) (inb) :
    VecWindow.window f off S512x48.size inb = win48 f m' := by
  subst h; rfl

/-- A window of 512 rows of the accumulator of the loss is the rows of that tile. -/
theorem window128 {α : Type} (f : S16384x128.Idx → α) (m' : Fin 32) (off : Fin 2 → ℕ) (h : off = ![512 * m'.val, 0]) (inb) :
    VecWindow.window f off S512x128.size inb = win128 f m' := by
  subst h; rfl

/-- The tile just put is the payload, the other tiles are as they were. -/
theorem win48_put {α : Type} (f : S16384x48.Idx → α) (m m' : Fin 32) (off : Fin 2 → ℕ) (h : off = ![512 * m.val, 0]) (w : S512x48.Idx → α) :
    win48 (VecWindow.put f off S512x48.size w) m' = if m' = m then w else win48 f m' := by
  subst h
  unfold win48
  split
  · rename_i e; subst e; exact VecWindow.window_put_same _ _ _ _ _
  · rename_i e
    refine VecWindow.window_put_of_disjoint _ _ _ _ _ _ _ 0 ?_
    show 512 * m'.val + 512 ≤ 512 * m.val ∨ 512 * m.val + 512 ≤ 512 * m'.val
    have : m'.val ≠ m.val := fun h => e (Fin.ext h)
    omega

/-- A store of one tile's rows changes the rows of that tile alone. -/
theorem win128_put {α : Type} (f : S16384x128.Idx → α) (m m' : Fin 32) (off : Fin 2 → ℕ) (h : off = ![512 * m.val, 0]) (w : S512x128.Idx → α) :
    win128 (VecWindow.put f off S512x128.size w) m' = if m' = m then w else win128 f m' := by
  subst h
  unfold win128
  split
  · rename_i e; subst e; exact VecWindow.window_put_same _ _ _ _ _
  · rename_i e
    refine VecWindow.window_put_of_disjoint _ _ _ _ _ _ _ 0 ?_
    show 512 * m'.val + 512 ≤ 512 * m.val ∨ 512 * m.val + 512 ≤ 512 * m'.val
    have : m'.val ≠ m.val := fun h => e (Fin.ext h)
    omega

/-- The carried accumulators hold, of every tile with rows that `reached` says is reached, its projection and the sums of `k` column tiles. -/
structure Acc (D : In F) (reached : ℕ → Prop) (k : ℕ → ℕ) (pb : S16384x48.Idx → Elt F .bf16) (gacc : S16384x48.Idx → Elt F .f32)
    (lacc : S16384x128.Idx → Elt F .f32) : Prop where
  pb : ∀ m' : Fin 32, D.ok m'.val → reached m'.val → win48 pb m' = D.P m'.val
  gacc : ∀ m' : Fin 32, D.ok m'.val → reached m'.val → win48 gacc m' = D.G m'.val (k m'.val)
  lacc : ∀ m' : Fin 32, D.ok m'.val → reached m'.val → win128 lacc m' = D.L m'.val (k m'.val)

/-- What holds before point `(n, m)`. -/
structure Inv (D : In F) (n m : ℕ) (e : S2560x1024.Idx → Elt F .bf16) (pb : S16384x48.Idx → Elt F .bf16) (gacc : S16384x48.Idx → Elt F .f32)
    (lacc : S16384x128.Idx → Elt F .f32) : Prop where
  e : 0 < m → e = D.E n
  acc : Acc D (fun m' => 0 < n ∨ m' < m) (fun m' => if m' < m then n + 1 else n) pb gacc lacc

/-- What the outputs hold before point `(n, m)`. -/
structure Fnd (D : In F) (n m : ℕ) (da : S2560x48.Idx → Elt F .f32) (db : S48x1024.Idx → Elt F .f32) : Prop where
  db : 0 < m → db = D.DB n m
  da : 0 < n ∨ 0 < m → da = if n = 9 then D.DA m else D.DA 0

/-- What the body leaves at point `(n, m)`. -/
structure Left (D : In F) (n m : ℕ) (st : St F) : Prop where
  e : st.e = D.E n
  acc : Acc D (fun m' => 0 < n ∨ m' < m + 1) (fun m' => if m' < m + 1 then n + 1 else n) st.pb st.gacc st.lacc
  db : st.db = D.DB n (m + 1)
  da : st.da = if n = 9 then D.DA (m + 1) else D.DA 0
  g : n = 9 → st.g = if D.ok m then D.G m 10 else k0_pay11 (F := F)
  loss : n = 9 → st.loss = if D.ok m then k0_pay10 (D.L m 10) else k0_pay12 (F := F)

/-- The inputs are the blocks of point `(n, m)`. -/
structure Ins (D : In F) (n m : ℕ) (st : St F) : Prop where
  x : st.x = D.X m
  w : st.w = D.W n
  cd : st.cd = D.C n
  sc : st.sc = D.S n
  a : st.a = D.A
  b : st.b = D.B n

/-- The invariant of the next row tile. -/
theorem Left.inv {D : In F} {n m : ℕ} {st : St F} (h : Left D n m st) : Inv D n (m + 1) st.e st.pb st.gacc st.lacc := ⟨fun _ => h.e, h.acc⟩

/-- The invariant of the next column tile. -/
theorem Left.inv_next {D : In F} {n : ℕ} {st : St F} (h : Left D n 31 st) : Inv D (n + 1) 0 st.e st.pb st.gacc st.lacc := by
  refine ⟨fun h => absurd h (by omega), fun m' hm _ => h.acc.pb m' hm (Or.inr m'.isLt), fun m' hm _ => ?_, fun m' hm _ => ?_⟩
  · refine (h.acc.gacc m' hm (Or.inr m'.isLt)).trans ?_
    have : m'.val < 31 + 1 := m'.isLt
    rw [if_pos this, if_neg (by omega)]
  · refine (h.acc.lacc m' hm (Or.inr m'.isLt)).trans ?_
    have : m'.val < 31 + 1 := m'.isLt
    rw [if_pos this, if_neg (by omega)]

section

variable (D : In F) (hE : ∀ n (i : grid0.Coords) (h1 : k0_cond1 i = 1#1) (st : St F), st.w = D.W n → st.cd = D.C n → st.sc = D.S n →
  eloop i h1 st k0_t1_loop.trips = D.E n)

/-- The number of valid rows that the body computes is that of the tile. -/
theorem nval_word (i : grid0.Coords) : nval i (word i D.T) = D.v (i 1).val := by
  rw [nval_eq, word_eq]
  unfold In.v
  congr 2
  funext a
  apply Fin.ext
  have : (i 1).val < 32 := (i 1).isLt
  show (i 1).val / 2 = (i 1).val / 2 % 16
  omega

/-- The body takes a tile as having valid rows exactly where the tile has some. -/
theorem valid_word (i : grid0.Coords) : valid i (word i D.T) ↔ D.ok (i 1).val := by
  rw [valid_iff, ← nval_eq, nval_word]; rfl

include hE in
/-- After the first step the error tile and `d_b` are the column's, whether written now or before. -/
theorem s1_eq (i : grid0.Coords) (st : St F) (hin : Ins D (i 0).val (i 1).val st) (he : 0 < (i 1).val → st.e = D.E (i 0).val)
    (hdb : 0 < (i 1).val → st.db = D.DB (i 0).val (i 1).val) :
    s1 i st = { st with e := D.E (i 0).val, db := D.DB (i 0).val (i 1).val } := by
  unfold s1
  by_cases h : k0_cond1 i = 1#1
  · rw [dif_pos h, hE (i 0).val i h st hin.w hin.cd hin.sc, (cond1_iff i).mp h]; rfl
  · have hm : 0 < (i 1).val := Nat.pos_of_ne_zero fun e => h ((cond1_iff i).mpr e)
    rw [dif_neg h, ← he hm, ← hdb hm]

/-- After the second step `d_a` is the sum so far, zero before the last column. -/
theorem s2_eq (i : grid0.Coords) (st : St F)
    (hda : 0 < (i 0).val ∨ 0 < (i 1).val → st.da = if (i 0).val = 9 then D.DA (i 1).val else D.DA 0) :
    s2 i st = { st with da := if (i 0).val = 9 then D.DA (i 1).val else D.DA 0 } := by
  unfold s2
  by_cases h : k0_cond2 i = 1#1
  · obtain ⟨h0, h1⟩ := (cond2_iff i).mp h
    rw [if_pos h, h0, if_neg (by decide : ¬ (0 : ℕ) = 9)]; rfl
  · have hm : 0 < (i 0).val ∨ 0 < (i 1).val := by
      by_contra hc
      exact h ((cond2_iff i).mpr (by omega))
    rw [if_neg h, ← hda hm]

/-- After the third step the tile's projection and accumulators are in place as well, if it has valid rows. -/
theorem s3_eq (i : grid0.Coords) (st : St F) (hin : Ins D (i 0).val (i 1).val st)
    (h : Acc D (fun m' => 0 < (i 0).val ∨ m' < (i 1).val) (fun m' => if m' < (i 1).val then (i 0).val + 1 else (i 0).val) st.pb st.gacc st.lacc) :
    ∃ pb gacc lacc, s3 i (word i D.T) st = { st with pb := pb, gacc := gacc, lacc := lacc } ∧
      Acc D (fun m' => 0 < (i 0).val ∨ m' < (i 1).val + 1) (fun m' => if m' < (i 1).val then (i 0).val + 1 else (i 0).val) pb gacc lacc := by
  unfold s3
  have hlt : (i 1).val < 32 := (i 1).isLt
  by_cases hc : cond3 i (word i D.T) = 1#1
  · obtain ⟨h0, hv⟩ := (cond3_iff i _).mp hc
    rw [if_pos hc]
    refine ⟨_, _, _, rfl, ?_, ?_, ?_⟩
    · intro m' hm hr
      rw [win48_put _ ⟨(i 1).val, hlt⟩ m' _ (k0_off7_eq i)]
      split
      · rename_i e; subst e; rw [hin.x, hin.a]; rfl
      · rename_i e
        have : m'.val ≠ (i 1).val := fun h => e (Fin.ext h)
        exact h.pb m' hm (by omega)
    · intro m' hm hr
      rw [win48_put _ ⟨(i 1).val, hlt⟩ m' _ (k0_off7_eq i)]
      split
      · rename_i e; subst e; dsimp only; rw [if_neg (by omega), h0]; rfl
      · rename_i e
        have : m'.val ≠ (i 1).val := fun h => e (Fin.ext h)
        exact h.gacc m' hm (by omega)
    · intro m' hm hr
      rw [win128_put _ ⟨(i 1).val, hlt⟩ m' _ (k0_off8_eq i)]
      split
      · rename_i e; subst e; dsimp only; rw [if_neg (by omega), h0]; rfl
      · rename_i e
        have : m'.val ≠ (i 1).val := fun h => e (Fin.ext h)
        exact h.lacc m' hm (by omega)
  · rw [if_neg hc]
    have key : ∀ m' : Fin 32, D.ok m'.val → (0 < (i 0).val ∨ m'.val < (i 1).val + 1) → (0 < (i 0).val ∨ m'.val < (i 1).val) := by
      intro m' hm hr
      by_contra hn
      have e : m'.val = (i 1).val := by omega
      exact hc ((cond3_iff i _).mpr ⟨by omega, (valid_word D i).mpr (e ▸ hm)⟩)
    exact ⟨st.pb, st.gacc, st.lacc, rfl, fun m' hm hr => h.pb m' hm (key m' hm hr), fun m' hm hr => h.gacc m' hm (key m' hm hr),
      fun m' hm hr => h.lacc m' hm (key m' hm hr)⟩

/-- After the fourth step the tile's accumulators and `d_b` have taken in the column, a tile without valid rows adding nothing. -/
theorem s4_eq (i : grid0.Coords) (st : St F) (hin : Ins D (i 0).val (i 1).val st) (he : st.e = D.E (i 0).val)
    (hdb : st.db = D.DB (i 0).val (i 1).val)
    (h : Acc D (fun m' => 0 < (i 0).val ∨ m' < (i 1).val + 1) (fun m' => if m' < (i 1).val then (i 0).val + 1 else (i 0).val) st.pb st.gacc st.lacc) :
    ∃ gacc lacc, s4 i (word i D.T) st = { st with gacc := gacc, lacc := lacc, db := D.DB (i 0).val ((i 1).val + 1) } ∧
      Acc D (fun m' => 0 < (i 0).val ∨ m' < (i 1).val + 1) (fun m' => if m' < (i 1).val + 1 then (i 0).val + 1 else (i 0).val) st.pb gacc lacc := by
  unfold s4
  have hlt : (i 1).val < 32 := (i 1).isLt
  by_cases hc : k0_cond4 i (word i D.T) = 1#1
  · have hok := (valid_word D i).mp ((cond4_iff i _).mp hc)
    have hp := h.pb ⟨(i 1).val, hlt⟩ hok (Or.inr (Nat.lt_succ_self _))
    have hg := h.gacc ⟨(i 1).val, hlt⟩ hok (Or.inr (Nat.lt_succ_self _))
    have hl := h.lacc ⟨(i 1).val, hlt⟩ hok (Or.inr (Nat.lt_succ_self _))
    dsimp only at hg hl hp
    rw [if_neg (lt_irrefl _)] at hg hl
    have hres : resid i (word i D.T) st = D.R (i 0).val (i 1).val := by
      unfold resid In.R
      rw [window48 _ ⟨(i 1).val, hlt⟩ _ (k0_off9_eq i), hp, nval_word, hin.b, hin.x, he]
    rw [if_pos hc, hres]
    rw [window48 st.pb ⟨(i 1).val, hlt⟩ _ (k0_off9_eq i), hp, window48 st.gacc ⟨(i 1).val, hlt⟩ _ (k0_off9_eq i), hg,
      window128 st.lacc ⟨(i 1).val, hlt⟩ _ (k0_off10_eq i), hl, nval_word, hin.b, hin.x, he, hdb]
    have hD : D.DB (i 0).val ((i 1).val + 1) = k0_pay8 (D.P (i 1).val) (D.R (i 0).val (i 1).val) (D.DB (i 0).val (i 1).val) := by
      rw [In.DB, if_pos hok]
    rw [hD]
    refine ⟨_, _, rfl, h.pb, ?_, ?_⟩
    · intro m' hm hr
      rw [win48_put _ ⟨(i 1).val, hlt⟩ m' _ (k0_off9_eq i)]
      split
      · rename_i e; subst e; dsimp only; rw [if_pos (Nat.lt_succ_self _), In.G]
      · rename_i e
        have hne : m'.val ≠ (i 1).val := fun h => e (Fin.ext h)
        refine (h.gacc m' hm hr).trans ?_
        dsimp only
        by_cases hlt' : m'.val < (i 1).val
        · rw [if_pos hlt', if_pos (by omega)]
        · rw [if_neg hlt', if_neg (by omega)]
    · intro m' hm hr
      rw [win128_put _ ⟨(i 1).val, hlt⟩ m' _ (k0_off10_eq i)]
      split
      · rename_i e; subst e; dsimp only; rw [if_pos (Nat.lt_succ_self _), In.L]
      · rename_i e
        have hne : m'.val ≠ (i 1).val := fun h => e (Fin.ext h)
        refine (h.lacc m' hm hr).trans ?_
        dsimp only
        by_cases hlt' : m'.val < (i 1).val
        · rw [if_pos hlt', if_pos (by omega)]
        · rw [if_neg hlt', if_neg (by omega)]
  · have hok : ¬ D.ok (i 1).val := fun hok => hc ((cond4_iff i _).mpr ((valid_word D i).mpr hok))
    rw [if_neg hc]
    have hD : D.DB (i 0).val ((i 1).val + 1) = D.DB (i 0).val (i 1).val := by
      rw [In.DB, if_neg hok]
    rw [hD, ← hdb]
    have key : ∀ m' : Fin 32, D.ok m'.val → (if m'.val < (i 1).val then (i 0).val + 1 else (i 0).val) = if m'.val < (i 1).val + 1 then (i 0).val + 1 else (i 0).val := by
      intro m' hm
      have hne : m'.val ≠ (i 1).val := fun e => hok (e ▸ hm)
      by_cases hlt' : m'.val < (i 1).val
      · rw [if_pos hlt', if_pos (by omega)]
      · rw [if_neg hlt', if_neg (by omega)]
    refine ⟨st.gacc, st.lacc, rfl, h.pb, fun m' hm hr => (h.gacc m' hm hr).trans (congrArg _ (key m' hm)), fun m' hm hr => (h.lacc m' hm hr).trans (congrArg _ (key m' hm))⟩

include hE in
/-- The whole point: from its history and its blocks the body leaves what the next point's history says. -/
theorem sBody_left (i : grid0.Coords) (st : St F) (hin : Ins D (i 0).val (i 1).val st) (hinv : Inv D (i 0).val (i 1).val st.e st.pb st.gacc st.lacc)
    (hf : Fnd D (i 0).val (i 1).val st.da st.db) : Left D (i 0).val (i 1).val (sBody i (word i D.T) st) := by
  have hlt : (i 1).val < 32 := (i 1).isLt
  unfold sBody
  rw [s1_eq D hE i st hin hinv.e hf.db, s2_eq D i { st with e := D.E (i 0).val, db := D.DB (i 0).val (i 1).val } hf.da]
  obtain ⟨pb, gacc, lacc, h3, a3⟩ := s3_eq D i { st with e := D.E (i 0).val, db := D.DB (i 0).val (i 1).val, da := if (i 0).val = 9 then D.DA (i 1).val else D.DA 0 }
    ⟨hin.x, hin.w, hin.cd, hin.sc, hin.a, hin.b⟩ hinv.acc
  rw [h3]
  obtain ⟨gacc', lacc', h4, a4⟩ := s4_eq D i { st with e := D.E (i 0).val, db := D.DB (i 0).val (i 1).val, da := if (i 0).val = 9 then D.DA (i 1).val else D.DA 0, pb := pb, gacc := gacc, lacc := lacc }
    ⟨hin.x, hin.w, hin.cd, hin.sc, hin.a, hin.b⟩ rfl rfl a3
  rw [h4]
  unfold s5
  by_cases hok : D.ok (i 1).val
  · have h6 : ¬ k0_cond6 i (word i D.T) = 1#1 := fun h => ((cond6_iff i _).mp h).2 ((valid_word D i).mpr hok)
    unfold s6
    rw [if_neg h6]
    by_cases hn : (i 0).val = 9
    · rw [if_pos ((cond5_iff i _).mpr ⟨hn, (valid_word D i).mpr hok⟩)]
      have hg := a4.gacc ⟨(i 1).val, hlt⟩ hok (Or.inr (Nat.lt_succ_self _))
      have hl := a4.lacc ⟨(i 1).val, hlt⟩ hok (Or.inr (Nat.lt_succ_self _))
      dsimp only at hg hl
      rw [if_pos (Nat.lt_succ_self _), hn] at hg hl
      refine ⟨rfl, a4, rfl, ?_, fun _ => ?_, fun _ => ?_⟩
      · dsimp only
        rw [window48 gacc' ⟨(i 1).val, hlt⟩ _ (k0_off11_eq i), hg, hin.x, if_pos hn, if_pos hn, In.DA, if_pos hok]
      · dsimp only
        rw [window48 gacc' ⟨(i 1).val, hlt⟩ _ (k0_off11_eq i), hg, if_pos hok]
      · dsimp only
        rw [window128 lacc' ⟨(i 1).val, hlt⟩ _ (k0_off12_eq i), hl, if_pos hok]
    · rw [if_neg fun h => hn ((cond5_iff i _).mp h).1]
      refine ⟨rfl, a4, rfl, ?_, fun h => absurd h hn, fun h => absurd h hn⟩
      dsimp only
      rw [if_neg hn, if_neg hn]
  · rw [if_neg fun h => hok ((valid_word D i).mp ((cond5_iff i _).mp h).2)]
    unfold s6
    by_cases hn : (i 0).val = 9
    · rw [if_pos ((cond6_iff i _).mpr ⟨hn, fun h => hok ((valid_word D i).mp h)⟩)]
      refine ⟨rfl, a4, rfl, ?_, fun _ => ?_, fun _ => ?_⟩
      · dsimp only
        rw [if_pos hn, if_pos hn, In.DA, if_neg hok]
      · dsimp only
        rw [if_neg hok]
      · dsimp only
        rw [if_neg hok]
    · rw [if_neg fun h => hn ((cond6_iff i _).mp h).1]
      refine ⟨rfl, a4, rfl, ?_, fun h => absurd h hn, fun h => absurd h hn⟩
      dsimp only
      rw [if_neg hn, if_neg hn]

end

end Cert.KernelIdeal.Hand

end
-- ==== Proof.DequI.lean ====
/- The error tile the dequantising loop leaves, in closed form: it does not depend on what the scratch held before. -/
module

public import proofs.«01_k».proof.Proof.StepI

@[expose] public section

set_option maxRecDepth 16384

noncomputable section

namespace Cert.KernelIdeal.Hand

open Idealize.ShloMosaic Idealize.ShloMosaic.TcCoe
open Cert.KernelIdeal.Gen

variable {F : FTy → Type} [FloatOps F]

/-- 128 rows of an array of 1024 columns, from row `o`. -/
def rows {α : Type} {N : ℕ} (f : ((a : Fin 2) → Fin ((![N, 1024] : Fin 2 → ℕ) a)) → α) (o : ℕ) (h : o + 128 ≤ N) : S128x1024.Idx → α :=
  fun y => f (fun a => match a with
    | ⟨0, _⟩ => ⟨o + (y 0).val, by have h0 : (y 0).val < 128 := (y 0).isLt; show o + (y 0).val < N; omega⟩
    | ⟨1, _⟩ => ⟨(y 1).val, (y 1).isLt⟩)

/-- One row of scales. -/
def srow {α : Type} (f : S20x1x1024.Idx → α) (k : ℕ) (h : k < 20) : S1x1x1024.Idx → α :=
  fun y => f (fun a => match a with
    | ⟨0, _⟩ => ⟨k, h⟩
    | ⟨1, _⟩ => ⟨0, Nat.one_pos⟩
    | ⟨2, _⟩ => ⟨(y 2).val, (y 2).isLt⟩)

/-- A window of 128 rows is those rows. -/
theorem window_rows {α : Type} {N : ℕ} (f : (⟨2, ![N, 1024]⟩ : Shape).Idx → α) (off : Fin 2 → ℕ) (o : ℕ) (h : off = ![o, 0]) (ho : o + 128 ≤ N)
    (inb : ∀ a : Fin 2, off a + S128x1024.size a ≤ (⟨2, ![N, 1024]⟩ : Shape).size a) :
    VecWindow.window (s := ⟨2, ![N, 1024]⟩) f off S128x1024.size inb = rows f o ho := by
  subst h
  funext y
  unfold VecWindow.window rows
  congr 1
  funext a
  apply Fin.ext
  fin_cases a
  · show o + 1 * (y 0).val = o + (y 0).val; omega
  · show 0 + 1 * (y 1).val = (y 1).val; omega

/-- A window of one row of the scales is that row. -/
theorem window_srow {α : Type} (f : S20x1x1024.Idx → α) (off : Fin 3 → ℕ) (k : ℕ) (h : off = ![k, 0, 0]) (hk : k < 20)
    (inb : ∀ a : Fin 3, off a + S1x1x1024.size a ≤ S20x1x1024.size a) :
    VecWindow.window (s := S20x1x1024) f off S1x1x1024.size inb = srow f k hk := by
  subst h
  funext y
  unfold VecWindow.window srow
  congr 1
  funext a
  apply Fin.ext
  have z : ∀ q : Fin 1, q.val = 0 := fun q => Fin.val_eq_zero q
  fin_cases a
  · show k + 1 * (y 0).val = k
    rw [show (y 0).val = 0 from z _]; omega
  · show 0 + 1 * (y 1).val = 0
    rw [show (y 1).val = 0 from z _]
  · show 0 + 1 * (y 2).val = (y 2).val; omega

/-- The errors of the `k`-th 128 rows of the upper half, whose codes are the low nibbles. -/
def loB (W : S2560x1024.Idx → Elt F .bf16) (C : S1280x1024.Idx → Elt F .i8) (S : S20x1x1024.Idx → Elt F .bf16) (k : Fin 10) :
    S128x1024.Idx → Elt F .bf16 :=
  k0_pay14 (rows C (128 * k.val) (by have := k.isLt; omega)) (rows W (128 * k.val) (by have := k.isLt; omega)) (srow S k.val (by have := k.isLt; omega))

/-- The errors of the `k`-th 128 rows of the lower half, whose codes are the high nibbles. -/
def hiB (W : S2560x1024.Idx → Elt F .bf16) (C : S1280x1024.Idx → Elt F .i8) (S : S20x1x1024.Idx → Elt F .bf16) (k : Fin 10) :
    S128x1024.Idx → Elt F .bf16 :=
  k0_pay18 (rows W (128 * k.val + 1280) (by have := k.isLt; omega)) (k0_pay15 (rows C (128 * k.val) (by have := k.isLt; omega)))
    (srow S (k.val + 10) (by have := k.isLt; omega))

/-- The whole error tile. -/
def EV (W : S2560x1024.Idx → Elt F .bf16) (C : S1280x1024.Idx → Elt F .i8) (S : S20x1x1024.Idx → Elt F .bf16) : S2560x1024.Idx → Elt F .bf16 :=
  fun y =>
    let r : ℕ := (y 0).val
    let y' : S128x1024.Idx := fun a => match a with
      | ⟨0, _⟩ => ⟨r % 128, Nat.mod_lt _ (by decide)⟩
      | ⟨1, _⟩ => ⟨(y 1).val, (y 1).isLt⟩
    if r < 1280 then loB W C S ⟨r / 128 % 10, Nat.mod_lt _ (by decide)⟩ y'
    else hiB W C S ⟨(r - 1280) / 128 % 10, Nat.mod_lt _ (by decide)⟩ y'

/-- One trip writes the errors of its two row blocks. -/
theorem etrip_eq (k : Fin k0_t1_loop.trips) (hk : k.val < 10) (i : grid0.Coords) (h1 : k0_cond1 i = 1#1) (st : St F) (e : S2560x1024.Idx → Elt F .bf16) :
    etrip k i h1 st e = VecWindow.put (VecWindow.put e ![128 * k.val, 0] S128x1024.size (loB st.w st.cd st.sc ⟨k.val, hk⟩))
      ![128 * k.val + 1280, 0] S128x1024.size (hiB st.w st.cd st.sc ⟨k.val, hk⟩) := by
  unfold etrip loB hiB
  rw [window_rows (N := 1280) st.cd _ (128 * k.val) (k0_off2_eq k) (by omega), window_rows (N := 2560) st.w _ (128 * k.val) (k0_off3_eq k) (by omega),
    window_rows (N := 2560) st.w _ (128 * k.val + 1280) (k0_off5_eq k) (by omega), window_srow st.sc _ k.val (k0_off4_eq k) (by omega),
    window_srow st.sc _ (k.val + 10) (k0_off6_eq k) (by omega), k0_off3_eq k, k0_off5_eq k]

/-- A store of 128 rows, read at an index: the stored row where the index lies within them, the old contents elsewhere. -/
theorem put_rows {α : Type} (e : S2560x1024.Idx → α) (o : ℕ) (w : S128x1024.Idx → α) (y : S2560x1024.Idx) :
    VecWindow.put e ![o, 0] S128x1024.size w y
      = if h : o ≤ (y 0).val ∧ (y 0).val < o + 128 then w (fun a => match a with
        | ⟨0, _⟩ => ⟨(y 0).val - o, by show _ < 128; omega⟩
        | ⟨1, _⟩ => ⟨(y 1).val, (y 1).isLt⟩) else e y := by
  have hy1 : (y 1).val < 1024 := (y 1).isLt
  unfold VecWindow.put
  by_cases h : o ≤ (y 0).val ∧ (y 0).val < o + 128
  · have h' : ∀ a, (![o, 0] : Fin 2 → ℕ) a ≤ (y a).val ∧ (y a).val < (![o, 0] : Fin 2 → ℕ) a + S128x1024.size a := fun a => by
      fin_cases a
      · exact h
      · exact ⟨Nat.zero_le _, by show (y 1).val < 0 + 1024; omega⟩
    refine (dif_pos h').trans ?_
    rw [dif_pos h]
    congr 1
    funext a
    apply Fin.ext
    fin_cases a
    · rfl
    · rfl
  · have h' : ¬ ∀ a, (![o, 0] : Fin 2 → ℕ) a ≤ (y a).val ∧ (y a).val < (![o, 0] : Fin 2 → ℕ) a + S128x1024.size a := fun hc => h (hc 0)
    refine (dif_neg h').trans ?_
    rw [dif_neg h]

/-- After `n` trips the first `n` row blocks of both halves hold their errors. -/
theorem eloop_le (i : grid0.Coords) (h1 : k0_cond1 i = 1#1) (st : St F) (n : ℕ) (hn : n ≤ k0_t1_loop.trips) (y : S2560x1024.Idx)
    (hy : (y 0).val % 1280 < 128 * n) : eloop i h1 st n y = EV st.w st.cd st.sc y := by
  have hy0 : (y 0).val < 2560 := (y 0).isLt
  have hT := k0_t1_abs.2.1
  induction n with
  | zero => omega
  | succ n ih =>
    have hlt : n < k0_t1_loop.trips := hn
    unfold eloop
    rw [dif_pos hlt, etrip_eq ⟨n, hlt⟩ (by show n < 10; omega), put_rows, put_rows]
    dsimp only
    by_cases ha : 128 * n + 1280 ≤ (y 0).val ∧ (y 0).val < 128 * n + 1280 + 128
    · rw [dif_pos ha]
      unfold EV
      dsimp only
      rw [if_neg (by omega)]
      have e1 : (⟨n, by omega⟩ : Fin 10) = ⟨((y 0).val - 1280) / 128 % 10, Nat.mod_lt _ (by decide)⟩ := Fin.ext (by dsimp only; omega)
      rw [e1]
      congr 1
      funext a
      apply Fin.ext
      fin_cases a
      · show (y 0).val - (128 * n + 1280) = (y 0).val % 128; omega
      · rfl
    · rw [dif_neg ha]
      by_cases hb : 128 * n ≤ (y 0).val ∧ (y 0).val < 128 * n + 128
      · rw [dif_pos hb]
        unfold EV
        dsimp only
        rw [if_pos (by omega)]
        have e1 : (⟨n, by omega⟩ : Fin 10) = ⟨(y 0).val / 128 % 10, Nat.mod_lt _ (by decide)⟩ := Fin.ext (by dsimp only; omega)
        rw [e1]
        congr 1
        funext a
        apply Fin.ext
        fin_cases a
        · show (y 0).val - 128 * n = (y 0).val % 128; omega
        · rfl
      · rw [dif_neg hb]
        exact ih (by omega) (by omega)

/-- The loop makes ten trips. -/
theorem trips_eq : k0_t1_loop.trips = 10 := by decide +kernel

/-- The loop leaves the error tile of its inputs, whatever the scratch held. -/
theorem eloop_eq (i : grid0.Coords) (h1 : k0_cond1 i = 1#1) (st : St F) : eloop i h1 st k0_t1_loop.trips = EV st.w st.cd st.sc := by
  funext y
  refine eloop_le i h1 st _ le_rfl y ?_
  rw [trips_eq]
  have := Nat.mod_lt (y 0).val (show 0 < 1280 by decide)
  omega

end Cert.KernelIdeal.Hand

end
-- ==== Proof.DatI.lean ====
/- What every staging buffer holds at every point of the grid, and the body's obligation at each point. -/
module

public import proofs.«01_k».proof.Proof.FrameI
public import proofs.«01_k».proof.Proof.DequI
public import Idealize.ShloMosaic.Lib.Pipeline.TableIdle
public import Idealize.ShloMosaic.Lib.Pipeline.Kit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal.Gen Cert.Steps

variable {F : FTy → Type} [FloatOps F] [∀ e, Nonempty (Elt F e)]

local notation "𝕄G" => MT nD τ sig Unit (Elt F) ℕ (UR sig nD τ) ℕ

variable (m : (ℓ : Loc nD τ sig) → Buf (Elt F) ℓ)

/-- The point of the grid as two tile numbers. -/
theorem coords_eq : ∀ t : Fin 320, (grid0.coords t 0).val = t.val / 32 ∧ (grid0.coords t 1).val = t.val % 32 := by decide +kernel

/-- The tile of rows of `x` that is fetched for tile `u`. -/
def xt (T : S16.Idx → Elt F .i32) (u : ℕ) : ℕ :=
  if Scalar.cmpi .sgt (T (fun a => ⟨u / 2 % 16, by
  have e : S16.size a = 16 := by fin_cases a; rfl
  omega⟩)) (rowOff u) = 1#1 then u else u / 2 * 2

/-- 1024 columns of a matrix, the `n`-th. -/
def cols {α : Type} {N : ℕ} (f : (⟨2, ![N, 10240]⟩ : Shape).Idx → α) (n : ℕ) : (⟨2, ![N, 1024]⟩ : Shape).Idx → α :=
  fun y => f (fun a => match a with
    | ⟨0, _⟩ => ⟨(y 0).val, (y 0).isLt⟩
    | ⟨1, _⟩ => ⟨1024 * (n % 10) + (y 1).val, by
      have h0 : (y 1).val < 1024 := (y 1).isLt
      show 1024 * (n % 10) + (y 1).val < 10240; omega⟩)

/-- 1024 columns of the scales, the `n`-th. -/
def scols {α : Type} (f : S20x1x10240.Idx → α) (n : ℕ) : S20x1x1024.Idx → α :=
  fun y => f (fun a => match a with
    | ⟨0, _⟩ => ⟨(y 0).val, (y 0).isLt⟩
    | ⟨1, _⟩ => ⟨0, Nat.one_pos⟩
    | ⟨2, _⟩ => ⟨1024 * (n % 10) + (y 2).val, by
      have h0 : (y 2).val < 1024 := (y 2).isLt
      show 1024 * (n % 10) + (y 2).val < 10240; omega⟩)

/-- 512 rows of `x`, the `u`-th. -/
def xrows {α : Type} (f : S16384x2560.Idx → α) (u : ℕ) : S512x2560.Idx → α :=
  fun y => f (fun a => match a with
    | ⟨0, _⟩ => ⟨512 * (u % 32) + (y 0).val, by
      have h0 : (y 0).val < 512 := (y 0).isLt
      show 512 * (u % 32) + (y 0).val < 16384; omega⟩
    | ⟨1, _⟩ => ⟨(y 1).val, (y 1).isLt⟩)

/-- What the kernel reads, off the arrays as its region finds them. -/
def DI (c : Dev nD) : In F where
  T := tbl m 0
  X u := xrows (V m c main_v0) (xt (tbl m 0) u)
  W n := cols (N := 2560) (V m c main_arg2) n
  C n := cols (N := 1280) (V m c main_arg3) n
  S n := scols (V m c main_v1) n
  A := V m c main_arg5
  B n := cols (N := 48) (V m c main_arg6) n
  E n := EV (cols (N := 2560) (V m c main_arg2) n) (cols (N := 1280) (V m c main_arg3) n) (scols (V m c main_v1) n)

/-- The tile fetched is one of the 32. -/
theorem xt_lt (T : S16.Idx → Elt F .i32) (u : ℕ) (hu : u < 32) : xt T u < 32 := by
  unfold xt; split <;> omega

/-- The tile fetched at a point, by the length that the body reads there. -/
theorem xt_word (i : grid0.Coords) (T : S16.Idx → Elt F .i32) :
    (if Scalar.cmpi .sgt (word i T) (rowOff (i 1).val) = 1#1 then (i 1).val else (i 1).val / 2 * 2) = xt T (i 1).val := by
  have h : (i 1).val < 32 := (i 1).isLt
  rw [word_eq]
  unfold xt
  have e : (fun a => ⟨(i 1).val / 2, by
      have e : S16.size a = 16 := by fin_cases a; rfl
      omega⟩ : S16.Idx) = fun a => ⟨(i 1).val / 2 % 16, by
      have e : S16.size a = 16 := by fin_cases a; rfl
      omega⟩ := by
    funext a
    apply Fin.ext
    show (i 1).val / 2 = (i 1).val / 2 % 16
    omega
  rw [e]

/-- The first coordinate of the block of `x` at a point is the tile fetched. -/
theorem tr0_t (t : Fin (cfgM m).N) : cc0_transform_0 k0_off1_inb numel1_S1 (tbl m) (grid0.coords t) 0 = xt (F := F) (tbl m 0) (t.val % 32) :=
  ((tr0_eq (tbl m) (grid0.coords t)).2.trans (xt_word (grid0.coords t) (tbl m 0))).trans (congrArg (xt (F := F) (tbl m 0)) (coords_eq t).2)

/-- A block of 512 rows of `x`, read at an index whose coordinates are known. -/
theorem xrows_at {α : Type} (f : S16384x2560.Idx → α) (u : ℕ) (hu : u < 32) (y : S512x2560.Idx) (j : S16384x2560.Idx)
    (h0 : (j 0).val = u * 512 + 1 * (y 0).val) (h1 : (j 1).val = 0 * 2560 + 1 * (y 1).val) : f j = xrows f u y := by
  unfold xrows
  congr 1
  funext a
  apply Fin.ext
  fin_cases a
  · show (j 0).val = 512 * (u % 32) + (y 0).val
    rw [h0]; omega
  · show (j 1).val = (y 1).val
    rw [h1]; omega

attribute [local irreducible] cc0_transform_0 in
/-- The block of `x` at a point: the rows of the tile fetched. -/
theorem iblk_0 (c : Dev nD) (t : Fin (cfgM m).N) : iblk m c 0 t = (DI m c).X (t.val % 32) :=
  funext fun y => xrows_at (V m c main_v0) (xt (F := F) (tbl m 0) (t.val % 32)) (xt_lt _ _ (Nat.mod_lt _ (by decide))) y
    ((((cfgM m).win 0).blk t).view.emb y)
    (congrArg (fun k => k * 512 + 1 * (y 0).val) (tr0_t m t))
    (congrArg (fun k => k * 2560 + 1 * (y 1).val) (tr0_eq (tbl m) (grid0.coords t)).1)

/-- The windows of `w`, the codes, the scales, `b` and `d_b` follow the column tile alone. -/
theorem tr_col : ∀ t : Fin 320, cc0_transform_1 (grid0.coords t) = ![0, t.val / 32] ∧ cc0_transform_2 (grid0.coords t) = ![0, t.val / 32]
    ∧ cc0_transform_3 (grid0.coords t) = ![0, 0, t.val / 32] ∧ cc0_transform_5 (grid0.coords t) = ![0, t.val / 32]
    ∧ cc0_transform_9 (grid0.coords t) = ![0, t.val / 32] := by decide +kernel

/-- The windows of the loss and `g` follow the row tile in the last column, and stay on the first block before it. -/
theorem tr_row : ∀ t : Fin 320, cc0_transform_6 (grid0.coords t) = ![if t.val / 32 = 9 then t.val % 32 else 0, 0, 0]
    ∧ cc0_transform_7 (grid0.coords t) = ![if t.val / 32 = 9 then t.val % 32 else 0, 0] := by decide +kernel

/-- There are 320 points. -/
theorem lt320 (t : Fin (cfgM m).N) : t.val < 320 := t.isLt

/-- The block of `w` at a point: the columns of its column tile. -/
theorem iblk_1 (c : Dev nD) (t : Fin (cfgM m).N) : iblk m c 1 t = (DI m c).W (t.val / 32) := by
  have ht := lt320 m t
  funext y
  show V m c main_arg2 ((((cfgM m).win 1).blk t).view.emb y) = V m c main_arg2 _
  congr 1
  funext a
  apply Fin.ext
  fin_cases a
  · show cc0_transform_1 (grid0.coords t) 0 * 2560 + 1 * (y 0).val = (y 0).val
    rw [(tr_col t).1]; show 0 * 2560 + 1 * (y 0).val = (y 0).val; omega
  · show cc0_transform_1 (grid0.coords t) 1 * 1024 + 1 * (y 1).val = 1024 * (t.val / 32 % 10) + (y 1).val
    rw [(tr_col t).1]; show t.val / 32 * 1024 + 1 * (y 1).val = 1024 * (t.val / 32 % 10) + (y 1).val; omega

/-- The block of the codes at a point: the columns of its column tile. -/
theorem iblk_2 (c : Dev nD) (t : Fin (cfgM m).N) : iblk m c 2 t = (DI m c).C (t.val / 32) := by
  have ht := lt320 m t
  funext y
  show V m c main_arg3 ((((cfgM m).win 2).blk t).view.emb y) = V m c main_arg3 _
  congr 1
  funext a
  apply Fin.ext
  fin_cases a
  · show cc0_transform_2 (grid0.coords t) 0 * 1280 + 1 * (y 0).val = (y 0).val
    rw [(tr_col t).2.1]; show 0 * 1280 + 1 * (y 0).val = (y 0).val; omega
  · show cc0_transform_2 (grid0.coords t) 1 * 1024 + 1 * (y 1).val = 1024 * (t.val / 32 % 10) + (y 1).val
    rw [(tr_col t).2.1]; show t.val / 32 * 1024 + 1 * (y 1).val = 1024 * (t.val / 32 % 10) + (y 1).val; omega

/-- The block of the scales at a point: the columns of its column tile. -/
theorem iblk_3 (c : Dev nD) (t : Fin (cfgM m).N) : iblk m c 3 t = (DI m c).S (t.val / 32) := by
  have ht := lt320 m t
  funext y
  show V m c main_v1 ((((cfgM m).win 3).blk t).view.emb y) = V m c main_v1 _
  congr 1
  funext a
  apply Fin.ext
  have z : ∀ q : Fin 1, q.val = 0 := fun q => Fin.val_eq_zero q
  fin_cases a
  · show cc0_transform_3 (grid0.coords t) 0 * 20 + 1 * (y 0).val = (y 0).val
    rw [(tr_col t).2.2.1]; show 0 * 20 + 1 * (y 0).val = (y 0).val; omega
  · show cc0_transform_3 (grid0.coords t) 1 * 1 + 1 * (y 1).val = 0
    rw [(tr_col t).2.2.1, show (y 1).val = 0 from z _]; rfl
  · show cc0_transform_3 (grid0.coords t) 2 * 1024 + 1 * (y 2).val = 1024 * (t.val / 32 % 10) + (y 2).val
    rw [(tr_col t).2.2.1]; show t.val / 32 * 1024 + 1 * (y 2).val = 1024 * (t.val / 32 % 10) + (y 2).val; omega

/-- The block of `a` at a point: all of it. -/
theorem iblk_4 (c : Dev nD) (t : Fin (cfgM m).N) : iblk m c 4 t = (DI m c).A := by
  funext y
  show V m c main_arg5 ((((cfgM m).win 4).blk t).view.emb y) = V m c main_arg5 _
  congr 1
  funext a
  apply Fin.ext
  fin_cases a
  · show 0 * 2560 + 1 * (y 0).val = (y 0).val; omega
  · show 0 * 48 + 1 * (y 1).val = (y 1).val; omega

/-- The block of `b` at a point: the columns of its column tile. -/
theorem iblk_5 (c : Dev nD) (t : Fin (cfgM m).N) : iblk m c 5 t = (DI m c).B (t.val / 32) := by
  have ht := lt320 m t
  funext y
  show V m c main_arg6 ((((cfgM m).win 5).blk t).view.emb y) = V m c main_arg6 _
  congr 1
  funext a
  apply Fin.ext
  fin_cases a
  · show cc0_transform_5 (grid0.coords t) 0 * 48 + 1 * (y 0).val = (y 0).val
    rw [(tr_col t).2.2.2.1]; show 0 * 48 + 1 * (y 0).val = (y 0).val; omega
  · show cc0_transform_5 (grid0.coords t) 1 * 1024 + 1 * (y 1).val = 1024 * (t.val / 32 % 10) + (y 1).val
    rw [(tr_col t).2.2.2.1]; show t.val / 32 * 1024 + 1 * (y 1).val = 1024 * (t.val / 32 % 10) + (y 1).val; omega

/-- The loss of tile `u`. -/
def outLoss (D : In F) (u : ℕ) : S1x1x512.Idx → Elt F .f32 := if D.ok u then k0_pay10 (D.L u 10) else k0_pay12 (F := F)
/-- `g` of tile `u`. -/
def outG (D : In F) (u : ℕ) : S512x48.Idx → Elt F .f32 := if D.ok u then D.G u 10 else k0_pay11 (F := F)
/-- `d_a` after point `(n, u)`. -/
def outDa (D : In F) (n u : ℕ) : S2560x48.Idx → Elt F .f32 := if n = 9 then D.DA (u + 1) else D.DA 0

/-- The scratch carried into a point. -/
def carried (c : Dev nD) (n u : ℕ) : sProp 𝕄G :=
  iprop(∃ e pb gacc lacc, ⌜Inv (DI m c) n u e pb gacc lacc⌝ ∗ owns (c : Thread nD τ) (Memref.whole cc0_scratch0) fullShare e
    ∗ owns (c : Thread nD τ) (Memref.whole cc0_scratch1) fullShare pb ∗ owns (c : Thread nD τ) (Memref.whole cc0_scratch2) fullShare gacc
    ∗ owns (c : Thread nD τ) (Memref.whole cc0_scratch3) fullShare lacc)

/-- What is carried into point `t`. -/
def PhiV (c : Dev nD) (t : ℕ) : sProp 𝕄G := iprop((carried m c (t / 32) (t % 32) ∗ ∃ r, prngReg c r) ∗ Pipeline.ΦT pre0 (tbl m) c)

/-- What every staging buffer holds after every point, and what is carried between points. -/
def datv (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outLoss (DI m c) (t.val % 32)
    | ⟨7, _⟩ => outG (DI m c) (t.val % 32)
    | ⟨8, _⟩ => outDa (DI m c) (t.val / 32) (t.val % 32)
    | ⟨9, _⟩ => (DI m c).DB (t.val / 32) (t.val % 32 + 1)
  Φ t := PhiV m c t.val
  q _ := fullShare
  owed _ := 0

/-- The body finds in the buffer of `x` its block. -/
theorem vbefore_0 (c : Dev nD) (t : Fin (cfgM m).N) (d) : (datv m 0 c).before 0 t d = iblk m c 0 t :=
  ((datv m 0 c).before_in_eq_fetched 0 rfl (fun _ => rfl) (fun _ _ _ => rfl) (fun _ => rfl) t d).trans rfl
/-- The body finds in the buffer of `w` its block. -/
theorem vbefore_1 (c : Dev nD) (t : Fin (cfgM m).N) (d) : (datv m 0 c).before 1 t d = iblk m c 1 t :=
  ((datv m 0 c).before_in_eq_fetched 1 rfl (fun _ => rfl) (fun _ _ _ => rfl) (fun _ => rfl) t d).trans rfl
/-- The body finds in the buffer of the codes its block. -/
theorem vbefore_2 (c : Dev nD) (t : Fin (cfgM m).N) (d) : (datv m 0 c).before 2 t d = iblk m c 2 t :=
  ((datv m 0 c).before_in_eq_fetched 2 rfl (fun _ => rfl) (fun _ _ _ => rfl) (fun _ => rfl) t d).trans rfl
/-- The body finds in the buffer of the scales its block. -/
theorem vbefore_3 (c : Dev nD) (t : Fin (cfgM m).N) (d) : (datv m 0 c).before 3 t d = iblk m c 3 t :=
  ((datv m 0 c).before_in_eq_fetched 3 rfl (fun _ => rfl) (fun _ _ _ => rfl) (fun _ => rfl) t d).trans rfl
/-- The body finds in the buffer of `a` its block. -/
theorem vbefore_4 (c : Dev nD) (t : Fin (cfgM m).N) (d) : (datv m 0 c).before 4 t d = iblk m c 4 t :=
  ((datv m 0 c).before_in_eq_fetched 4 rfl (fun _ => rfl) (fun _ _ _ => rfl) (fun _ => rfl) t d).trans rfl
/-- The body finds in the buffer of `b` its block. -/
theorem vbefore_5 (c : Dev nD) (t : Fin (cfgM m).N) (d) : (datv m 0 c).before 5 t d = iblk m c 5 t :=
  ((datv m 0 c).before_in_eq_fetched 5 rfl (fun _ => rfl) (fun _ _ _ => rfl) (fun _ => rfl) t d).trans rfl

/-! ## The write-backs and the idle points -/

/-- The loss is written out at the points of the last column. -/
theorem flush_row6 : ∀ t : Fin grid0.N, Window.flushOf grid0 true cc0_transform_6 t = decide (288 ≤ t.val) := by
  simp only [Window.flushOf, ne_eq, funext_iff, not_forall]; decide +kernel
/-- `g` is written out at the points of the last column. -/
theorem flush_row7 : ∀ t : Fin grid0.N, Window.flushOf grid0 true cc0_transform_7 t = decide (288 ≤ t.val) := by
  simp only [Window.flushOf, ne_eq, funext_iff, not_forall]; decide +kernel
/-- `d_a` is written out at the last point. -/
theorem flush_col8 : ∀ t : Fin grid0.N, Window.flushOf grid0 true cc0_transform_8 t = decide (t.val = 319) := by
  simp only [Window.flushOf, ne_eq, funext_iff, not_forall]; decide +kernel
/-- `d_b` is written out at the last row tile of every column. -/
theorem flush_col9 : ∀ t : Fin grid0.N, Window.flushOf grid0 true cc0_transform_9 t = decide (t.val % 32 = 31) := by
  simp only [Window.flushOf, ne_eq, funext_iff, not_forall]; decide +kernel

/-- When the launch's window of the loss is written out. -/
theorem flush_6 (t : Fin (cfgM m).N) : ((cfgM m).win 6).flush t = decide (288 ≤ t.val) := (((cfgM m).win 6).flush_eq_flushOf t).trans (flush_row6 t)
/-- When the launch's window of `g` is written out. -/
theorem flush_7 (t : Fin (cfgM m).N) : ((cfgM m).win 7).flush t = decide (288 ≤ t.val) := (((cfgM m).win 7).flush_eq_flushOf t).trans (flush_row7 t)
/-- When the launch's window of `d_a` is written out. -/
theorem flush_8 (t : Fin (cfgM m).N) : ((cfgM m).win 8).flush t = decide (t.val = 319) := (((cfgM m).win 8).flush_eq_flushOf t).trans (flush_col8 t)
/-- When the launch's window of `d_b` is written out. -/
theorem flush_9 (t : Fin (cfgM m).N) : ((cfgM m).win 9).flush t = decide (t.val % 32 = 31) := (((cfgM m).win 9).flush_eq_flushOf t).trans (flush_col9 t)

/-- The body leaves the loss and `g` alone exactly outside the last column. -/
theorem idle6_iff (i : grid0.Coords) (v : BitVec 32) : (!(k0_cond5 i v == 1#1) && !(k0_cond6 i v == 1#1)) = true ↔ (i 0).val ≠ 9 := by
  rw [Bool.and_eq_true, Bool.not_eq_true', Bool.not_eq_true', beq_eq_false_iff_ne, beq_eq_false_iff_ne, ne_eq, ne_eq, cond5_iff, cond6_iff]
  tauto

/-- The body leaves `d_a` alone exactly where it neither zeroes it, at the first point, nor adds to it, at a tile with valid rows in the last column. -/
theorem idle8_iff (i : grid0.Coords) (v : BitVec 32) : (!(k0_cond2 i == 1#1) && !(k0_cond5 i v == 1#1)) = true
    ↔ ¬ ((i 0).val = 0 ∧ (i 1).val = 0) ∧ ¬ ((i 0).val = 9 ∧ valid i v) := by
  rw [Bool.and_eq_true, Bool.not_eq_true', Bool.not_eq_true', beq_eq_false_iff_ne, beq_eq_false_iff_ne, ne_eq, ne_eq, cond5_iff, cond2_iff]

/-- The body leaves `d_b` alone exactly where it neither zeroes it, at the first row tile, nor adds to it, at a tile with valid rows. -/
theorem idle9_iff (i : grid0.Coords) (v : BitVec 32) : (!(k0_cond1 i == 1#1) && !(k0_cond4 i v == 1#1)) = true ↔ (i 1).val ≠ 0 ∧ ¬ valid i v := by
  rw [Bool.and_eq_true, Bool.not_eq_true', Bool.not_eq_true', beq_eq_false_iff_ne, beq_eq_false_iff_ne, ne_eq, ne_eq, cond1_iff, cond4_iff]

/-- A tile with rows, off the schedule's table. -/
theorem valid_t (c : Dev nD) (t : Fin (cfgM m).N) : valid (grid0.coords t) ((tbl m).atD 0 (k0_off1 (grid0.coords t))) ↔ (DI m c).ok (t.val % 32) :=
  (iff_of_eq (congrArg (valid (grid0.coords t)) (atD_eq (grid0.coords t) (tbl m)))).trans
    ((valid_word (DI m c) (grid0.coords t)).trans (iff_of_eq (congrArg (DI m c).ok (coords_eq t).2)))

/-- The points at which the window of the loss is left alone. -/
theorem idle_6 (t : Fin (cfgM m).N) : (cfgM m).idle 6 ((cfgM m).grid.coords t) = true ↔ t.val / 32 ≠ 9 := by
  refine (idle6_iff (grid0.coords t) ((tbl m).atD 0 (k0_off1 (grid0.coords t)))).trans ?_
  rw [(coords_eq t).1]

/-- The points at which the window of `g` is left alone. -/
theorem idle_7 (t : Fin (cfgM m).N) : (cfgM m).idle 7 ((cfgM m).grid.coords t) = true ↔ t.val / 32 ≠ 9 := idle_6 m t

/-- The points at which the window of `d_a` is left alone. -/
theorem idle_8 (c : Dev nD) (t : Fin (cfgM m).N) : (cfgM m).idle 8 ((cfgM m).grid.coords t) = true ↔ t.val ≠ 0 ∧ ¬ (t.val / 32 = 9 ∧ (DI m c).ok (t.val % 32)) := by
  refine (idle8_iff (grid0.coords t) ((tbl m).atD 0 (k0_off1 (grid0.coords t)))).trans ?_
  refine and_congr ?_ (not_congr (and_congr ?_ (valid_t m c t)))
  · rw [(coords_eq t).1, (coords_eq t).2]; omega
  · rw [(coords_eq t).1]

/-- The points at which the window of `d_b` is left alone. -/
theorem idle_9 (c : Dev nD) (t : Fin (cfgM m).N) : (cfgM m).idle 9 ((cfgM m).grid.coords t) = true ↔ t.val % 32 ≠ 0 ∧ ¬ (DI m c).ok (t.val % 32) := by
  refine (idle9_iff (grid0.coords t) ((tbl m).atD 0 (k0_off1 (grid0.coords t)))).trans ?_
  refine and_congr ?_ (not_congr (valid_t m c t))
  rw [(coords_eq t).2]

/-- `d_a` does not change at a point that does not write it. -/
theorem carry_8 (c : Dev nD) (t : Fin (cfgM m).N) (h0 : t.val ≠ 0) (hi : (cfgM m).idle 8 ((cfgM m).grid.coords t) = true) :
    (datv m 0 c).after 8 t = (datv m 0 c).after 8 ⟨t.val - 1, by have := t.isLt; omega⟩ := by
  have ht := lt320 m t
  obtain ⟨-, hn⟩ := (idle_8 m c t).mp hi
  show outDa (DI m c) (t.val / 32) (t.val % 32) = outDa (DI m c) ((t.val - 1) / 32) ((t.val - 1) % 32)
  unfold outDa
  by_cases h9 : t.val / 32 = 9
  · have hok : ¬ (DI m c).ok (t.val % 32) := fun h => hn ⟨h9, h⟩
    rw [if_pos h9, show (DI m c).DA (t.val % 32 + 1) = (DI m c).DA (t.val % 32) from if_neg hok]
    by_cases hu : t.val % 32 = 0
    · rw [if_neg (by omega), hu]
    · rw [if_pos (by omega), show (t.val - 1) % 32 + 1 = t.val % 32 by omega]
  · rw [if_neg h9, if_neg (by omega)]

/-- `d_b` does not change at a point that does not write it. -/
theorem carry_9 (c : Dev nD) (t : Fin (cfgM m).N) (h0 : t.val ≠ 0) (hi : (cfgM m).idle 9 ((cfgM m).grid.coords t) = true) :
    (datv m 0 c).after 9 t = (datv m 0 c).after 9 ⟨t.val - 1, by have := t.isLt; omega⟩ := by
  have ht := lt320 m t
  obtain ⟨hu, hok⟩ := (idle_9 m c t).mp hi
  show (DI m c).DB (t.val / 32) (t.val % 32 + 1) = (DI m c).DB ((t.val - 1) / 32) ((t.val - 1) % 32 + 1)
  rw [show (DI m c).DB (t.val / 32) (t.val % 32 + 1) = (DI m c).DB (t.val / 32) (t.val % 32) from if_neg hok, show (t.val - 1) % 32 + 1 = t.val % 32 by omega, show (t.val - 1) / 32 = t.val / 32 by omega]

/-- After the first point the buffer of `d_a` is not a new one. -/
theorem fresh_8 (n : ℕ) (h0 : 0 < n) (hn : n < 320) : (cfgM m).fresh 8 n = false := by
  induction n with
  | zero => omega
  | succ n ih =>
    have hlt : n < (cfgM m).N := by show n < 320; omega
    rw [Cfg.fresh_succ (cfgM m) 8 n hlt, flush_8]
    have : decide (n = 319) = false := decide_eq_false (by omega)
    show (decide (n = 319) || _) = false
    rw [this, Bool.false_or]
    by_cases hz : n = 0
    · have : (cfgM m).idle 8 ((cfgM m).grid.coords ⟨n, hlt⟩) = false := by
        rw [← Bool.not_eq_true, idle_8 m (0 : Dev nD)]
        exact fun h => h.1 hz
      rw [this, Bool.false_and]
    · rw [ih (by omega) (by omega), Bool.and_false]

/-- Within a column the buffer of `d_b` is not a new one. -/
theorem fresh_9 (n : ℕ) (h0 : n % 32 ≠ 0) (hn : n < 320) : (cfgM m).fresh 9 n = false := by
  induction n with
  | zero => omega
  | succ n ih =>
    have hlt : n < (cfgM m).N := by show n < 320; omega
    rw [Cfg.fresh_succ (cfgM m) 9 n hlt, flush_9]
    have : decide (n % 32 = 31) = false := decide_eq_false (by omega)
    show (decide (n % 32 = 31) || _) = false
    rw [this, Bool.false_or]
    by_cases hz : n % 32 = 0
    · have : (cfgM m).idle 9 ((cfgM m).grid.coords ⟨n, hlt⟩) = false := by
        rw [← Bool.not_eq_true, idle_9 m (0 : Dev nD)]
        exact fun h => h.1 hz
      rw [this, Bool.false_and]
    · rw [ih hz (by omega), Bool.and_false]

/-- After the first point the body finds in `d_a` what the point before left. -/
theorem before_8 (c : Dev nD) (t : Fin (cfgM m).N) (h0 : t.val ≠ 0) (d) :
    (datv m 0 c).before 8 t d = outDa (DI m c) ((t.val - 1) / 32) ((t.val - 1) % 32) := by
  have ht := lt320 m t
  refine ((datv m 0 c).before_out_traj 8 rfl (fun _ _ => rfl) (fun t h0 hi _ => carry_8 m c t h0 hi) t.val t rfl d).trans ?_
  rw [fresh_8 m t.val (by omega) ht, if_neg Bool.false_ne_true]
  rfl

/-- Within a column the body finds in `d_b` the sum over the row tiles so far. -/
theorem before_9 (c : Dev nD) (t : Fin (cfgM m).N) (h0 : t.val % 32 ≠ 0) (d) :
    (datv m 0 c).before 9 t d = (DI m c).DB (t.val / 32) (t.val % 32) := by
  have ht := lt320 m t
  refine ((datv m 0 c).before_out_traj 9 rfl (fun _ _ => rfl) (fun t h0 hi _ => carry_9 m c t h0 hi) t.val t rfl d).trans ?_
  rw [fresh_9 m t.val h0 ht, if_neg Bool.false_ne_true]
  show (DI m c).DB ((t.val - 1) / 32) ((t.val - 1) % 32 + 1) = _
  rw [show (t.val - 1) % 32 + 1 = t.val % 32 by omega, show (t.val - 1) / 32 = t.val / 32 by omega]

/-- Before the last column tile the body writes neither the loss nor `g`. -/
theorem sBody_keeps (i : grid0.Coords) (v : BitVec 32) (st : St F) (h : (i 0).val ≠ 9) :
    (sBody i v st).loss = st.loss ∧ (sBody i v st).g = st.g := by
  have h6 : ∀ s : St F, s6 i v s = s := fun s => if_neg fun hc => h ((cond6_iff i v).mp hc).1
  have h5 : ∀ s : St F, s5 i v s = s := fun s => if_neg fun hc => h ((cond5_iff i v).mp hc).1
  unfold sBody
  rw [h6, h5]
  have h4 : ∀ s : St F, (s4 i v s).loss = s.loss ∧ (s4 i v s).g = s.g := fun s => by unfold s4; split <;> exact ⟨rfl, rfl⟩
  have h3 : ∀ s : St F, (s3 i v s).loss = s.loss ∧ (s3 i v s).g = s.g := fun s => by unfold s3; split <;> exact ⟨rfl, rfl⟩
  have h2 : ∀ s : St F, (s2 i s).loss = s.loss ∧ (s2 i s).g = s.g := fun s => by unfold s2; split <;> exact ⟨rfl, rfl⟩
  have h1 : ∀ s : St F, (s1 i s).loss = s.loss ∧ (s1 i s).g = s.g := fun s => by unfold s1; split <;> exact ⟨rfl, rfl⟩
  exact ⟨((h4 _).1.trans (h3 _).1).trans ((h2 _).1.trans (h1 _).1), ((h4 _).2.trans (h3 _).2).trans ((h2 _).2.trans (h1 _).2)⟩

/-- What the obligation asks of an output's staging buffer, from its contents: what the body left where it is used, what was found
    where it is not. -/
theorem leave_out (c : Dev nD) (w : Fin (cfgM m).W) (t : Fin (cfgM m).N) (X d : ((cfgM m).win w).block.Idx → Elt F ((cfgM m).win w).elt)
    (hlive : (cfgM m).idle w ((cfgM m).grid.coords t) = false → X = (datv m 0 c).after w t)
    (hidle : (cfgM m).idle w ((cfgM m).grid.coords t) = true → ((cfgM m).win w).flush t = false → X = (datv m 0 c).before w t d)
    (hflush : (cfgM m).idle w ((cfgM m).grid.coords t) = true → ((cfgM m).win w).flush t = true → X = (datv m 0 c).after w t) :
    (owns (c : Thread nD τ) (((cfgM m).win w).stage ((cfgM m).slots t w)) fullShare X : sProp 𝕄G)
      ⊢ (match (cfgM m).idle w ((cfgM m).grid.coords t) with
          | true =>
            match ((cfgM m).win w).flush t with
            | false => iprop(∃ d, owns (c : Thread nD τ) (((cfgM m).win w).stage ((cfgM m).slots t w)) fullShare ((datv m 0 c).before w t d))
            | true => owns (c : Thread nD τ) (((cfgM m).win w).stage ((cfgM m).slots t w)) fullShare ((datv m 0 c).after w t)
          | false => owns (c : Thread nD τ) (((cfgM m).win w).stage ((cfgM m).slots t w)) fullShare ((datv m 0 c).after w t) : sProp 𝕄G) := by
  cases hi : (cfgM m).idle w ((cfgM m).grid.coords t) with
  | false => exact eq_entails (congrArg _ (hlive hi))
  | true =>
    cases hf : ((cfgM m).win w).flush t with
    | false =>
      have e := hidle hi hf
      subst e
      iintro H
      iexists d
      iexact H
    | true => exact eq_entails (congrArg _ (hflush hi hf))

end Cert.KernelIdeal.Hand

end
-- ==== Proof.ObI.lean ====
/- The body's obligation at every point, and the run with every buffer's contents. -/
module

public import proofs.«01_k».proof.Proof.DatI

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal.Gen Cert.Steps

variable {F : FTy → Type} [FloatOps F] [∀ e, Nonempty (Elt F e)]

local notation "𝕄G" => MT nD τ sig Unit (Elt F) ℕ (UR sig nD τ) ℕ

variable (m : (ℓ : Loc nD τ sig) → Buf (Elt F) ℓ)

/-- The carried scratch forgets to any contents. -/
theorem carried_forget (c : Dev nD) (n u : ℕ) : iprop(carried m c n u ∗ ∃ r, prngReg c r) ⊢ (Pipeline.ΦA spec0 c : sProp 𝕄G) := by
  rw [PhiA_eq]
  simp only [← own_whole]
  unfold carried
  iintro ⟨⟨%e, %pb, %gacc, %lacc, -, S0, S1, S2, S3⟩, HP⟩
  isplitr [HP]
  · isplitl [S0]; · iexists _; iexact S0
    isplitl [S1]; · iexists _; iexact S1
    isplitl [S2]; · iexists _; iexact S2
    iexists _; iexact S3
  · iexact HP

/-- Nothing is asked of the scratch before the first point. -/
theorem inv_first (D : In F) (e pb gacc lacc) : Inv D 0 0 e pb gacc lacc :=
  ⟨fun h => absurd h (by omega), fun m' _ h => absurd h (by omega), fun m' _ h => absurd h (by omega), fun m' _ h => absurd h (by omega)⟩

/-- The scratch as the launch hands it over is what is claimed to hold before the first point. -/
theorem carried_first (c : Dev nD) : (Pipeline.ΦA spec0 c : sProp 𝕄G) ⊢ iprop(carried m c 0 0 ∗ ∃ r, prngReg c r) := by
  rw [PhiA_eq]
  simp only [← own_whole]
  unfold carried
  iintro ⟨⟨⟨%f0, S0⟩, ⟨%f1, S1⟩, ⟨%f2, S2⟩, ⟨%f3, S3⟩⟩, HP⟩
  isplitr [HP]
  · iexists f0, f1, f2, f3
    isplitr; · ipureintro; exact inv_first _ _ _ _ _
    isplitl [S0]; · iexact S0
    isplitl [S1]; · iexact S1
    isplitl [S2]; · iexact S2
    iexact S3
  · iexact HP

/-- What the body finds in `d_a` and `d_b`. -/
theorem found (c : Dev nD) (t : Fin (cfgM m).N) (d8 d9) :
    Fnd (DI m c) (t.val / 32) (t.val % 32) ((datv m 0 c).before 8 t d8) ((datv m 0 c).before 9 t d9) := by
  have ht := lt320 m t
  refine ⟨fun h => before_9 m c t (by omega) d9, fun h => ?_⟩
  have h0 : t.val ≠ 0 := by omega
  rw [before_8 m c t h0 d8]
  unfold outDa
  by_cases hu : t.val % 32 = 0
  · rw [if_neg (by omega), hu]; exact (ite_self _).symm
  · rw [show (t.val - 1) / 32 = t.val / 32 by omega, show (t.val - 1) % 32 + 1 = t.val % 32 by omega]

/-- What the body leaves is what is claimed before the next point. -/
theorem left_next (D : In F) (t : ℕ) (st : St F) (h : Left D (t / 32) (t % 32) st) :
    Inv D ((t + 1) / 32) ((t + 1) % 32) st.e st.pb st.gacc st.lacc := by
  by_cases hu : t % 32 = 31
  · rw [show (t + 1) / 32 = t / 32 + 1 by omega, show (t + 1) % 32 = 0 by omega]
    rw [hu] at h
    exact h.inv_next
  · rw [show (t + 1) / 32 = t / 32 by omega, show (t + 1) % 32 = t % 32 + 1 by omega]
    exact h.inv

/-- The claim of the launch after some number of points is the one of that number. -/
theorem phi_at (c : Dev nD) (s : Fin ((cfgM m).N + 1)) : (datv m 0 c).Φ s = PhiV m c s.val := rfl
/-- The claim before a point. -/
theorem phi_pre (c : Dev nD) (t : Fin (cfgM m).N) : (datv m 0 c).Φ t.castSucc = PhiV m c t.val :=
  (phi_at m c t.castSucc).trans (congrArg (PhiV m c) (Fin.val_castSucc t))
/-- The claim after a point. -/
theorem phi_post (c : Dev nD) (t : Fin (cfgM m).N) : (datv m 0 c).Φ t.succ = PhiV m c (t.val + 1) :=
  (phi_at m c t.succ).trans (congrArg (PhiV m c) (Fin.val_succ t))

set_option maxHeartbeats 1000000 in
attribute [local irreducible] PhiV cc0_transform_0 in
/-- At every point the body takes what is claimed to hold before it to what is claimed to hold after it. -/
theorem body_obligation_v (c : Dev nD) : BodyObligation (datv (F := F) m 0 c) (defs₀ (F := F)) Variants.none () Set.univ := fun t => by
  have ht := lt320 m t
  obtain ⟨hc0, hc1⟩ := coords_eq t
  rw [bigSep_W0, bigSep_W0]
  dsimp only
  rw [phi_pre m c t, phi_post m c t]
  unfold PhiV
  rw [PhiT_eq]
  unfold carried
  iintro ⟨⟨⟨⟨%e, %pb, %gacc, %lacc, %hI, S0, S1, S2, S3⟩, HP⟩, HT⟩, HO, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩⟩
  sl_rw [prog_eq m t]
  have hfnd := found m c t d8 d9
  have hcar8 := fun h0 hi => (before_8 m c t h0 d8).trans (carry_8 m c t h0 hi).symm
  have hcar9 := fun hi => (before_9 m c t ((idle_9 m c t).mp hi).1 d9).trans
    (show (DI m c).DB (t.val / 32) (t.val % 32) = (DI m c).DB (t.val / 32) (t.val % 32 + 1) from (if_neg ((idle_9 m c t).mp hi).2).symm)
  have hin := sBody_inputs (grid0.coords t) (word (grid0.coords t) (tbl m 0))
    (⟨iblk m c 0 t, iblk m c 1 t, iblk m c 2 t, iblk m c 3 t, iblk m c 4 t, iblk m c 5 t, (datv m 0 c).before 6 t d6, (datv m 0 c).before 7 t d7, (datv m 0 c).before 8 t d8, (datv m 0 c).before 9 t d9, e, pb, gacc, lacc⟩ : St F)
  have hL := sBody_left (DI m c) (fun n i h1 st hw hcd hsc => by rw [eloop_eq, hw, hcd, hsc]; rfl) (grid0.coords t)
    (⟨iblk m c 0 t, iblk m c 1 t, iblk m c 2 t, iblk m c 3 t, iblk m c 4 t, iblk m c 5 t, (datv m 0 c).before 6 t d6, (datv m 0 c).before 7 t d7, (datv m 0 c).before 8 t d8, (datv m 0 c).before 9 t d9, e, pb, gacc, lacc⟩ : St F)
    (by rw [hc0, hc1]; exact ⟨iblk_0 m c t, iblk_1 m c t, iblk_2 m c t, iblk_3 m c t, iblk_4 m c t, iblk_5 m c t⟩)
    (by rw [hc0, hc1]; exact hI) (by rw [hc0, hc1]; exact hfnd)
  have hk := sBody_keeps (grid0.coords t) (word (grid0.coords t) (tbl m 0))
    (⟨iblk m c 0 t, iblk m c 1 t, iblk m c 2 t, iblk m c 3 t, iblk m c 4 t, iblk m c 5 t, (datv m 0 c).before 6 t d6, (datv m 0 c).before 7 t d7, (datv m 0 c).before 8 t d8, (datv m 0 c).before 9 t d9, e, pb, gacc, lacc⟩ : St F)
  rw [hc0] at hk
  rw [hc0, hc1] at hL
  ihave Hk := ((run_body (F := F) Variants.none c none Set.univ fullShare.right (refs m t) (tbl m 0) (grid0.coords t)
    ⟨iblk m c 0 t, iblk m c 1 t, iblk m c 2 t, iblk m c 3 t, iblk m c 4 t, iblk m c 5 t, (datv m 0 c).before 6 t d6, (datv m 0 c).before 7 t d7, (datv m 0 c).before 8 t d8, (datv m 0 c).before 9 t d9, e, pb, gacc, lacc⟩).trans (wp_wand _ _ _)) $$ [HT W0 W1 W2 W3 W4 W5 W6 W7 W8 W9 S0 S1 S2 S3]
  · unfold Own
    isplitl [HT]; · iexact HT
    isplitl [W0]; · iapply (eq_entails (congrArg (owns (c : Thread nD τ) (refs m t).arg3 fullShare) (vbefore_0 m c t d0))); iexact W0
    isplitl [W1]; · iapply (eq_entails (congrArg (owns (c : Thread nD τ) (refs m t).arg4 fullShare) (vbefore_1 m c t d1))); iexact W1
    isplitl [W2]; · iapply (eq_entails (congrArg (owns (c : Thread nD τ) (refs m t).arg5 fullShare) (vbefore_2 m c t d2))); iexact W2
    isplitl [W3]; · iapply (eq_entails (congrArg (owns (c : Thread nD τ) (refs m t).arg6 fullShare) (vbefore_3 m c t d3))); iexact W3
    isplitl [W4]; · iapply (eq_entails (congrArg (owns (c : Thread nD τ) (refs m t).arg7 fullShare) (vbefore_4 m c t d4))); iexact W4
    isplitl [W5]; · iapply (eq_entails (congrArg (owns (c : Thread nD τ) (refs m t).arg8 fullShare) (vbefore_5 m c t d5))); iexact W5
    isplitl [W6]; · iexact W6
    isplitl [W7]; · iexact W7
    isplitl [W8]; · iexact W8
    isplitl [W9]; · iexact W9
    isplitl [S0]; · iexact S0
    isplitl [S1]; · iexact S1
    isplitl [S2]; · iexact S2
    iexact S3
  iapply Hk
  iintro %_ HOwn
  unfold Own
  rw [hin.1, hin.2.1, hin.2.2.1, hin.2.2.2.1, hin.2.2.2.2.1, hin.2.2.2.2.2]
  icases HOwn with ⟨HT, W0, W1, W2, W3, W4, W5, W6, W7, W8, W9, S0, S1, S2, S3⟩
  isplitl [HT S0 S1 S2 S3 HP]
  · isplitr [HT]
    · isplitr [HP]
      · iexists (sBody (grid0.coords t) (word (grid0.coords t) (tbl m 0)) (⟨iblk m c 0 t, iblk m c 1 t, iblk m c 2 t, iblk m c 3 t, iblk m c 4 t, iblk m c 5 t, (datv m 0 c).before 6 t d6, (datv m 0 c).before 7 t d7, (datv m 0 c).before 8 t d8, (datv m 0 c).before 9 t d9, e, pb, gacc, lacc⟩ : St F)).e, (sBody (grid0.coords t) (word (grid0.coords t) (tbl m 0)) (⟨iblk m c 0 t, iblk m c 1 t, iblk m c 2 t, iblk m c 3 t, iblk m c 4 t, iblk m c 5 t, (datv m 0 c).before 6 t d6, (datv m 0 c).before 7 t d7, (datv m 0 c).before 8 t d8, (datv m 0 c).before 9 t d9, e, pb, gacc, lacc⟩ : St F)).pb, (sBody (grid0.coords t) (word (grid0.coords t) (tbl m 0)) (⟨iblk m c 0 t, iblk m c 1 t, iblk m c 2 t, iblk m c 3 t, iblk m c 4 t, iblk m c 5 t, (datv m 0 c).before 6 t d6, (datv m 0 c).before 7 t d7, (datv m 0 c).before 8 t d8, (datv m 0 c).before 9 t d9, e, pb, gacc, lacc⟩ : St F)).gacc, (sBody (grid0.coords t) (word (grid0.coords t) (tbl m 0)) (⟨iblk m c 0 t, iblk m c 1 t, iblk m c 2 t, iblk m c 3 t, iblk m c 4 t, iblk m c 5 t, (datv m 0 c).before 6 t d6, (datv m 0 c).before 7 t d7, (datv m 0 c).before 8 t d8, (datv m 0 c).before 9 t d9, e, pb, gacc, lacc⟩ : St F)).lacc
        isplitr
        · ipureintro
          exact left_next (DI m c) t.val _ hL
        isplitl [S0]; · iexact S0
        isplitl [S1]; · iexact S1
        isplitl [S2]; · iexact S2
        iexact S3
      · iexact HP
    · iexact HT
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]
  · istop
    refine leave_out m c 6 t _ d6 ?_ ?_ ?_
    · exact fun h => hL.loss (by_contra fun h9 => by rw [(idle_6 m t).mpr h9] at h; exact Bool.noConfusion h)
    · exact fun h _ => (hk ((idle_6 m t).mp h)).1
    · exact fun h hf => absurd (of_decide_eq_true ((flush_6 m t).symm.trans hf)) (by have := (idle_6 m t).mp h; omega)
  isplitl [W7]
  · istop
    refine leave_out m c 7 t _ d7 ?_ ?_ ?_
    · exact fun h => hL.g (by_contra fun h9 => by rw [(idle_7 m t).mpr h9] at h; exact Bool.noConfusion h)
    · exact fun h _ => (hk ((idle_7 m t).mp h)).2
    · exact fun h hf => absurd (of_decide_eq_true ((flush_7 m t).symm.trans hf)) (by have := (idle_7 m t).mp h; omega)
  isplitl [W8]
  · istop
    refine leave_out m c 8 t _ d8 ?_ ?_ ?_
    · exact fun _ => hL.da
    · exact fun h _ => hL.da.trans (hcar8 ((idle_8 m c t).mp h).1 h).symm
    · exact fun _ _ => hL.da
  istop
  refine leave_out m c 9 t _ d9 ?_ ?_ ?_
  · exact fun _ => hL.db
  · exact fun h _ => hL.db.trans (hcar9 h).symm
  · exact fun _ _ => hL.db

end Cert.KernelIdeal.Hand

end
-- ==== Proof.FinI.lean ====
/- What the arrays hold after the last point, and the run to its end. -/
module

public import proofs.«01_k».proof.Proof.ObI
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline
open Cert.KernelIdeal.Gen Cert.Steps

variable {F : FTy → Type} [FloatOps F] [∀ e, Nonempty (Elt F e)]

local notation "𝕄G" => MT nD τ sig Unit (Elt F) ℕ (UR sig nD τ) ℕ

variable (m : (ℓ : Loc nD τ sig) → Buf (Elt F) ℓ)

/-- The losses of all tiles. -/
def allLoss (D : In F) : S32x1x512.Idx → Elt F .f32 := fun i => outLoss D (i 0).val (fun a => match a with
  | ⟨0, _⟩ => ⟨0, Nat.one_pos⟩
  | ⟨1, _⟩ => ⟨0, Nat.one_pos⟩
  | ⟨2, _⟩ => ⟨(i 2).val, (i 2).isLt⟩)
/-- `g` of all tiles. -/
def allG (D : In F) : S16384x48.Idx → Elt F .f32 := fun i => outG D ((i 0).val / 512) (fun a => match a with
  | ⟨0, _⟩ => ⟨(i 0).val % 512, Nat.mod_lt _ (by decide : 0 < 512)⟩
  | ⟨1, _⟩ => ⟨(i 1).val, (i 1).isLt⟩)
/-- `d_b` of all column tiles. -/
def allDb (D : In F) : S48x10240.Idx → Elt F .f32 := fun i => D.DB ((i 1).val / 1024) 32 (fun a => match a with
  | ⟨0, _⟩ => ⟨(i 0).val, (i 0).isLt⟩
  | ⟨1, _⟩ => ⟨(i 1).val % 1024, Nat.mod_lt _ (by decide : 0 < 1024)⟩)

/-- An element of a tile's losses is the element of all losses at its place. -/
theorem allLoss_at (D : In F) (k u : ℕ) (y : S1x1x512.Idx) (j : S32x1x512.Idx) (hu : k = u) (h0 : (j 0).val = k * 1 + (y 0).val)
    (h2 : (j 2).val = 0 * 512 + (y 2).val) : outLoss D u y = allLoss D j := by
  have z : ∀ q : Fin 1, q.val = 0 := fun q => Fin.val_eq_zero q
  have e0 : (y 0).val = 0 := z _
  have e1 : (y 1).val = 0 := z _
  subst hu
  unfold allLoss
  rw [h0, e0, show k * 1 + 0 = k by omega]
  congr 1
  funext a
  apply Fin.ext
  fin_cases a
  · exact e0
  · exact e1
  · show (y 2).val = (j 2).val
    omega

/-- An element of a tile's `g` is the element of all of `g` at its place. -/
theorem allG_at (D : In F) (k u : ℕ) (y : S512x48.Idx) (j : S16384x48.Idx) (hu : k = u) (h0 : (j 0).val = k * 512 + (y 0).val)
    (h1 : (j 1).val = 0 * 48 + (y 1).val) : outG D u y = allG D j := by
  have hy : (y 0).val < 512 := (y 0).isLt
  subst hu
  unfold allG
  rw [show (j 0).val / 512 = k by omega]
  congr 1
  funext a
  apply Fin.ext
  fin_cases a
  · show (y 0).val = (j 0).val % 512
    omega
  · show (y 1).val = (j 1).val
    omega

/-- An element of a column tile's `d_b` is the element of all of `d_b` at its place. -/
theorem allDb_at (D : In F) (k n u : ℕ) (y : S48x1024.Idx) (j : S48x10240.Idx) (hn : k = n) (hu : u = 32) (h1 : (j 1).val = k * 1024 + (y 1).val)
    (h0 : (j 0).val = 0 * 48 + (y 0).val) : D.DB n u y = allDb D j := by
  have hy : (y 1).val < 1024 := (y 1).isLt
  subst hn hu
  unfold allDb
  rw [show (j 1).val / 1024 = k by omega]
  congr 1
  funext a
  apply Fin.ext
  fin_cases a
  · show (y 0).val = (j 0).val
    omega
  · show (y 1).val = (j 1).val % 1024
    omega

/-- Equal arrays agree at indices with the same coordinates. -/
theorem same_at {α : Type} (f g : S2560x48.Idx → α) (y j : S2560x48.Idx) (hf : f = g) (h0 : (j 0).val = 0 * 2560 + 1 * (y 0).val)
    (h1 : (j 1).val = 0 * 48 + 1 * (y 1).val) : f y = g j := by
  subst hf
  congr 1
  funext a
  apply Fin.ext
  fin_cases a
  · show (y 0).val = (j 0).val; omega
  · show (y 1).val = (j 1).val; omega

/-- A pair of tile numbers is a point of the grid. -/
theorem pt_lt (n u : ℕ) (hn : n < 10) (hu : u < 32) : n * 32 + u < (cfgM m).N := by show n * 32 + u < 320; omega

/-- The place in the array of losses of an element of a block, by coordinate. -/
theorem ev6 (t : Fin (cfgM m).N) (y : S1x1x512.Idx) (a : Fin 3) : (((((cfgM m).win 6).blk t).view.emb y : S32x1x512.Idx) a).val = cc0_transform_6 (grid0.coords t) a * S1x1x512.size a + (y a).val :=
  Window.rect_emb_val ((cfgM m).win 6) t y a
/-- Its first coordinate, the tile. -/
theorem ev6_0 (t : Fin (cfgM m).N) (y : S1x1x512.Idx) (k : ℕ) (e : cc0_transform_6 (grid0.coords t) = ![k, 0, 0]) :
    (((((cfgM m).win 6).blk t).view.emb y : S32x1x512.Idx) (0 : Fin 3)).val = k * 1 + (y 0).val := by
  have h := ev6 m t y (0 : Fin 3)
  rw [e] at h
  exact h
/-- Its last coordinate, the row within the tile. -/
theorem ev6_2 (t : Fin (cfgM m).N) (y : S1x1x512.Idx) (k : ℕ) (e : cc0_transform_6 (grid0.coords t) = ![k, 0, 0]) :
    (((((cfgM m).win 6).blk t).view.emb y : S32x1x512.Idx) (2 : Fin 3)).val = 0 * 512 + (y 2).val := by
  have h := ev6 m t y (2 : Fin 3)
  rw [e] at h
  exact h
/-- If the tile's losses are the part of all losses at its block, then so is what the window's buffer holds after the point. -/
theorem tg6 (c : Dev nD) (t : Fin (cfgM m).N) (y : S1x1x512.Idx) (h : outLoss (DI m c) (t.val % 32) y = allLoss (DI m c) ((((cfgM m).win 6).blk t).view.emb y)) :
    cast (congrArg (Elt F) (((cfgM m).win 6).blk t).view.elt_eq.symm) ((datv m 0 c).after 6 t (((cfgM m).win 6).xinj ((cfgM m).grid.coords t) y))
        = allLoss (DI m c) ((((cfgM m).win 6).blk t).view.emb y) := h

/-- The place in `g` of an element of a block, by coordinate. -/
theorem ev7 (t : Fin (cfgM m).N) (y : S512x48.Idx) (a : Fin 2) : (((((cfgM m).win 7).blk t).view.emb y : S16384x48.Idx) a).val = cc0_transform_7 (grid0.coords t) a * S512x48.size a + (y a).val :=
  Window.rect_emb_val ((cfgM m).win 7) t y a
/-- Its row. -/
theorem ev7_0 (t : Fin (cfgM m).N) (y : S512x48.Idx) (k : ℕ) (e : cc0_transform_7 (grid0.coords t) = ![k, 0]) :
    (((((cfgM m).win 7).blk t).view.emb y : S16384x48.Idx) (0 : Fin 2)).val = k * 512 + (y 0).val := by
  have h := ev7 m t y (0 : Fin 2)
  rw [e] at h
  exact h
/-- Its column. -/
theorem ev7_1 (t : Fin (cfgM m).N) (y : S512x48.Idx) (k : ℕ) (e : cc0_transform_7 (grid0.coords t) = ![k, 0]) :
    (((((cfgM m).win 7).blk t).view.emb y : S16384x48.Idx) (1 : Fin 2)).val = 0 * 48 + (y 1).val := by
  have h := ev7 m t y (1 : Fin 2)
  rw [e] at h
  exact h
/-- If the tile's `g` is the part of all of `g` at its block, then so is what the window's buffer holds after the point. -/
theorem tg7 (c : Dev nD) (t : Fin (cfgM m).N) (y : S512x48.Idx) (h : outG (DI m c) (t.val % 32) y = allG (DI m c) ((((cfgM m).win 7).blk t).view.emb y)) :
    cast (congrArg (Elt F) (((cfgM m).win 7).blk t).view.elt_eq.symm) ((datv m 0 c).after 7 t (((cfgM m).win 7).xinj ((cfgM m).grid.coords t) y))
        = allG (DI m c) ((((cfgM m).win 7).blk t).view.emb y) := h

/-- The place in `d_b` of an element of a block, by coordinate. -/
theorem ev9 (t : Fin (cfgM m).N) (y : S48x1024.Idx) (a : Fin 2) : (((((cfgM m).win 9).blk t).view.emb y : S48x10240.Idx) a).val = cc0_transform_9 (grid0.coords t) a * S48x1024.size a + (y a).val :=
  Window.rect_emb_val ((cfgM m).win 9) t y a
/-- Its column. -/
theorem ev9_1 (t : Fin (cfgM m).N) (y : S48x1024.Idx) (k : ℕ) (e : cc0_transform_9 (grid0.coords t) = ![0, k]) :
    (((((cfgM m).win 9).blk t).view.emb y : S48x10240.Idx) (1 : Fin 2)).val = k * 1024 + (y 1).val := by
  have h := ev9 m t y (1 : Fin 2)
  rw [e] at h
  exact h
/-- Its row. -/
theorem ev9_0 (t : Fin (cfgM m).N) (y : S48x1024.Idx) (k : ℕ) (e : cc0_transform_9 (grid0.coords t) = ![0, k]) :
    (((((cfgM m).win 9).blk t).view.emb y : S48x10240.Idx) (0 : Fin 2)).val = 0 * 48 + (y 0).val := by
  have h := ev9 m t y (0 : Fin 2)
  rw [e] at h
  exact h
/-- If the column tile's `d_b` is the part of all of `d_b` at its block, then so is what the window's buffer holds after the point. -/
theorem tg9 (c : Dev nD) (t : Fin (cfgM m).N) (y : S48x1024.Idx) (h : (DI m c).DB (t.val / 32) (t.val % 32 + 1) y = allDb (DI m c) ((((cfgM m).win 9).blk t).view.emb y)) :
    cast (congrArg (Elt F) (((cfgM m).win 9).blk t).view.elt_eq.symm) ((datv m 0 c).after 9 t (((cfgM m).win 9).xinj ((cfgM m).grid.coords t) y))
        = allDb (DI m c) ((((cfgM m).win 9).blk t).view.emb y) := h

/-- The losses after the last point. -/
theorem arr_6 (c : Dev nD) : (datv m 0 c).arrAt 6 (cfgM m).N = allLoss (DI m c) := by
  refine (datv m 0 c).arrAt_eq_of_emb 6 (allLoss (DI m c)) (fun t hf (y : S1x1x512.Idx) => ?_) (fun (i : S32x1x512.Idx) => ?_)
  · have ht := lt320 m t
    have hf' : 288 ≤ t.val := of_decide_eq_true ((flush_6 m t).symm.trans hf)
    have e : cc0_transform_6 (grid0.coords t) = ![t.val % 32, 0, 0] := by rw [(tr_row t).1, if_pos (by omega)]
    refine tg6 m c t y ?_
    exact allLoss_at (DI m c) (t.val % 32) (t.val % 32) y _ rfl (ev6_0 m t y _ e) (ev6_2 m t y _ e)
  · have hi0 : (i 0).val < 32 := (i 0).isLt
    refine ⟨⟨9 * 32 + (i 0).val, pt_lt m 9 _ (by decide) hi0⟩, (flush_6 m _).trans (decide_eq_true (by show 288 ≤ 9 * 32 + (i 0).val; omega)), ?_⟩
    have e : cc0_transform_6 (grid0.coords ⟨9 * 32 + (i 0).val, pt_lt m 9 _ (by decide) hi0⟩) = ![(i 0).val, 0, 0] := by
      refine (tr_row ⟨9 * 32 + (i 0).val, pt_lt m 9 _ (by decide) hi0⟩).1.trans ?_
      show ![if (9 * 32 + (i 0).val) / 32 = 9 then (9 * 32 + (i 0).val) % 32 else 0, 0, 0] = _
      rw [if_pos (by omega), show (9 * 32 + (i 0).val) % 32 = (i 0).val by omega]
    refine (((cfgM m).win 6).emb_mem_blk_iff ⟨9 * 32 + (i 0).val, pt_lt m 9 _ (by decide) hi0⟩ i).mpr fun a => ?_
    have hi1 : (i 1).val < 1 := (i 1).isLt
    have hi2 : (i 2).val < 512 := (i 2).isLt
    fin_cases a
    · show cc0_transform_6 (grid0.coords ⟨9 * 32 + (i 0).val, pt_lt m 9 _ (by decide) hi0⟩) 0 * 1 ≤ (i 0).val ∧ (i 0).val < cc0_transform_6 (grid0.coords ⟨9 * 32 + (i 0).val, pt_lt m 9 _ (by decide) hi0⟩) 0 * 1 + 1
      rw [e]; show (i 0).val * 1 ≤ (i 0).val ∧ (i 0).val < (i 0).val * 1 + 1; omega
    · show cc0_transform_6 (grid0.coords ⟨9 * 32 + (i 0).val, pt_lt m 9 _ (by decide) hi0⟩) 1 * 1 ≤ (i 1).val ∧ (i 1).val < cc0_transform_6 (grid0.coords ⟨9 * 32 + (i 0).val, pt_lt m 9 _ (by decide) hi0⟩) 1 * 1 + 1
      rw [e]; show 0 * 1 ≤ (i 1).val ∧ (i 1).val < 0 * 1 + 1; omega
    · show cc0_transform_6 (grid0.coords ⟨9 * 32 + (i 0).val, pt_lt m 9 _ (by decide) hi0⟩) 2 * 512 ≤ (i 2).val ∧ (i 2).val < cc0_transform_6 (grid0.coords ⟨9 * 32 + (i 0).val, pt_lt m 9 _ (by decide) hi0⟩) 2 * 512 + 512
      rw [e]; show 0 * 512 ≤ (i 2).val ∧ (i 2).val < 0 * 512 + 512; omega

/-- `g` after the last point. -/
theorem arr_7 (c : Dev nD) : (datv m 0 c).arrAt 7 (cfgM m).N = allG (DI m c) := by
  refine (datv m 0 c).arrAt_eq_of_emb 7 (allG (DI m c)) (fun t hf (y : S512x48.Idx) => ?_) (fun (i : S16384x48.Idx) => ?_)
  · have ht := lt320 m t
    have hf' : 288 ≤ t.val := of_decide_eq_true ((flush_7 m t).symm.trans hf)
    have e : cc0_transform_7 (grid0.coords t) = ![t.val % 32, 0] := by rw [(tr_row t).2, if_pos (by omega)]
    refine tg7 m c t y ?_
    exact allG_at (DI m c) (t.val % 32) (t.val % 32) y _ rfl (ev7_0 m t y _ e) (ev7_1 m t y _ e)
  · have hi0 : (i 0).val < 16384 := (i 0).isLt
    have hu : (i 0).val / 512 < 32 := by omega
    refine ⟨⟨9 * 32 + (i 0).val / 512, pt_lt m 9 _ (by decide) hu⟩, (flush_7 m _).trans (decide_eq_true (by show 288 ≤ 9 * 32 + (i 0).val / 512; omega)), ?_⟩
    have e : cc0_transform_7 (grid0.coords ⟨9 * 32 + (i 0).val / 512, pt_lt m 9 _ (by decide) hu⟩) = ![(i 0).val / 512, 0] := by
      refine (tr_row ⟨9 * 32 + (i 0).val / 512, pt_lt m 9 _ (by decide) hu⟩).2.trans ?_
      show ![if (9 * 32 + (i 0).val / 512) / 32 = 9 then (9 * 32 + (i 0).val / 512) % 32 else 0, 0] = _
      rw [if_pos (by omega), show (9 * 32 + (i 0).val / 512) % 32 = (i 0).val / 512 by omega]
    refine (((cfgM m).win 7).emb_mem_blk_iff ⟨9 * 32 + (i 0).val / 512, pt_lt m 9 _ (by decide) hu⟩ i).mpr fun a => ?_
    have hi1 : (i 1).val < 48 := (i 1).isLt
    fin_cases a
    · show cc0_transform_7 (grid0.coords ⟨9 * 32 + (i 0).val / 512, pt_lt m 9 _ (by decide) hu⟩) 0 * 512 ≤ (i 0).val ∧ (i 0).val < cc0_transform_7 (grid0.coords ⟨9 * 32 + (i 0).val / 512, pt_lt m 9 _ (by decide) hu⟩) 0 * 512 + 512
      rw [e]; show (i 0).val / 512 * 512 ≤ (i 0).val ∧ (i 0).val < (i 0).val / 512 * 512 + 512; omega
    · show cc0_transform_7 (grid0.coords ⟨9 * 32 + (i 0).val / 512, pt_lt m 9 _ (by decide) hu⟩) 1 * 48 ≤ (i 1).val ∧ (i 1).val < cc0_transform_7 (grid0.coords ⟨9 * 32 + (i 0).val / 512, pt_lt m 9 _ (by decide) hu⟩) 1 * 48 + 48
      rw [e]; show 0 * 48 ≤ (i 1).val ∧ (i 1).val < 0 * 48 + 48; omega

/-- `d_a` after the last point. -/
theorem arr_8 (c : Dev nD) : (datv m 0 c).arrAt 8 (cfgM m).N = (DI m c).DA 32 := by
  refine (datv m 0 c).arrAt_eq_of_emb 8 ((DI m c).DA 32) (fun t hf (y : S2560x48.Idx) => ?_) (fun (i : S2560x48.Idx) => ?_)
  · have hf' : t.val = 319 := of_decide_eq_true ((flush_8 m t).symm.trans hf)
    have e : outDa (DI m c) (t.val / 32) (t.val % 32) = (DI m c).DA 32 := by rw [hf']; exact if_pos rfl
    exact same_at _ _ y ((((cfgM m).win 8).blk t).view.emb y) e rfl rfl
  · refine ⟨⟨319, pt_lt m 9 31 (by decide) (by decide)⟩, (flush_8 m _).trans (decide_eq_true rfl), ?_⟩
    refine (((cfgM m).win 8).emb_mem_blk_iff ⟨319, pt_lt m 9 31 (by decide) (by decide)⟩ i).mpr fun a => ?_
    have hi0 : (i 0).val < 2560 := (i 0).isLt
    have hi1 : (i 1).val < 48 := (i 1).isLt
    fin_cases a
    · show 0 * 2560 ≤ (i 0).val ∧ (i 0).val < 0 * 2560 + 2560; omega
    · show 0 * 48 ≤ (i 1).val ∧ (i 1).val < 0 * 48 + 48; omega

/-- `d_b` after the last point. -/
theorem arr_9 (c : Dev nD) : (datv m 0 c).arrAt 9 (cfgM m).N = allDb (DI m c) := by
  refine (datv m 0 c).arrAt_eq_of_emb 9 (allDb (DI m c)) (fun t hf (y : S48x1024.Idx) => ?_) (fun (i : S48x10240.Idx) => ?_)
  · have ht := lt320 m t
    have hf' : t.val % 32 = 31 := of_decide_eq_true ((flush_9 m t).symm.trans hf)
    have e : cc0_transform_9 (grid0.coords t) = ![0, t.val / 32] := (tr_col t).2.2.2.2
    refine tg9 m c t y ?_
    exact allDb_at (DI m c) (t.val / 32) (t.val / 32) (t.val % 32 + 1) y _ rfl (by omega) (ev9_1 m t y _ e) (ev9_0 m t y _ e)
  · have hi1 : (i 1).val < 10240 := (i 1).isLt
    have hn : (i 1).val / 1024 < 10 := by omega
    refine ⟨⟨(i 1).val / 1024 * 32 + 31, pt_lt m _ 31 hn (by decide)⟩, (flush_9 m _).trans (decide_eq_true (by show ((i 1).val / 1024 * 32 + 31) % 32 = 31; omega)), ?_⟩
    have e : cc0_transform_9 (grid0.coords ⟨(i 1).val / 1024 * 32 + 31, pt_lt m _ 31 hn (by decide)⟩) = ![0, (i 1).val / 1024] := by
      refine (tr_col ⟨(i 1).val / 1024 * 32 + 31, pt_lt m _ 31 hn (by decide)⟩).2.2.2.2.trans ?_
      show ![0, ((i 1).val / 1024 * 32 + 31) / 32] = _
      rw [show ((i 1).val / 1024 * 32 + 31) / 32 = (i 1).val / 1024 by omega]
    refine (((cfgM m).win 9).emb_mem_blk_iff ⟨(i 1).val / 1024 * 32 + 31, pt_lt m _ 31 hn (by decide)⟩ i).mpr fun a => ?_
    have hi0 : (i 0).val < 48 := (i 0).isLt
    fin_cases a
    · show cc0_transform_9 (grid0.coords ⟨(i 1).val / 1024 * 32 + 31, pt_lt m _ 31 hn (by decide)⟩) 0 * 48 ≤ (i 0).val ∧ (i 0).val < cc0_transform_9 (grid0.coords ⟨(i 1).val / 1024 * 32 + 31, pt_lt m _ 31 hn (by decide)⟩) 0 * 48 + 48
      rw [e]; show 0 * 48 ≤ (i 0).val ∧ (i 0).val < 0 * 48 + 48; omega
    · show cc0_transform_9 (grid0.coords ⟨(i 1).val / 1024 * 32 + 31, pt_lt m _ 31 hn (by decide)⟩) 1 * 1024 ≤ (i 1).val ∧ (i 1).val < cc0_transform_9 (grid0.coords ⟨(i 1).val / 1024 * 32 + 31, pt_lt m _ 31 hn (by decide)⟩) 1 * 1024 + 1024
      rw [e]; show (i 1).val / 1024 * 1024 ≤ (i 1).val ∧ (i 1).val < (i 1).val / 1024 * 1024 + 1024; omega

/-- What the later lines leave in the reshaped losses. -/
theorem tail_v3 (U : Valuation τ sig (Elt F)) : StableHlo.after (List.flatten [hostOps1]) U (Proc.devRef .tc main_v3)
    = shapeCast S16x1024 (U (Proc.devRef .tc main_v2_0)) shapeCasts_S32x1x512_S16x1024 := by
  simp only [List.flatten_cons, List.flatten_nil, List.append_nil, hostOps1, StableHlo.after_cons, StableHlo.after_nil]
  rw [StableHlo.reshape_result_ne]
  · rw [StableHlo.reshape_result]; rfl
  · decide

/-- What the later lines leave in the reshaped `g`. -/
theorem tail_v4 (U : Valuation τ sig (Elt F)) : StableHlo.after (List.flatten [hostOps1]) U (Proc.devRef .tc main_v4)
    = shapeCast S16x1024x48 (U (Proc.devRef .tc main_v2_1)) shapeCasts_S16384x48_S16x1024x48 := by
  simp only [List.flatten_cons, List.flatten_nil, List.append_nil, hostOps1, StableHlo.after_cons, StableHlo.after_nil]
  rw [StableHlo.reshape_result, StableHlo.reshape_result_ne]
  · rfl
  · decide

/-- What the later lines leave in a buffer they do not write. -/
theorem tail_ne (U : Valuation τ sig (Elt F)) (b : Ref sig .tc) (h3 : b ≠ main_v3) (h4 : b ≠ main_v4) :
    StableHlo.after (List.flatten [hostOps1]) U (Proc.devRef .tc b) = U (Proc.devRef .tc b) := by
  simp only [List.flatten_cons, List.flatten_nil, List.append_nil, hostOps1, StableHlo.after_cons, StableHlo.after_nil]
  rw [StableHlo.reshape_result_ne (h := h4), StableHlo.reshape_result_ne (h := h3)]

/-- The reshaped `x` as the region finds it. -/
theorem V_v0 (c : Dev nD) : V m c main_v0 = shapeCast S16384x2560 (m ((c : Thread nD τ).loc main_arg0)) shapeCasts_S16x1024x2560_S16384x2560 := by
  show StableHlo.after (List.flatten [hostOps0]) (fun b => m (c, b)) (Proc.devRef .tc main_v0) = _
  simp only [List.flatten_cons, List.flatten_nil, List.append_nil, hostOps0, StableHlo.after_cons, StableHlo.after_nil]
  rw [StableHlo.reshape_result_ne]
  · rw [StableHlo.reshape_result]; rfl
  · decide

/-- The reshaped scales as the region finds them. -/
theorem V_v1 (c : Dev nD) : V m c main_v1 = shapeCast S20x1x10240 (m ((c : Thread nD τ).loc main_arg4)) shapeCasts_S20x10240_S20x1x10240 := by
  show StableHlo.after (List.flatten [hostOps0]) (fun b => m (c, b)) (Proc.devRef .tc main_v1) = _
  simp only [List.flatten_cons, List.flatten_nil, List.append_nil, hostOps0, StableHlo.after_cons, StableHlo.after_nil]
  rw [StableHlo.reshape_result, StableHlo.reshape_result_ne]
  · rfl
  · decide

/-- The lines after the region, at an array of the region. -/
theorem tail_arr (c : Dev nD) (w : Fin 10) :
    Pipeline.withArrays spec0 c (V0 m c) (fun w => (datv m 0 c).arrAt w (cfgM m).N) (Proc.devRef .tc (Pipeline.arrRef spec0 w)) = (datv m 0 c).arrAt w (cfgM m).N :=
  Pipeline.withArrays_arr spec0 (launch0 (F := F)).win.arr_inj c (V0 m c) (fun w => (datv m 0 c).arrAt w (cfgM m).N) w

/-- The lines after the region, at a buffer that is no array of the region. -/
theorem tail_rest (c : Dev nD) (b : Ref sig .tc) (hb : ∀ w, Pipeline.arrRef spec0 w ≠ b) (h3 : b ≠ main_v3) (h4 : b ≠ main_v4) :
    Pipeline.afterTail pcfgs (fun _ => adm m) (datv m) 0 (V0 m) [hostOps1] c b = V m c b :=
  (tail_ne _ b h3 h4).trans (Pipeline.withArrays_of_ne spec0 c (V0 m c) (fun w => (datv m 0 c).arrAt w (cfgM m).N) b hb)

/-- What the launch hands over is what is claimed to hold before the first point. -/
theorem phi_in (c : Dev nD) : iprop(Pipeline.ΦA spec0 c ∗ Pipeline.ΦT pre0 (tbl m) c) ⊢ (datv (F := F) m 0 c).Φ 0 := by
  refine BIBase.Entails.trans ?_ (eq_entails ((phi_at m c 0).trans (congrArg (PhiV m c) (Fin.val_zero _))).symm)
  unfold PhiV
  iintro ⟨H, HT⟩
  isplitl [H]
  · iapply (carried_first m c); iexact H
  · iexact HT

/-- What holds after the last point gives back the scratch that the launch asks for. -/
theorem phi_out (c : Dev nD) : (datv (F := F) m 0 c).Φ (Fin.last (cfgM m).N) ⊢ Pipeline.ΦA spec0 c := by
  refine BIBase.Entails.trans (eq_entails ((phi_at m c (Fin.last (cfgM m).N)).trans (congrArg (PhiV m c) (Fin.val_last _)))) ?_
  unfold PhiV
  iintro ⟨H, -⟩
  iapply (carried_forget m c _ _); iexact H

set_option maxHeartbeats 1000000 in
/-- From any memory with zero counters the kernel runs to completion with these contents in its results. -/
theorem run_value (ρ : Dev nD → PrngReg) :
    θ_run defs (onTc (τ := τ) (main (F := F))) ⟨m, fun _ => 0, ρ⟩ (fun r => ∀ c : Dev nD,
      r.2.mem ((c : Thread nD τ).loc main_v3) = shapeCast S16x1024 (allLoss (DI m c)) shapeCasts_S32x1x512_S16x1024
      ∧ r.2.mem ((c : Thread nD τ).loc main_v4) = shapeCast S16x1024x48 (allG (DI m c)) shapeCasts_S16384x48_S16x1024x48
      ∧ r.2.mem ((c : Thread nD τ).loc main_v2_2) = (DI m c).DA 32
      ∧ r.2.mem ((c : Thread nD τ).loc main_v2_3) = allDb (DI m c)
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6)) :=
  Pipeline.θ_run_frameP_around_track pcfgs (fun _ => adm m) (datv m) (0 : Fin 1) launch0 defs₀ Variants.none m ρ main
    (hbody := fun c => (body_obligation_v m c).loose) (hshare := fun c => (datv m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hpf := V_pre m)
    (hin := phi_in m) (hout := phi_out m)
    (Q' := fun r => ∀ c : Dev nD,
      r.2.mem ((c : Thread nD τ).loc main_v3) = shapeCast S16x1024 (allLoss (DI m c)) shapeCasts_S32x1x512_S16x1024
      ∧ r.2.mem ((c : Thread nD τ).loc main_v4) = shapeCast S16x1024x48 (allG (DI m c)) shapeCasts_S16384x48_S16x1024x48
      ∧ r.2.mem ((c : Thread nD τ).loc main_v2_2) = (DI m c).DA 32
      ∧ r.2.mem ((c : Thread nD τ).loc main_v2_3) = allDb (DI m c)
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6))
    (hQ' := fun r h c => ⟨
      (h.1.rest_eq c main_v3 (by decide : main_v3 ∈ Pipeline.restRefs sig spec0)).trans ((tail_v3 _).trans (congrArg (fun f => shapeCast S16x1024 f shapeCasts_S32x1x512_S16x1024) ((tail_arr m c 6).trans (arr_6 m c)))),
      (h.1.rest_eq c main_v4 (by decide : main_v4 ∈ Pipeline.restRefs sig spec0)).trans ((tail_v4 _).trans (congrArg (fun f => shapeCast S16x1024x48 f shapeCasts_S16384x48_S16x1024x48) ((tail_arr m c 7).trans (arr_7 m c)))),
      (h.1.out_eq c 8).trans (arr_8 m c),
      (h.1.out_eq c 9).trans (arr_9 m c),
      ((h.1.rest_eq c main_arg0 (by decide : main_arg0 ∈ Pipeline.restRefs sig spec0)).trans (tail_rest m c main_arg0 (by decide) (by decide) (by decide))).trans (V_arg0 m c),
      ((h.1.rest_eq c main_arg1 (by decide : main_arg1 ∈ Pipeline.restRefs sig spec0)).trans (tail_rest m c main_arg1 (by decide) (by decide) (by decide))).trans (V_arg1 m c),
      (h.1.in_eq c 1 rfl).trans (V_arg2 m c),
      (h.1.in_eq c 2 rfl).trans (V_arg3 m c),
      ((h.1.rest_eq c main_arg4 (by decide : main_arg4 ∈ Pipeline.restRefs sig spec0)).trans (tail_rest m c main_arg4 (by decide) (by decide) (by decide))).trans (V_arg4 m c),
      (h.1.in_eq c 4 rfl).trans (V_arg5 m c),
      (h.1.in_eq c 5 rfl).trans (V_arg6 m c)⟩)

end Cert.KernelIdeal.Hand

end
-- ==== Proof.Spec.lean ====
/- The mathematics both programs are compared with: the results as sums over natural-number coordinates, and the few facts about sums of
   extended reals the comparison needs. -/
module

public import Idealize.ShloMosaic.Lib.Pipeline.Value
public import Idealize.ShloMosaic.Lib.ValueIdx
public import Idealize.ShloMosaic.PureOps.Ideal.Laws

@[expose] public section

noncomputable section

namespace Cert.Spec

open Idealize.ShloMosaic

/-- A vector at a natural-number coordinate. -/
def at1 {α : Type} {N : ℕ} [NeZero N] (f : (⟨1, ![N]⟩ : Shape).Idx → α) (i : ℕ) : α := f (fun a => match a with
  | ⟨0, _⟩ => ⟨i % N, Nat.mod_lt _ (NeZero.pos N)⟩)
/-- A matrix at natural-number coordinates. -/
def at2 {α : Type} {N M : ℕ} [NeZero N] [NeZero M] (f : (⟨2, ![N, M]⟩ : Shape).Idx → α) (i j : ℕ) : α := f (fun a => match a with
  | ⟨0, _⟩ => ⟨i % N, Nat.mod_lt _ (NeZero.pos N)⟩
  | ⟨1, _⟩ => ⟨j % M, Nat.mod_lt _ (NeZero.pos M)⟩)
/-- A rank-three array at natural-number coordinates. -/
def at3 {α : Type} {N M L : ℕ} [NeZero N] [NeZero M] [NeZero L] (f : (⟨3, ![N, M, L]⟩ : Shape).Idx → α) (i j k : ℕ) : α := f (fun a => match a with
  | ⟨0, _⟩ => ⟨i % N, Nat.mod_lt _ (NeZero.pos N)⟩
  | ⟨1, _⟩ => ⟨j % M, Nat.mod_lt _ (NeZero.pos M)⟩
  | ⟨2, _⟩ => ⟨k % L, Nat.mod_lt _ (NeZero.pos L)⟩)

/-- An element of a vector is the one at its coordinate. -/
theorem at1_eq {α : Type} {N : ℕ} [NeZero N] (f : (⟨1, ![N]⟩ : Shape).Idx → α) (y : (⟨1, ![N]⟩ : Shape).Idx) (i : ℕ) (h0 : (y 0).val = i) :
    f y = at1 f i := by
  have b0 : (y 0).val < N := (y 0).isLt
  subst h0
  unfold at1
  congr 1
  funext a
  apply Fin.ext
  match a with
  | ⟨0, _⟩ => exact (Nat.mod_eq_of_lt b0).symm

/-- An element of a matrix is the one at its coordinates. -/
theorem at2_eq {α : Type} {N M : ℕ} [NeZero N] [NeZero M] (f : (⟨2, ![N, M]⟩ : Shape).Idx → α) (y : (⟨2, ![N, M]⟩ : Shape).Idx) (i j : ℕ)
    (h0 : (y 0).val = i) (h1 : (y 1).val = j) : f y = at2 f i j := by
  have b0 : (y 0).val < N := (y 0).isLt
  have b1 : (y 1).val < M := (y 1).isLt
  subst h0 h1
  unfold at2
  congr 1
  funext a
  apply Fin.ext
  match a with
  | ⟨0, _⟩ => exact (Nat.mod_eq_of_lt b0).symm
  | ⟨1, _⟩ => exact (Nat.mod_eq_of_lt b1).symm

/-- An element of a rank-three array is the one at its coordinates. -/
theorem at3_eq {α : Type} {N M L : ℕ} [NeZero N] [NeZero M] [NeZero L] (f : (⟨3, ![N, M, L]⟩ : Shape).Idx → α) (y : (⟨3, ![N, M, L]⟩ : Shape).Idx)
    (i j k : ℕ) (h0 : (y 0).val = i) (h1 : (y 1).val = j) (h2 : (y 2).val = k) : f y = at3 f i j k := by
  have b0 : (y 0).val < N := (y 0).isLt
  have b1 : (y 1).val < M := (y 1).isLt
  have b2 : (y 2).val < L := (y 2).isLt
  subst h0 h1 h2
  unfold at3
  congr 1
  funext a
  apply Fin.ext
  match a with
  | ⟨0, _⟩ => exact (Nat.mod_eq_of_lt b0).symm
  | ⟨1, _⟩ => exact (Nat.mod_eq_of_lt b1).symm
  | ⟨2, _⟩ => exact (Nat.mod_eq_of_lt b2).symm

/-- A sum over a product of ranges, split. -/
theorem sum_mul (f : ℕ → EReal) (a b : ℕ) :
    ∑ k ∈ Finset.range (a * b), f k = ∑ i ∈ Finset.range a, ∑ j ∈ Finset.range b, f (b * i + j) := by
  induction a with
  | zero => simp
  | succ a ih =>
    rw [Nat.succ_mul, Finset.sum_range_add, ih, Finset.sum_range_succ]
    simp only [Nat.mul_comm]

/-- An extended real that is a real number. -/
def Re (x : EReal) : Prop := ∃ r : ℝ, x = (r : EReal)

/-- A sum of two reals is real. -/
theorem Re.add {x y : EReal} (hx : Re x) (hy : Re y) : Re (x + y) := by
  obtain ⟨a, rfl⟩ := hx; obtain ⟨b, rfl⟩ := hy; exact ⟨a + b, by norm_cast⟩
/-- A difference of two reals is real. -/
theorem Re.sub {x y : EReal} (hx : Re x) (hy : Re y) : Re (x - y) := by
  obtain ⟨a, rfl⟩ := hx; obtain ⟨b, rfl⟩ := hy; exact ⟨a - b, by norm_cast⟩
/-- A product of two reals is real. -/
theorem Re.mul {x y : EReal} (hx : Re x) (hy : Re y) : Re (x * y) := by
  obtain ⟨a, rfl⟩ := hx; obtain ⟨b, rfl⟩ := hy; exact ⟨a * b, by norm_cast⟩
/-- Zero is real. -/
theorem Re.zero : Re 0 := ⟨0, by norm_cast⟩
/-- A sum of finitely many reals is real. -/
theorem Re.sum (n : ℕ) (f : ℕ → EReal) (h : ∀ k, Re (f k)) : Re (∑ k ∈ Finset.range n, f k) := by
  induction n with
  | zero => exact Re.zero
  | succ n ih => rw [Finset.sum_range_succ]; exact ih.add (h n)

/-- Over the reals a factor goes into a sum. -/
theorem mul_sum_re (c : EReal) (hc : Re c) (n : ℕ) (f : ℕ → EReal) (h : ∀ k, Re (f k)) :
    c * ∑ k ∈ Finset.range n, f k = ∑ k ∈ Finset.range n, c * f k := by
  induction n with
  | zero => simp
  | succ n ih =>
    rw [Finset.sum_range_succ, Finset.sum_range_succ, ← ih]
    obtain ⟨r, hr⟩ := Re.sum n f h
    obtain ⟨s, hs⟩ := h n
    obtain ⟨d, rfl⟩ := hc
    rw [hr, hs]
    norm_cast
    ring

/-- The factor both programs put before the two gradients. -/
def K2 : EReal := Ideal.ofBits .f32 0xC0000000#32
/-- The factor is real. -/
theorem K2_re : Re K2 := by
  unfold K2
  simp only [Ideal.ofBits, Ideal.ieee]
  rw [if_neg (by decide), if_neg (by decide)]
  exact ⟨_, rfl⟩

/-- The arguments at natural-number coordinates: rows of all problems, one after another, and columns. -/
structure Args where
  x : ℕ → ℕ → EReal
  len : ℕ → BitVec 32
  w : ℕ → ℕ → EReal
  q : ℕ → ℕ → BitVec 8
  sc : ℕ → ℕ → EReal
  a : ℕ → ℕ → EReal
  b : ℕ → ℕ → EReal

/-- The signed low nibble. -/
def lo (c : BitVec 8) : BitVec 32 := IntOp.subi (IntOp.xori (IntOp.andi (c.setWidth 32) 15#32) 8#32) 8#32
/-- The signed high nibble. -/
def hi (c : BitVec 8) : BitVec 32 := IntOp.subi (IntOp.xori (IntOp.andi (IntOp.shrsi .host (c.setWidth 32) 4#32) 15#32) 8#32) 8#32
/-- A word as an extended real. -/
def num (v : BitVec 32) : EReal := ((v.toInt : ℝ) : EReal)

/-- The arguments, off the arrays. -/
def argsOf (x0 : (⟨3, ![16, 1024, 2560]⟩ : Shape).Idx → EReal) (x1 : (⟨1, ![16]⟩ : Shape).Idx → BitVec 32) (x2 : (⟨2, ![2560, 10240]⟩ : Shape).Idx → EReal)
    (x3 : (⟨2, ![1280, 10240]⟩ : Shape).Idx → BitVec 8) (x4 : (⟨2, ![20, 10240]⟩ : Shape).Idx → EReal) (x5 : (⟨2, ![2560, 48]⟩ : Shape).Idx → EReal)
    (x6 : (⟨2, ![48, 10240]⟩ : Shape).Idx → EReal) : Args where
  x r k := at3 x0 (r / 1024) (r % 1024) k
  len b := at1 x1 b
  w := at2 x2
  q := at2 x3
  sc := at2 x4
  a := at2 x5
  b := at2 x6

/-- A select on a row number below a length. -/
theorem sel_lt {α : Type} (s : ℕ) (hs : s < 1024) (v : BitVec 32) (a b : α) :
    Scalar.select (IntOp.cmpi .slt (BitVec.ofNat 32 s) v) a b = if (s : ℤ) < v.toInt then a else b := by
  have e : (BitVec.ofNat 32 s).toInt = (s : ℤ) := by
    rw [BitVec.toInt_ofNat']
    simp only [Int.bmod]
    omega
  unfold IntOp.cmpi
  by_cases h : (s : ℤ) < v.toInt
  · rw [if_pos h]
    have : (BitVec.ofNat 32 s).slt v = true := by rw [BitVec.slt_iff_toInt_lt, e]; exact h
    simp only [this]; rfl
  · rw [if_neg h]
    have : (BitVec.ofNat 32 s).slt v = false := by
      rw [← Bool.not_eq_true, BitVec.slt_iff_toInt_lt, e]; exact h
    simp only [this]; rfl

namespace Args

variable (D : Args)

/-- The quantisation error of a weight. -/
def err (k n : ℕ) : EReal :=
  D.w k n - (if k < 1280 then num (lo (D.q k n)) else num (hi (D.q (k - 1280) n))) * D.sc (k / 128) n
/-- The error of a row against a column. -/
def xe (r n : ℕ) : EReal := ∑ k ∈ Finset.range 2560, D.x r k * D.err k n
/-- The projection of a row. -/
def pb (r p : ℕ) : EReal := ∑ k ∈ Finset.range 2560, D.x r k * D.a k p
/-- The correction of a row at a column. -/
def y (r n : ℕ) : EReal := ∑ p ∈ Finset.range 48, D.pb r p * D.b p n
/-- The row is below its problem's length. -/
def live (r : ℕ) : Prop := ((r % 1024 : ℕ) : ℤ) < (D.len (r / 1024)).toInt
/-- It can be decided. -/
instance (r : ℕ) : Decidable (D.live r) := by unfold live; infer_instance
/-- The masked residual. -/
def res (r n : ℕ) : EReal := if D.live r then D.xe r n - D.y r n else 0
/-- The loss of a row. -/
def loss (r : ℕ) : EReal := ∑ n ∈ Finset.range 10240, D.res r n * D.res r n
/-- The gradient of a row's projection. -/
def g (r p : ℕ) : EReal := ∑ n ∈ Finset.range 10240, D.res r n * D.b p n
/-- The gradient of `a`. -/
def da (k p : ℕ) : EReal := K2 * ∑ r ∈ Finset.range 16384, D.x r k * D.g r p
/-- The gradient of `b`. -/
def db (p n : ℕ) : EReal := K2 * ∑ r ∈ Finset.range 16384, D.pb r p * D.res r n

/-- Every float argument is a real number. -/
structure Real : Prop where
  x : ∀ i j, Re (D.x i j)
  w : ∀ i j, Re (D.w i j)
  sc : ∀ i j, Re (D.sc i j)
  a : ∀ i j, Re (D.a i j)
  b : ∀ i j, Re (D.b i j)

variable {D}

/-- With real arguments the errors are real. -/
theorem Real.err (h : D.Real) (k n : ℕ) : Re (D.err k n) := by
  unfold Args.err num
  refine (h.w _ _).sub (Re.mul ?_ (h.sc _ _))
  split <;> exact ⟨_, rfl⟩
/-- With real arguments the projections are real. -/
theorem Real.pb (h : D.Real) (r p : ℕ) : Re (D.pb r p) := Re.sum _ _ fun k => (h.x _ _).mul (h.a _ _)
/-- With real arguments the residuals are real. -/
theorem Real.res (h : D.Real) (r n : ℕ) : Re (D.res r n) := by
  unfold Args.res
  split
  · exact (Re.sum _ _ fun k => (h.x _ _).mul (h.err _ _)).sub (Re.sum _ _ fun p => (h.pb _ _).mul (h.b _ _))
  · exact Re.zero
/-- With real arguments `g` is real. -/
theorem Real.g (h : D.Real) (r p : ℕ) : Re (D.g r p) := Re.sum _ _ fun n => (h.res _ _).mul (h.b _ _)

/-- The gradient of `a`, row tile by row tile. -/
theorem Real.da_tiles (h : D.Real) (k p : ℕ) :
    D.da k p = ∑ u ∈ Finset.range 32, K2 * ∑ s ∈ Finset.range 512, D.x (512 * u + s) k * D.g (512 * u + s) p := by
  unfold Args.da
  rw [show 16384 = 32 * 512 from rfl, sum_mul]
  exact mul_sum_re _ K2_re _ _ fun u => Re.sum _ _ fun s => (h.x _ _).mul (h.g _ _)
/-- The gradient of `b`, row tile by row tile. -/
theorem Real.db_tiles (h : D.Real) (p n : ℕ) :
    D.db p n = ∑ u ∈ Finset.range 32, K2 * ∑ s ∈ Finset.range 512, D.pb (512 * u + s) p * D.res (512 * u + s) n := by
  unfold Args.db
  rw [show 16384 = 32 * 512 from rfl, sum_mul]
  exact mul_sum_re _ K2_re _ _ fun u => Re.sum _ _ fun s => (h.pb _ _).mul (h.res _ _)

end Args

end Cert.Spec

end
-- ==== Proof.PayI.lean ====
/- The kernel's payloads over the extended reals, read at an index. -/
module

public import proofs.«01_k».proof.Proof.FinI
public import proofs.«01_k».proof.Proof.Spec

@[expose] public section

set_option maxRecDepth 16384

noncomputable section

namespace Cert.KernelIdeal.Hand

open Idealize.ShloMosaic Idealize.ShloMosaic.TcCoe
open Cert.KernelIdeal.Gen Cert.Spec

/-- The coordinate of an index over one contracted axis. -/
def oneEquiv (n : ℕ) : Fin n ≃ (Shape.ofList [n]).Idx where
  toFun a := fun i => match i with | ⟨0, _⟩ => a
  invFun f := f ⟨0, Nat.one_pos⟩
  left_inv a := rfl
  right_inv f := by
    funext i
    match i with
    | ⟨0, _⟩ => rfl

/-- A sum over one contracted axis. -/
theorem sum_one (n : ℕ) (f : (Shape.ofList [n]).Idx → EReal) : ∑ q, f q = ∑ a : Fin n, f (oneEquiv n a) :=
  (Equiv.sum_comp (oneEquiv n) f).symm

/-- The product `xa` at an index. -/
theorem mm_xa {φ ψ : FTy} (l : FVec Ideal S512x2560 φ) (r : FVec Ideal S2560x48 ψ) (y : S512x48.Idx) :
    matmul dot_S512x2560_S2560x48_S512x48_1_0_0_1_n_n none l r (constant (F := Ideal) S512x48 .f32 0x00000000#32) y = ∑ k ∈ Finset.range 2560, at2 (α := EReal) l (y 0).val k * at2 (α := EReal) r k (y 1).val := by
  simp only [matmul]
  rw [Ideal.matmul_constant_zero_apply, Finset.sum_range]
  refine (sum_one 2560 _).trans ?_
  refine Finset.sum_congr rfl fun (k : Fin 2560) _ => ?_
  have el : l (dot_S512x2560_S2560x48_S512x48_1_0_0_1_n_n.lhsIdx y (oneEquiv 2560 k)) = at2 (α := EReal) l (y 0).val k.val := at2_eq (α := EReal) l (dot_S512x2560_S2560x48_S512x48_1_0_0_1_n_n.lhsIdx y (oneEquiv 2560 k)) _ _ rfl rfl
  have er : r (dot_S512x2560_S2560x48_S512x48_1_0_0_1_n_n.rhsIdx y (oneEquiv 2560 k)) = at2 (α := EReal) r k.val (y 1).val := at2_eq (α := EReal) r (dot_S512x2560_S2560x48_S512x48_1_0_0_1_n_n.rhsIdx y (oneEquiv 2560 k)) _ _ rfl rfl
  exact congr (congrArg _ el) er

/-- The product `xe` at an index. -/
theorem mm_xe {φ ψ : FTy} (l : FVec Ideal S512x2560 φ) (r : FVec Ideal S2560x1024 ψ) (y : S512x1024.Idx) :
    matmul dot_S512x2560_S2560x1024_S512x1024_1_0_0_1_n_n none l r (constant (F := Ideal) S512x1024 .f32 0x00000000#32) y = ∑ k ∈ Finset.range 2560, at2 (α := EReal) l (y 0).val k * at2 (α := EReal) r k (y 1).val := by
  simp only [matmul]
  rw [Ideal.matmul_constant_zero_apply, Finset.sum_range]
  refine (sum_one 2560 _).trans ?_
  refine Finset.sum_congr rfl fun (k : Fin 2560) _ => ?_
  have el : l (dot_S512x2560_S2560x1024_S512x1024_1_0_0_1_n_n.lhsIdx y (oneEquiv 2560 k)) = at2 (α := EReal) l (y 0).val k.val := at2_eq (α := EReal) l (dot_S512x2560_S2560x1024_S512x1024_1_0_0_1_n_n.lhsIdx y (oneEquiv 2560 k)) _ _ rfl rfl
  have er : r (dot_S512x2560_S2560x1024_S512x1024_1_0_0_1_n_n.rhsIdx y (oneEquiv 2560 k)) = at2 (α := EReal) r k.val (y 1).val := at2_eq (α := EReal) r (dot_S512x2560_S2560x1024_S512x1024_1_0_0_1_n_n.rhsIdx y (oneEquiv 2560 k)) _ _ rfl rfl
  exact congr (congrArg _ el) er

/-- The product `pb` at an index. -/
theorem mm_pb {φ ψ : FTy} (l : FVec Ideal S512x48 φ) (r : FVec Ideal S48x1024 ψ) (y : S512x1024.Idx) :
    matmul dot_S512x48_S48x1024_S512x1024_1_0_0_1_n_n none l r (constant (F := Ideal) S512x1024 .f32 0x00000000#32) y = ∑ k ∈ Finset.range 48, at2 (α := EReal) l (y 0).val k * at2 (α := EReal) r k (y 1).val := by
  simp only [matmul]
  rw [Ideal.matmul_constant_zero_apply, Finset.sum_range]
  refine (sum_one 48 _).trans ?_
  refine Finset.sum_congr rfl fun (k : Fin 48) _ => ?_
  have el : l (dot_S512x48_S48x1024_S512x1024_1_0_0_1_n_n.lhsIdx y (oneEquiv 48 k)) = at2 (α := EReal) l (y 0).val k.val := at2_eq (α := EReal) l (dot_S512x48_S48x1024_S512x1024_1_0_0_1_n_n.lhsIdx y (oneEquiv 48 k)) _ _ rfl rfl
  have er : r (dot_S512x48_S48x1024_S512x1024_1_0_0_1_n_n.rhsIdx y (oneEquiv 48 k)) = at2 (α := EReal) r k.val (y 1).val := at2_eq (α := EReal) r (dot_S512x48_S48x1024_S512x1024_1_0_0_1_n_n.rhsIdx y (oneEquiv 48 k)) _ _ rfl rfl
  exact congr (congrArg _ el) er

/-- The product `rb` at an index. -/
theorem mm_rb {φ ψ : FTy} (l : FVec Ideal S512x1024 φ) (r : FVec Ideal S48x1024 ψ) (y : S512x48.Idx) :
    matmul dot_S512x1024_S48x1024_S512x48_1_1_0_0_n_n none l r (constant (F := Ideal) S512x48 .f32 0x00000000#32) y = ∑ k ∈ Finset.range 1024, at2 (α := EReal) l (y 0).val k * at2 (α := EReal) r (y 1).val k := by
  simp only [matmul]
  rw [Ideal.matmul_constant_zero_apply, Finset.sum_range]
  refine (sum_one 1024 _).trans ?_
  refine Finset.sum_congr rfl fun (k : Fin 1024) _ => ?_
  have el : l (dot_S512x1024_S48x1024_S512x48_1_1_0_0_n_n.lhsIdx y (oneEquiv 1024 k)) = at2 (α := EReal) l (y 0).val k.val := at2_eq (α := EReal) l (dot_S512x1024_S48x1024_S512x48_1_1_0_0_n_n.lhsIdx y (oneEquiv 1024 k)) _ _ rfl rfl
  have er : r (dot_S512x1024_S48x1024_S512x48_1_1_0_0_n_n.rhsIdx y (oneEquiv 1024 k)) = at2 (α := EReal) r (y 1).val k.val := at2_eq (α := EReal) r (dot_S512x1024_S48x1024_S512x48_1_1_0_0_n_n.rhsIdx y (oneEquiv 1024 k)) _ _ rfl rfl
  exact congr (congrArg _ el) er

/-- The product `pr` at an index. -/
theorem mm_pr {φ ψ : FTy} (l : FVec Ideal S512x48 φ) (r : FVec Ideal S512x1024 ψ) (y : S48x1024.Idx) :
    matmul dot_S512x48_S512x1024_S48x1024_0_0_1_1_n_n none l r (constant (F := Ideal) S48x1024 .f32 0x00000000#32) y = ∑ k ∈ Finset.range 512, at2 (α := EReal) l k (y 0).val * at2 (α := EReal) r k (y 1).val := by
  simp only [matmul]
  rw [Ideal.matmul_constant_zero_apply, Finset.sum_range]
  refine (sum_one 512 _).trans ?_
  refine Finset.sum_congr rfl fun (k : Fin 512) _ => ?_
  have el : l (dot_S512x48_S512x1024_S48x1024_0_0_1_1_n_n.lhsIdx y (oneEquiv 512 k)) = at2 (α := EReal) l k.val (y 0).val := at2_eq (α := EReal) l (dot_S512x48_S512x1024_S48x1024_0_0_1_1_n_n.lhsIdx y (oneEquiv 512 k)) _ _ rfl rfl
  have er : r (dot_S512x48_S512x1024_S48x1024_0_0_1_1_n_n.rhsIdx y (oneEquiv 512 k)) = at2 (α := EReal) r k.val (y 1).val := at2_eq (α := EReal) r (dot_S512x48_S512x1024_S48x1024_0_0_1_1_n_n.rhsIdx y (oneEquiv 512 k)) _ _ rfl rfl
  exact congr (congrArg _ el) er

/-- The product `xg` at an index. -/
theorem mm_xg {φ ψ : FTy} (l : FVec Ideal S512x2560 φ) (r : FVec Ideal S512x48 ψ) (y : S2560x48.Idx) :
    matmul dot_S512x2560_S512x48_S2560x48_0_0_1_1_n_n none l r (constant (F := Ideal) S2560x48 .f32 0x00000000#32) y = ∑ k ∈ Finset.range 512, at2 (α := EReal) l k (y 0).val * at2 (α := EReal) r k (y 1).val := by
  simp only [matmul]
  rw [Ideal.matmul_constant_zero_apply, Finset.sum_range]
  refine (sum_one 512 _).trans ?_
  refine Finset.sum_congr rfl fun (k : Fin 512) _ => ?_
  have el : l (dot_S512x2560_S512x48_S2560x48_0_0_1_1_n_n.lhsIdx y (oneEquiv 512 k)) = at2 (α := EReal) l k.val (y 0).val := at2_eq (α := EReal) l (dot_S512x2560_S512x48_S2560x48_0_0_1_1_n_n.lhsIdx y (oneEquiv 512 k)) _ _ rfl rfl
  have er : r (dot_S512x2560_S512x48_S2560x48_0_0_1_1_n_n.rhsIdx y (oneEquiv 512 k)) = at2 (α := EReal) r k.val (y 1).val := at2_eq (α := EReal) r (dot_S512x2560_S512x48_S2560x48_0_0_1_1_n_n.rhsIdx y (oneEquiv 512 k)) _ _ rfl rfl
  exact congr (congrArg _ el) er

/-- The projection at an index. -/
theorem pay2_at (x : S512x2560.Idx → EReal) (a : S2560x48.Idx → EReal) (y : S512x48.Idx) :
    k0_pay2 (F := Ideal) x a y = ∑ k ∈ Finset.range 2560, at2 x (y 0).val k * at2 a k (y 1).val := by
  simp only [k0_pay2, shapeCast_self]
  exact mm_xa (φ := .bf16) (ψ := .bf16) x a y

/-- One column tile added to `g`, at an index. -/
theorem pay7_at (b : S48x1024.Idx → EReal) (r : S512x1024.Idx → EReal) (g : S512x48.Idx → EReal) (y : S512x48.Idx) :
    k0_pay7 (F := Ideal) b r g y = g y + ∑ j ∈ Finset.range 1024, at2 r (y 0).val j * at2 b (y 1).val j := by
  simp only [k0_pay7, k0_pay6, shapeCast_self]
  exact congrArg (g y + ·) (mm_rb (truncf .bf16 (r : FVec Ideal S512x1024 .f32) bitsLt_bf16_f32) b y)

/-- One row tile added to `d_b`, at an index. -/
theorem pay8_at (p : S512x48.Idx → EReal) (r : S512x1024.Idx → EReal) (d : S48x1024.Idx → EReal) (y : S48x1024.Idx) :
    k0_pay8 (F := Ideal) p r d y = d y + K2 * ∑ s ∈ Finset.range 512, at2 p s (y 0).val * at2 r s (y 1).val := by
  simp only [k0_pay8, k0_pay6, shapeCast_self]
  exact congrArg (fun z => d y + K2 * z) (mm_pr p (truncf .bf16 (r : FVec Ideal S512x1024 .f32) bitsLt_bf16_f32) y)

/-- One row tile added to `d_a`, at an index. -/
theorem pay9_at (g : S512x48.Idx → EReal) (d : S2560x48.Idx → EReal) (x : S512x2560.Idx → EReal) (y : S2560x48.Idx) :
    k0_pay9 (F := Ideal) g d x y = d y + K2 * ∑ s ∈ Finset.range 512, at2 x s (y 0).val * at2 g s (y 1).val := by
  simp only [k0_pay9, shapeCast_self]
  exact congrArg (fun z => d y + K2 * z) (mm_xg x (truncf .bf16 (g : FVec Ideal S512x48 .f32) bitsLt_bf16_f32) y)

/-- The masked residual tile at an index. -/
theorem pay16_at (v : BitVec 32) (p : S512x48.Idx → EReal) (b : S48x1024.Idx → EReal) (x : S512x2560.Idx → EReal) (e : S2560x1024.Idx → EReal)
    (y : S512x1024.Idx) : k0_pay16 (F := Ideal) v p b x e y = if ((y 0).val : ℤ) < v.toInt
      then (∑ k ∈ Finset.range 2560, at2 x (y 0).val k * at2 e k (y 1).val) - ∑ q ∈ Finset.range 48, at2 p (y 0).val q * at2 b q (y 1).val else 0 := by
  have hy : (y 0).val < 512 := (y 0).isLt
  have c : broadcastTo S512x1024 (cmpi .slt (iota .tc S512x1 32 [0] iota_S512x1_d0_w32) (broadcast S512x1 v)) broadcasts_S512x1_S512x1024 y
      = IntOp.cmpi .slt (BitVec.ofNat 32 (y 0).val) v := by
    refine (broadcastTo_apply _ broadcasts_S512x1_S512x1024 y (fun a => match a with
      | ⟨0, _⟩ => ⟨(y 0).val, hy⟩
      | ⟨1, _⟩ => ⟨0, Nat.one_pos⟩ : S512x1.Idx) (fun a => by fin_cases a <;> rfl)).trans ?_
    exact congrArg (fun z => IntOp.cmpi .slt z v) (iota_single_apply .tc S512x1 32 0 iota_S512x1_d0_w32 _)
  simp only [k0_pay16, shapeCast_self]
  refine Eq.trans ?_ (sel_lt (y 0).val (by omega) v _ _)
  refine congr (congr (congrArg _ c) ?_) Ideal.ofBits_zero_f32
  exact congr (congrArg HSub.hSub (mm_xe x e y)) (mm_pb p b y)

/-- A slice of 128 lanes at an index. -/
theorem lanes_at (r : S512x1024.Idx → EReal) (o : ℕ) (h : S512x1024.Slices ![0, o] S512x128) (y : S512x128.Idx) (ho : o + 128 ≤ 1024) :
    extractStridedSlice S512x128 ![0, o] r h y = at2 r (y 0).val (o + (y 1).val) := by
  have h0 : (y 0).val < 512 := (y 0).isLt
  have h1 : (y 1).val < 128 := (y 1).isLt
  refine (extractStridedSlice_apply ![0, o] r h y (fun a => match a with
    | ⟨0, _⟩ => ⟨(y 0).val, h0⟩
    | ⟨1, _⟩ => ⟨o + (y 1).val, by show o + (y 1).val < 1024; omega⟩ : S512x1024.Idx) (fun a => match a with
    | ⟨0, _⟩ => (Nat.zero_add _).symm
    | ⟨1, _⟩ => rfl)).trans ?_
  exact at2_eq r _ _ _ rfl rfl

/-- One column tile added to the losses by lane, at an index. -/
theorem pay17_at (v : BitVec 32) (p : S512x48.Idx → EReal) (b : S48x1024.Idx → EReal) (x : S512x2560.Idx → EReal) (e : S2560x1024.Idx → EReal)
    (l : S512x128.Idx → EReal) (y : S512x128.Idx) : k0_pay17 (F := Ideal) v p b x e l y
      = l y + ∑ o ∈ Finset.range 8, at2 (α := EReal) (k0_pay16 (F := Ideal) v p b x e) (y 0).val (128 * o + (y 1).val)
        * at2 (α := EReal) (k0_pay16 (F := Ideal) v p b x e) (y 0).val (128 * o + (y 1).val) := by
  unfold k0_pay17
  generalize (k0_pay16 (F := Ideal) v p b x e) = r
  have z : Ideal.ofBits .f32 0x00000000#32 = 0 := Ideal.ofBits_zero_f32
  refine congrArg (l y + ·) ?_
  simp only [Finset.sum_range_succ, Finset.sum_range_zero, ValueIdx.addf_apply, ValueIdx.mulf_apply]
  rw [lanes_at r 0 slices_S512x1024_o0_0_S512x128 y (by omega), lanes_at r 128 slices_S512x1024_o0_128_S512x128 y (by omega),
    lanes_at r 256 slices_S512x1024_o0_256_S512x128 y (by omega), lanes_at r 384 slices_S512x1024_o0_384_S512x128 y (by omega),
    lanes_at r 512 slices_S512x1024_o0_512_S512x128 y (by omega), lanes_at r 640 slices_S512x1024_o0_640_S512x128 y (by omega),
    lanes_at r 768 slices_S512x1024_o0_768_S512x128 y (by omega), lanes_at r 896 slices_S512x1024_o0_896_S512x128 y (by omega)]
  exact congrArg (fun q : EReal => q + at2 r (y 0).val (0 + (y 1).val) * at2 r (y 0).val (0 + (y 1).val) + at2 r (y 0).val (128 + (y 1).val) * at2 r (y 0).val (128 + (y 1).val) + at2 r (y 0).val (256 + (y 1).val) * at2 r (y 0).val (256 + (y 1).val) + at2 r (y 0).val (384 + (y 1).val) * at2 r (y 0).val (384 + (y 1).val) + at2 r (y 0).val (512 + (y 1).val) * at2 r (y 0).val (512 + (y 1).val) + at2 r (y 0).val (640 + (y 1).val) * at2 r (y 0).val (640 + (y 1).val) + at2 r (y 0).val (768 + (y 1).val) * at2 r (y 0).val (768 + (y 1).val) + at2 r (y 0).val (896 + (y 1).val) * at2 r (y 0).val (896 + (y 1).val)) z

/-- The losses of a tile, its lanes added. -/
theorem pay10_at (l : S512x128.Idx → EReal) (y : S1x1x512.Idx) : k0_pay10 (F := Ideal) l y = ∑ k ∈ Finset.range 128, at2 l (y 2).val k := by
  have h2 : (y 2).val < 512 := (y 2).isLt
  have z : ∀ q : Fin 1, q.val = 0 := fun q => Fin.val_eq_zero q
  have e0 : (y 0).val = 0 := z _
  have e1 : (y 1).val = 0 := z _
  unfold k0_pay10
  refine (shapeCast_apply _ shapeCasts_S1x512_S1x1x512 y (fun a => match a with
    | ⟨0, _⟩ => ⟨0, Nat.one_pos⟩
    | ⟨1, _⟩ => ⟨(y 2).val, h2⟩ : S1x512.Idx) ?_).trans ?_
  · rw [Shape.rowMajor_val_two, Shape.rowMajor_val_three]
    show 0 * 512 + (y 2).val = ((y 0).val * 1 + (y 1).val) * 512 + (y 2).val
    rw [e0, e1]
  refine (shapeCast_apply _ shapeCasts_S512_S1x512 _ (fun a => match a with
    | ⟨0, _⟩ => ⟨(y 2).val, h2⟩ : S512.Idx) ?_).trans ?_
  · rw [Shape.rowMajor_val_one, Shape.rowMajor_val_two]
    show (y 2).val = 0 * 512 + (y 2).val
    omega
  refine (Ideal.multiReduction_add_single _ _ reduces_S128x512_S512 (.inl rfl) rfl _).trans ?_
  rw [Finset.sum_range]
  refine Finset.sum_congr rfl fun (k : Fin 128) _ => ?_
  refine (transpose_apply [1, 0] l transposes_S512x128_p1_0_S128x512 _ (fun a => match a with
    | ⟨0, _⟩ => ⟨(y 2).val, h2⟩
    | ⟨1, _⟩ => k : S512x128.Idx) (fun a => match a with
    | ⟨0, _⟩ => rfl
    | ⟨1, _⟩ => rfl)).trans ?_
  exact at2_eq l _ _ _ rfl rfl

/-- The scales broadcast over 128 rows, at an index. -/
theorem scale_at (s : S1x1x1024.Idx → EReal) (y : S128x1024.Idx) :
    broadcastTo S128x1024 (shapeCast S1x1024 s shapeCasts_S1x1x1024_S1x1024) broadcasts_S1x1024_S128x1024 y = at3 s 0 0 (y 1).val := by
  have h1 : (y 1).val < 1024 := (y 1).isLt
  refine (broadcastTo_apply _ broadcasts_S1x1024_S128x1024 y (fun a => match a with
    | ⟨0, _⟩ => ⟨0, Nat.one_pos⟩
    | ⟨1, _⟩ => ⟨(y 1).val, h1⟩ : S1x1024.Idx) (fun a => by fin_cases a <;> rfl)).trans ?_
  refine (shapeCast_apply s shapeCasts_S1x1x1024_S1x1024 _ (fun a => match a with
    | ⟨0, _⟩ => ⟨0, Nat.one_pos⟩
    | ⟨1, _⟩ => ⟨0, Nat.one_pos⟩
    | ⟨2, _⟩ => ⟨(y 1).val, h1⟩ : S1x1x1024.Idx) ?_).trans ?_
  · rw [Shape.rowMajor_val_two, Shape.rowMajor_val_three]
    rfl
  exact at3_eq s _ _ _ _ rfl rfl rfl

/-- The errors of 128 rows whose codes are low nibbles, at an index. -/
theorem pay14_at (c : S128x1024.Idx → BitVec 8) (w : S128x1024.Idx → EReal) (s : S1x1x1024.Idx → EReal) (y : S128x1024.Idx) :
    k0_pay14 (F := Ideal) c w s y = w y - num (lo (c y)) * at3 s 0 0 (y 1).val := by
  simp only [k0_pay14, k0_pay13, shapeCast_self]
  exact congrArg (fun z => w y - num (lo (c y)) * z) (scale_at s y)

/-- The vector unit's shift by four is the host's. -/
theorem shr4 (x : BitVec 32) : IntOp.shrsi .vector x 4#32 = IntOp.shrsi .host x 4#32 := by
  unfold IntOp.shrsi
  rw [if_pos (by decide), if_pos (by decide)]

/-- The high nibbles of 128 rows of codes, at an index. -/
theorem pay15_at (c : S128x1024.Idx → BitVec 8) (y : S128x1024.Idx) : k0_pay15 (F := Ideal) c y = num (hi (c y)) := by
  unfold hi
  rw [← shr4]
  rfl

/-- The errors of 128 rows whose codes are high nibbles, at an index. -/
theorem pay18_at (w h : S128x1024.Idx → EReal) (s : S1x1x1024.Idx → EReal) (y : S128x1024.Idx) :
    k0_pay18 (F := Ideal) w h s y = w y - h y * at3 s 0 0 (y 1).val := by
  simp only [k0_pay18, shapeCast_self]
  exact congrArg (fun z => w y - h y * z) (scale_at s y)

end Cert.KernelIdeal.Hand

end
-- ==== Proof.FitI.lean ====
/- If a kernel's tiles hold the blocks of the arguments, its results hold the blocks of the specification's. -/
module

public import proofs.«01_k».proof.Proof.PayI

@[expose] public section

set_option maxRecDepth 16384

noncomputable section

namespace Cert.KernelIdeal.Hand

open Idealize.ShloMosaic Idealize.ShloMosaic.TcCoe
open Cert.KernelIdeal.Gen Cert.Spec

/-- A matrix known at every index is known at natural-number coordinates inside it. -/
theorem at2_of {α : Type} {N M : ℕ} [NeZero N] [NeZero M] (f : (⟨2, ![N, M]⟩ : Shape).Idx → α) (g : ℕ → ℕ → α)
    (h : ∀ y, f y = g (y 0).val (y 1).val) (i j : ℕ) (hi : i < N) (hj : j < M) : at2 f i j = g i j := by
  unfold at2
  rw [h]
  show g (i % N) (j % M) = _
  rw [Nat.mod_eq_of_lt hi, Nat.mod_eq_of_lt hj]

/-- The kernel's tiles are blocks of the arguments. -/
structure Fits (D : In Ideal) (A : Args) : Prop where
  live : ∀ u, u < 32 → ∀ s : ℕ, s < 512 → ((s : ℤ) < (D.v u).toInt ↔ A.live (512 * u + s))
  x : ∀ u, u < 32 → D.ok u → ∀ s k, s < 512 → k < 2560 → at2 (α := EReal) (D.X u) s k = A.x (512 * u + s) k
  a : ∀ k p, k < 2560 → p < 48 → at2 (α := EReal) D.A k p = A.a k p
  b : ∀ n, n < 10 → ∀ p j, p < 48 → j < 1024 → at2 (α := EReal) (D.B n) p j = A.b p (1024 * n + j)
  e : ∀ n, n < 10 → ∀ k j, k < 2560 → j < 1024 → at2 (α := EReal) (D.E n) k j = A.err k (1024 * n + j)

namespace Fits

variable {D : In Ideal} {A : Args} (h : Fits D A)
include h

/-- A tile with a live row has rows. -/
theorem ok_of_lt {u s : ℕ} (hs : (s : ℤ) < (D.v u).toInt) : D.ok u := by
  unfold In.ok; omega

/-- A tile without rows has no residuals. -/
theorem res_zero {u : ℕ} (hu : u < 32) (hok : ¬ D.ok u) (s n : ℕ) (hs : s < 512) : A.res (512 * u + s) n = 0 := by
  unfold Args.res
  rw [if_neg]
  intro hl
  have := (h.live u hu s hs).mpr hl
  unfold In.ok at hok
  omega

/-- The projections of a tile. -/
theorem P {u : ℕ} (hu : u < 32) (hok : D.ok u) (y : S512x48.Idx) : D.P u y = A.pb (512 * u + (y 0).val) (y 1).val := by
  have h0 : (y 0).val < 512 := (y 0).isLt
  have h1 : (y 1).val < 48 := (y 1).isLt
  refine (pay2_at (D.X u) D.A y).trans ?_
  unfold Args.pb
  refine Finset.sum_congr rfl fun k hk => ?_
  have hk := Finset.mem_range.mp hk
  rw [h.x u hu hok _ k h0 hk, h.a k _ hk h1]

/-- The projections of a tile, at natural-number coordinates. -/
theorem P' {u : ℕ} (hu : u < 32) (hok : D.ok u) (s p : ℕ) (hs : s < 512) (hp : p < 48) : at2 (α := EReal) (D.P u) s p = A.pb (512 * u + s) p :=
  at2_of (α := EReal) (D.P u) (fun s p => A.pb (512 * u + s) p) (fun y => h.P hu hok y) s p hs hp

/-- The residuals of a tile. -/
theorem R {n u : ℕ} (hn : n < 10) (hu : u < 32) (y : S512x1024.Idx) : D.R n u y = A.res (512 * u + (y 0).val) (1024 * n + (y 1).val) := by
  have h0 : (y 0).val < 512 := (y 0).isLt
  have h1 : (y 1).val < 1024 := (y 1).isLt
  refine (pay16_at (D.v u) (D.P u) (D.B n) (D.X u) (D.E n) y).trans ?_
  unfold Args.res
  by_cases hl : ((y 0).val : ℤ) < (D.v u).toInt
  · have hok : D.ok u := h.ok_of_lt hl
    rw [if_pos hl, if_pos ((h.live u hu _ h0).mp hl)]
    unfold Args.xe Args.y
    refine congr (congrArg HSub.hSub ?_) ?_
    · refine Finset.sum_congr rfl fun k hk => ?_
      have hk := Finset.mem_range.mp hk
      rw [h.x u hu hok _ k h0 hk, h.e n hn k _ hk h1]
    · refine Finset.sum_congr rfl fun q hq => ?_
      have hq := Finset.mem_range.mp hq
      rw [h.P' hu hok _ q h0 hq, h.b n hn q _ hq h1]
  · rw [if_neg hl, if_neg fun hl' => hl ((h.live u hu _ h0).mpr hl')]

/-- The residuals of a tile, at natural-number coordinates. -/
theorem R' {n u : ℕ} (hn : n < 10) (hu : u < 32) (s j : ℕ) (hs : s < 512) (hj : j < 1024) :
    at2 (α := EReal) (D.R n u) s j = A.res (512 * u + s) (1024 * n + j) :=
  at2_of (α := EReal) (D.R n u) (fun s j => A.res (512 * u + s) (1024 * n + j)) (fun y => h.R hn hu y) s j hs hj

/-- `g` of a tile after `n` column tiles. -/
theorem G {u : ℕ} (hu : u < 32) (n : ℕ) (hn : n ≤ 10) (y : S512x48.Idx) : D.G u n y
    = ∑ i ∈ Finset.range n, ∑ j ∈ Finset.range 1024, A.res (512 * u + (y 0).val) (1024 * i + j) * A.b (y 1).val (1024 * i + j) := by
  have h0 : (y 0).val < 512 := (y 0).isLt
  have h1 : (y 1).val < 48 := (y 1).isLt
  induction n with
  | zero =>
    simp only [In.G, k0_pay3, shapeCast_self, Finset.sum_range_zero]
    exact Ideal.ofBits_zero_f32
  | succ n ih =>
    refine (pay7_at (D.B n) (D.R n u) (D.G u n) y).trans ?_
    rw [ih (by omega), Finset.sum_range_succ _ n]
    refine congrArg (HAdd.hAdd (_ : EReal)) ?_
    refine Finset.sum_congr rfl fun j hj => ?_
    have hj := Finset.mem_range.mp hj
    rw [h.R' (by omega) hu _ j h0 hj, h.b n (by omega) _ j h1 hj]

/-- `g` of a tile. -/
theorem G10 {u : ℕ} (hu : u < 32) (y : S512x48.Idx) : D.G u 10 y = A.g (512 * u + (y 0).val) (y 1).val := by
  refine (h.G hu 10 (le_refl _) y).trans ?_
  unfold Args.g
  exact (sum_mul (fun n => A.res (512 * u + (y 0).val) n * A.b (y 1).val n) 10 1024).symm

/-- The losses of a tile by lane after `n` column tiles. -/
theorem L {u : ℕ} (hu : u < 32) (n : ℕ) (hn : n ≤ 10) (y : S512x128.Idx) : D.L u n y
    = ∑ i ∈ Finset.range n, ∑ o ∈ Finset.range 8, A.res (512 * u + (y 0).val) (1024 * i + (128 * o + (y 1).val))
      * A.res (512 * u + (y 0).val) (1024 * i + (128 * o + (y 1).val)) := by
  have h0 : (y 0).val < 512 := (y 0).isLt
  have h1 : (y 1).val < 128 := (y 1).isLt
  induction n with
  | zero =>
    simp only [In.L, k0_pay4, shapeCast_self, Finset.sum_range_zero]
    exact Ideal.ofBits_zero_f32
  | succ n ih =>
    have e : D.L u (n + 1) = k0_pay17 (D.v u) (D.P u) (D.B n) (D.X u) (D.E n) (D.L u n) := by
      simp only [In.L, k0_pay5, shapeCast_self]
    refine (congrFun e y).trans ((pay17_at (D.v u) (D.P u) (D.B n) (D.X u) (D.E n) (D.L u n) y).trans ?_)
    rw [ih (by omega), Finset.sum_range_succ _ n]
    refine congrArg (HAdd.hAdd (_ : EReal)) ?_
    refine Finset.sum_congr rfl fun o ho => ?_
    have ho := Finset.mem_range.mp ho
    have e : at2 (α := EReal) (k0_pay16 (F := Ideal) (D.v u) (D.P u) (D.B n) (D.X u) (D.E n)) (y 0).val (128 * o + (y 1).val)
      = A.res (512 * u + (y 0).val) (1024 * n + (128 * o + (y 1).val)) := h.R' (by omega) hu _ _ h0 (by omega)
    rw [e]

/-- The losses of a tile. -/
theorem loss {u : ℕ} (hu : u < 32) (y : S1x1x512.Idx) : outLoss D u y = A.loss (512 * u + (y 2).val) := by
  have h2 : (y 2).val < 512 := (y 2).isLt
  unfold outLoss
  split
  · refine (pay10_at (D.L u 10) y).trans ?_
    unfold Args.loss
    have e : ∀ k ∈ Finset.range 128, at2 (α := EReal) (D.L u 10) (y 2).val k = ∑ i ∈ Finset.range 10, ∑ o ∈ Finset.range 8,
        A.res (512 * u + (y 2).val) (1024 * i + (128 * o + k)) * A.res (512 * u + (y 2).val) (1024 * i + (128 * o + k)) := fun k hk =>
      at2_of (α := EReal) (D.L u 10) (fun s k => ∑ i ∈ Finset.range 10, ∑ o ∈ Finset.range 8,
        A.res (512 * u + s) (1024 * i + (128 * o + k)) * A.res (512 * u + s) (1024 * i + (128 * o + k)))
        (fun y => h.L hu 10 (le_refl _) y) _ _ h2 (Finset.mem_range.mp hk)
    rw [Finset.sum_congr rfl e, Finset.sum_comm]
    refine Eq.trans ?_ (sum_mul (fun n => A.res (512 * u + (y 2).val) n * A.res (512 * u + (y 2).val) n) 10 1024).symm
    refine Finset.sum_congr rfl fun i _ => ?_
    rw [Finset.sum_comm]
    exact (sum_mul (fun n => A.res (512 * u + (y 2).val) (1024 * i + n) * A.res (512 * u + (y 2).val) (1024 * i + n)) 8 128).symm
  · rename_i hok
    refine Eq.trans Ideal.ofBits_zero_f32 ?_
    unfold Args.loss
    refine (Finset.sum_eq_zero fun n _ => ?_).symm
    rw [h.res_zero hu hok _ n h2, zero_mul]

/-- A tile without rows has no `g`. -/
theorem g_zero {u : ℕ} (hu : u < 32) (hok : ¬ D.ok u) (s p : ℕ) (hs : s < 512) : A.g (512 * u + s) p = 0 := by
  unfold Args.g
  refine Finset.sum_eq_zero fun n _ => ?_
  rw [h.res_zero hu hok _ n hs, zero_mul]

/-- The `g` a tile puts out. -/
theorem g {u : ℕ} (hu : u < 32) (y : S512x48.Idx) : outG D u y = A.g (512 * u + (y 0).val) (y 1).val := by
  have h0 : (y 0).val < 512 := (y 0).isLt
  unfold outG
  split
  · exact h.G10 hu y
  · rename_i hok
    rw [h.g_zero hu hok _ _ h0]
    exact Ideal.ofBits_zero_f32

/-- `d_b` of a column tile after `m` row tiles. -/
theorem DB {n : ℕ} (hn : n < 10) (m : ℕ) (hm : m ≤ 32) (y : S48x1024.Idx) : D.DB n m y
    = ∑ u ∈ Finset.range m, K2 * ∑ s ∈ Finset.range 512, A.pb (512 * u + s) (y 0).val * A.res (512 * u + s) (1024 * n + (y 1).val) := by
  have h0 : (y 0).val < 48 := (y 0).isLt
  have h1 : (y 1).val < 1024 := (y 1).isLt
  induction m with
  | zero => exact Ideal.ofBits_zero_f32
  | succ m ih =>
    rw [Finset.sum_range_succ, ← ih (by omega)]
    simp only [In.DB]
    split
    · rename_i hok
      refine (pay8_at (D.P m) (D.R n m) (D.DB n m) y).trans ?_
      refine congrArg (fun z => D.DB n m y + K2 * z) ?_
      refine Finset.sum_congr rfl fun s hs => ?_
      have hs := Finset.mem_range.mp hs
      rw [h.P' (by omega) hok s _ hs h0, h.R' hn (by omega) s _ hs h1]
    · rename_i hok
      have z : ∑ s ∈ Finset.range 512, A.pb (512 * m + s) (y 0).val * A.res (512 * m + s) (1024 * n + (y 1).val) = 0 :=
        Finset.sum_eq_zero fun s hs => by rw [h.res_zero (by omega) hok s _ (Finset.mem_range.mp hs), mul_zero]
      rw [z, mul_zero]
      exact (add_zero _).symm

/-- `d_a` after `m` row tiles. -/
theorem DA (m : ℕ) (hm : m ≤ 32) (y : S2560x48.Idx) : D.DA m y
    = ∑ u ∈ Finset.range m, K2 * ∑ s ∈ Finset.range 512, A.x (512 * u + s) (y 0).val * A.g (512 * u + s) (y 1).val := by
  have h0 : (y 0).val < 2560 := (y 0).isLt
  have h1 : (y 1).val < 48 := (y 1).isLt
  induction m with
  | zero => exact Ideal.ofBits_zero_f32
  | succ m ih =>
    rw [Finset.sum_range_succ, ← ih (by omega)]
    simp only [In.DA]
    split
    · rename_i hok
      refine (pay9_at (D.G m 10) (D.DA m) (D.X m) y).trans ?_
      refine congrArg (fun z => D.DA m y + K2 * z) ?_
      refine Finset.sum_congr rfl fun s hs => ?_
      have hs := Finset.mem_range.mp hs
      have eg : at2 (α := EReal) (D.G m 10) s (y 1).val = A.g (512 * m + s) (y 1).val :=
        at2_of (α := EReal) (D.G m 10) (fun s p => A.g (512 * m + s) p) (fun y => h.G10 (by omega) y) _ _ hs h1
      rw [h.x m (by omega) hok s _ hs h0, eg]
    · rename_i hok
      have z : ∑ s ∈ Finset.range 512, A.x (512 * m + s) (y 0).val * A.g (512 * m + s) (y 1).val = 0 :=
        Finset.sum_eq_zero fun s hs => by rw [h.g_zero (by omega) hok s _ (Finset.mem_range.mp hs), mul_zero]
      rw [z, mul_zero]
      exact (add_zero _).symm

end Fits

end Cert.KernelIdeal.Hand

end
-- ==== Proof.ValueI.lean ====
/- The kernel's results over the extended reals are the specification's. -/
module

public import proofs.«01_k».proof.Proof.FitI

@[expose] public section

set_option maxRecDepth 16384

noncomputable section

namespace Cert.KernelIdeal.Hand

open Idealize.ShloMosaic Idealize.ShloMosaic.TcCoe Idealize.SL.Sem
open Idealize.ShloMosaic.Pipeline
open Cert.KernelIdeal.Gen Cert.Spec

/-- Taking 512 from a word does not wrap if it makes the word smaller. -/
theorem sub512 (x : BitVec 32) (h : (x - 512#32).slt x = true) : (x - 512#32).toInt = x.toInt - 512 := by
  rw [BitVec.slt_iff_toInt_lt] at h
  have h1 := BitVec.toInt_lt (x := x)
  have h2 := BitVec.le_toInt (x := x)
  rw [BitVec.toInt_sub, show (512#32).toInt = 512 from by decide] at h ⊢
  simp only [Int.bmod] at h ⊢
  omega

/-- The offset of a tile's rows. -/
theorem rowOff_cases (u : ℕ) : (u % 2 = 0 ∧ rowOff u = 0#32) ∨ (u % 2 = 1 ∧ rowOff u = 512#32) := by
  unfold rowOff
  rcases Nat.mod_two_eq_zero_or_one u with h | h <;> rw [h]
  · exact .inl ⟨rfl, rfl⟩
  · exact .inr ⟨rfl, rfl⟩

/-- The rows left to a tile, as an integer. -/
theorem left_toInt (x : BitVec 32) (h : (x - 512#32).slt x = true) (u : ℕ) : (x - rowOff u).toInt = x.toInt - ((u % 2 * 512 : ℕ) : ℤ) := by
  rcases rowOff_cases u with ⟨e, e'⟩ | ⟨e, e'⟩ <;> rw [e', e]
  · simp
  · exact sub512 x h

/-- A tile with rows fetches its own rows. -/
theorem xt_ok (T : S16.Idx → BitVec 32) (u : ℕ) (x : BitVec 32)
    (hx : T (fun a => ⟨u / 2 % 16, by
      have e : S16.size a = 16 := by fin_cases a; rfl
      omega⟩) = x) (h : (x - 512#32).slt x = true) (hok : 0 < (x - rowOff u).toInt) : xt (F := Ideal) T u = u := by
  unfold xt
  rw [if_pos]
  have e : (rowOff u).slt x = true := by
    rw [BitVec.slt_iff_toInt_lt]
    have := left_toInt x h u
    rcases rowOff_cases u with ⟨e, e'⟩ | ⟨e, e'⟩ <;> rw [e'] <;> rw [e] at this
    · rw [show (0#32).toInt = 0 from by decide]; omega
    · rw [show (512#32).toInt = 512 from by decide]; omega
  refine (congrArg (fun z => IntOp.cmpi .sgt z (rowOff u)) hx).trans ?_
  show BitVec.ofBool ((rowOff u).slt x) = 1#1
  rw [e]; rfl

/-- A row tile of the reshaped `x` at an index. -/
theorem xrows_val (x0 : S16x1024x2560.Idx → EReal) (u : ℕ) (hu : u < 32) (y : S512x2560.Idx) :
    xrows (shapeCast S16384x2560 x0 shapeCasts_S16x1024x2560_S16384x2560) u y
      = at3 x0 ((512 * u + (y 0).val) / 1024) ((512 * u + (y 0).val) % 1024) (y 1).val := by
  have h0 : (y 0).val < 512 := (y 0).isLt
  have h1 : (y 1).val < 2560 := (y 1).isLt
  unfold xrows
  refine (shapeCast_apply x0 shapeCasts_S16x1024x2560_S16384x2560 _ (fun a => match a with
    | ⟨0, _⟩ => ⟨(512 * u + (y 0).val) / 1024, by show _ < 16; omega⟩
    | ⟨1, _⟩ => ⟨(512 * u + (y 0).val) % 1024, by show _ < 1024; omega⟩
    | ⟨2, _⟩ => ⟨(y 1).val, h1⟩ : S16x1024x2560.Idx) ?_).trans (at3_eq x0 _ _ _ _ rfl rfl rfl)
  rw [Shape.rowMajor_val_two, Shape.rowMajor_val_three]
  show ((512 * u + (y 0).val) / 1024 * 1024 + (512 * u + (y 0).val) % 1024) * 2560 + (y 1).val = (512 * (u % 32) + (y 0).val) * 2560 + (y 1).val
  have : (512 * u + (y 0).val) / 1024 * 1024 + (512 * u + (y 0).val) % 1024 = 512 * (u % 32) + (y 0).val := by omega
  rw [this]

/-- A row of a column tile of the reshaped scales. -/
theorem scols_val (x4 : S20x10240.Idx → EReal) (n k : ℕ) (hn : n < 10) (hk : k < 20) (j : ℕ) (hj : j < 1024) :
    at3 (srow (scols (shapeCast S20x1x10240 x4 shapeCasts_S20x10240_S20x1x10240) n) k hk) 0 0 j = at2 x4 k (1024 * n + j) := by
  unfold at3 srow scols
  refine (shapeCast_apply x4 shapeCasts_S20x10240_S20x1x10240 _ (fun a => match a with
    | ⟨0, _⟩ => ⟨k, hk⟩
    | ⟨1, _⟩ => ⟨1024 * n + j, by show _ < 10240; omega⟩ : S20x10240.Idx) ?_).trans (at2_eq x4 _ _ _ rfl rfl)
  rw [Shape.rowMajor_val_two, Shape.rowMajor_val_three]
  show k * 10240 + (1024 * n + j) = (k * 1 + 0) * 10240 + (1024 * (n % 10) + j % 1024)
  omega

/-- A column tile of a matrix at an index. -/
theorem cols_val {α : Type} {N : ℕ} [NeZero N] (f : (⟨2, ![N, 10240]⟩ : Shape).Idx → α) (n : ℕ) (hn : n < 10) (y : (⟨2, ![N, 1024]⟩ : Shape).Idx) :
    cols f n y = at2 f (y 0).val (1024 * n + (y 1).val) := by
  unfold cols
  refine at2_eq f _ _ _ rfl ?_
  show 1024 * (n % 10) + (y 1).val = 1024 * n + (y 1).val
  rw [Nat.mod_eq_of_lt hn]

/-- 128 rows of a column tile of a matrix at an index. -/
theorem rows_cols_val {α : Type} {N : ℕ} [NeZero N] (f : (⟨2, ![N, 10240]⟩ : Shape).Idx → α) (n : ℕ) (hn : n < 10) (o : ℕ) (h : o + 128 ≤ N)
    (y : S128x1024.Idx) : rows (N := N) (cols f n) o h y = at2 f (o + (y 0).val) (1024 * n + (y 1).val) := by
  unfold rows
  exact cols_val f n hn _

variable (m : (ℓ : Loc nD τ sig) → Buf (Elt Ideal) ℓ)

/-- The arguments of the kernel. -/
def AK (c : Dev nD) : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- An error tile at an index. -/
theorem e_val (x2 : S2560x10240.Idx → EReal) (x3 : S1280x10240.Idx → BitVec 8) (x4 : S20x10240.Idx → EReal) (n : ℕ) (hn : n < 10) (y : S2560x1024.Idx)
    (A : Args) (hw : A.w = at2 x2) (hq : A.q = at2 x3) (hs : A.sc = at2 x4) :
    EV (F := Ideal) (cols (N := 2560) x2 n) (cols (N := 1280) x3 n) (scols (shapeCast S20x1x10240 x4 shapeCasts_S20x10240_S20x1x10240) n) y
      = A.err (y 0).val (1024 * n + (y 1).val) := by
  have h0 : (y 0).val < 2560 := (y 0).isLt
  have h1 : (y 1).val < 1024 := (y 1).isLt
  unfold EV Args.err
  rw [hw, hq, hs]
  by_cases hl : (y 0).val < 1280
  · simp only [if_pos hl]
    refine (pay14_at _ _ _ _).trans ?_
    refine congr (congrArg HSub.hSub ?_) (congr (congrArg HMul.hMul (congrArg (fun z => num (lo z)) ?_)) ?_)
    · refine (rows_cols_val x2 n hn _ _ _).trans ?_
      show at2 x2 (128 * ((y 0).val / 128 % 10) + (y 0).val % 128) (1024 * n + (y 1).val) = _
      rw [show 128 * ((y 0).val / 128 % 10) + (y 0).val % 128 = (y 0).val by omega]
    · refine (rows_cols_val x3 n hn _ _ _).trans ?_
      show at2 x3 (128 * ((y 0).val / 128 % 10) + (y 0).val % 128) (1024 * n + (y 1).val) = _
      rw [show 128 * ((y 0).val / 128 % 10) + (y 0).val % 128 = (y 0).val by omega]
    · refine (scols_val x4 n _ hn _ _ h1).trans ?_
      show at2 x4 ((y 0).val / 128 % 10) (1024 * n + (y 1).val) = _
      rw [show (y 0).val / 128 % 10 = (y 0).val / 128 by omega]
  · simp only [if_neg hl]
    refine (pay18_at _ _ _ _).trans ?_
    refine congr (congrArg HSub.hSub ?_) (congr (congrArg HMul.hMul ((pay15_at _ _).trans (congrArg (fun z => num (hi z)) ?_))) ?_)
    · refine (rows_cols_val x2 n hn _ _ _).trans ?_
      show at2 x2 (128 * (((y 0).val - 1280) / 128 % 10) + 1280 + (y 0).val % 128) (1024 * n + (y 1).val) = _
      rw [show 128 * (((y 0).val - 1280) / 128 % 10) + 1280 + (y 0).val % 128 = (y 0).val by omega]
    · refine (rows_cols_val x3 n hn _ _ _).trans ?_
      show at2 x3 (128 * (((y 0).val - 1280) / 128 % 10) + (y 0).val % 128) (1024 * n + (y 1).val) = _
      rw [show 128 * (((y 0).val - 1280) / 128 % 10) + (y 0).val % 128 = (y 0).val - 1280 by omega]
    · refine (scols_val x4 n _ hn _ _ h1).trans ?_
      show at2 x4 (((y 0).val - 1280) / 128 % 10 + 10) (1024 * n + (y 1).val) = _
      rw [show ((y 0).val - 1280) / 128 % 10 + 10 = (y 0).val / 128 by omega]

/-- The row count of tile `u`'s problem. -/
theorem T_val (c : Dev nD) (u : ℕ) (hu : u < 32) : (DI m c).T (fun a => ⟨u / 2 % 16, by
    have e : S16.size a = 16 := by fin_cases a; rfl
    omega⟩) = (AK m c).len (u / 2) := by
  have e : (DI m c).T = m ((c : Thread nD τ).loc main_arg1) := (V_pre m c 0).symm.trans (V_arg1 m c)
  rw [e]
  refine at1_eq (m ((c : Thread nD τ).loc main_arg1)) _ _ ?_
  show u / 2 % 16 = u / 2
  omega

/-- The row counts do not wrap. -/
def Unwrapped (A : Args) : Prop := ∀ i, (A.len i - 512#32).slt (A.len i) = true

/-- What the kernel reads fits its arguments. -/
theorem fits (c : Dev nD) (hU : Unwrapped (AK m c)) : Fits (DI m c) (AK m c) where
  live u hu s hs := by
    have e : (DI m c).v u = (AK m c).len (u / 2) - rowOff u := congrArg (· - rowOff u) (T_val m c u hu)
    rw [e, left_toInt _ (hU _) u]
    unfold Args.live
    rw [show (512 * u + s) / 1024 = u / 2 by omega, show (512 * u + s) % 1024 = u % 2 * 512 + s by omega]
    omega
  x u hu hok s k hs hk := by
    have e : (DI m c).v u = (AK m c).len (u / 2) - rowOff u := congrArg (· - rowOff u) (T_val m c u hu)
    have hok' : 0 < ((AK m c).len (u / 2) - rowOff u).toInt := e ▸ hok
    have ex : xt (F := Ideal) (tbl m 0) u = u := xt_ok (tbl m 0) u _ (T_val m c u hu) (hU _) hok'
    refine at2_of (α := EReal) ((DI m c).X u) (fun s k => (AK m c).x (512 * u + s) k) (fun y => ?_) s k hs hk
    show xrows (V m c main_v0) (xt (F := Ideal) (tbl m 0) u) y = _
    rw [ex, V_v0]
    exact xrows_val _ u hu y
  a k p hk hp := congrArg (fun f : S2560x48.Idx → EReal => at2 f k p) (V_arg5 m c)
  b n hn p j hp hj := by
    refine at2_of (α := EReal) ((DI m c).B n) (fun p j => (AK m c).b p (1024 * n + j)) (fun y => ?_) p j hp hj
    show cols (N := 48) (V m c main_arg6) n y = _
    rw [V_arg6]
    exact cols_val _ n hn y
  e n hn k j hk hj := by
    refine at2_of (α := EReal) ((DI m c).E n) (fun k j => (AK m c).err k (1024 * n + j)) (fun y => ?_) k j hk hj
    show EV (F := Ideal) (cols (N := 2560) (V m c main_arg2) n) (cols (N := 1280) (V m c main_arg3) n) (scols (V m c main_v1) n) y = _
    rw [V_arg2, V_arg3, V_v1]
    exact e_val _ _ _ n hn y (AK m c) rfl rfl rfl

/-- The losses put out. -/
theorem loss_out (c : Dev nD) (hU : Unwrapped (AK m c)) (y : S16x1024.Idx) :
    shapeCast S16x1024 (allLoss (DI m c)) shapeCasts_S32x1x512_S16x1024 y = (AK m c).loss ((y 0).val * 1024 + (y 1).val) := by
  have h0 : (y 0).val < 16 := (y 0).isLt
  have h1 : (y 1).val < 1024 := (y 1).isLt
  refine (shapeCast_apply (allLoss (DI m c)) shapeCasts_S32x1x512_S16x1024 y (fun a => match a with
    | ⟨0, _⟩ => ⟨((y 0).val * 1024 + (y 1).val) / 512, by show _ < 32; omega⟩
    | ⟨1, _⟩ => ⟨0, Nat.one_pos⟩
    | ⟨2, _⟩ => ⟨((y 0).val * 1024 + (y 1).val) % 512, by show _ < 512; omega⟩ : S32x1x512.Idx) ?_).trans ?_
  · rw [Shape.rowMajor_val_two, Shape.rowMajor_val_three]
    show (((y 0).val * 1024 + (y 1).val) / 512 * 1 + 0) * 512 + ((y 0).val * 1024 + (y 1).val) % 512 = (y 0).val * 1024 + (y 1).val
    omega
  · refine ((fits m c hU).loss (u := ((y 0).val * 1024 + (y 1).val) / 512) (by omega) _).trans ?_
    show (AK m c).loss (512 * (((y 0).val * 1024 + (y 1).val) / 512) + ((y 0).val * 1024 + (y 1).val) % 512) = _
    rw [show 512 * (((y 0).val * 1024 + (y 1).val) / 512) + ((y 0).val * 1024 + (y 1).val) % 512 = (y 0).val * 1024 + (y 1).val by omega]

/-- The `g` put out. -/
theorem g_out (c : Dev nD) (hU : Unwrapped (AK m c)) (y : S16x1024x48.Idx) :
    shapeCast S16x1024x48 (allG (DI m c)) shapeCasts_S16384x48_S16x1024x48 y = (AK m c).g ((y 0).val * 1024 + (y 1).val) (y 2).val := by
  have h0 : (y 0).val < 16 := (y 0).isLt
  have h1 : (y 1).val < 1024 := (y 1).isLt
  have h2 : (y 2).val < 48 := (y 2).isLt
  refine (shapeCast_apply (allG (DI m c)) shapeCasts_S16384x48_S16x1024x48 y (fun a => match a with
    | ⟨0, _⟩ => ⟨(y 0).val * 1024 + (y 1).val, by show _ < 16384; omega⟩
    | ⟨1, _⟩ => ⟨(y 2).val, h2⟩ : S16384x48.Idx) ?_).trans ?_
  · rw [Shape.rowMajor_val_two, Shape.rowMajor_val_three]
    rfl
  · refine ((fits m c hU).g (u := ((y 0).val * 1024 + (y 1).val) / 512) (by omega) _).trans ?_
    show (AK m c).g (512 * (((y 0).val * 1024 + (y 1).val) / 512) + ((y 0).val * 1024 + (y 1).val) % 512) (y 2).val = _
    rw [show 512 * (((y 0).val * 1024 + (y 1).val) / 512) + ((y 0).val * 1024 + (y 1).val) % 512 = (y 0).val * 1024 + (y 1).val by omega]

/-- The `d_a` put out. -/
theorem da_out (c : Dev nD) (hU : Unwrapped (AK m c)) (hR : (AK m c).Real) (y : S2560x48.Idx) :
    (DI m c).DA 32 y = (AK m c).da (y 0).val (y 1).val :=
  ((fits m c hU).DA 32 (le_refl _) y).trans (hR.da_tiles _ _).symm

/-- The `d_b` put out. -/
theorem db_out (c : Dev nD) (hU : Unwrapped (AK m c)) (hR : (AK m c).Real) (y : S48x10240.Idx) :
    allDb (DI m c) y = (AK m c).db (y 0).val (y 1).val := by
  have h1 : (y 1).val < 10240 := (y 1).isLt
  refine ((fits m c hU).DB (n := (y 1).val / 1024) (by omega) 32 (le_refl _) _).trans ?_
  show ∑ u ∈ Finset.range 32, K2 * ∑ s ∈ Finset.range 512, (AK m c).pb (512 * u + s) (y 0).val
    * (AK m c).res (512 * u + s) (1024 * ((y 1).val / 1024) + (y 1).val % 1024) = _
  rw [show 1024 * ((y 1).val / 1024) + (y 1).val % 1024 = (y 1).val by omega]
  exact (hR.db_tiles _ _).symm

end Cert.KernelIdeal.Hand

end
-- ==== Proof.RefI.lean ====
/- The reference's results, read at an index as the sums of Spec.lean. -/
module

public import proofs.«01_k».proof.Proof.Gen.ReferenceIdeal.Read
public import proofs.«01_k».proof.Proof.Gen.Pre_finite_and_unwrapped
public import proofs.«01_k».proof.Proof.Spec

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen Cert.ReferenceIdeal.Read Cert.Spec

variable (x0 : (⟨S16x1024x2560, .bf16⟩ : BufTy).Contents (Elt Ideal)) (x1 : (⟨S16, .i32⟩ : BufTy).Contents (Elt Ideal))
  (x2 : (⟨S2560x10240, .bf16⟩ : BufTy).Contents (Elt Ideal)) (x3 : (⟨S1280x10240, .i8⟩ : BufTy).Contents (Elt Ideal))
  (x4 : (⟨S20x10240, .bf16⟩ : BufTy).Contents (Elt Ideal)) (x5 : (⟨S2560x48, .bf16⟩ : BufTy).Contents (Elt Ideal))
  (x6 : (⟨S48x10240, .bf16⟩ : BufTy).Contents (Elt Ideal))

/-- An element of `x`, by its row among all problems. -/
theorem x_at (y : S16x1024x2560.Idx) (r k : ℕ) (h : (y 0).val * 1024 + (y 1).val = r) (hk : (y 2).val = k) :
    x0 y = (argsOf x0 x1 x2 x3 x4 x5 x6).x r k := by
  have h1 : (y 1).val < 1024 := (y 1).isLt
  exact at3_eq x0 y (r / 1024) (r % 1024) k (by omega) (by omega) hk

/-- The low half of the errors. -/
theorem e_lo (i : S1280x10240.Idx) (k n : ℕ) (hk : (i 0).val = k) (hn : (i 1).val = n) :
    val_main_v24 (F := Ideal) x2 x3 x4 i = (argsOf x0 x1 x2 x3 x4 x5 x6).err k n := by
  have h0 : (i 0).val < 1280 := (i 0).isLt
  have h1 : (i 1).val < 10240 := (i 1).isLt
  subst hk hn
  rw [val_main_v24_apply, val_main_v23_apply, val_main_v22_apply, val_main_v21_apply, val_main_v17_apply, val_main_v16_apply, val_main_v15_apply,
    val_main_v6_apply, val_main_v5_apply, val_main_v4_apply, val_main_v3_apply, val_main_v2_apply, val_main_v1_apply, val_main_v0_apply]
  unfold Args.err
  rw [if_pos h0]
  have ew : x2 (idx_main_v21 i) = (argsOf x0 x1 x2 x3 x4 x5 x6).w (i 0).val (i 1).val := at2_eq x2 _ _ _ rfl rfl
  have eq : x3 i = (argsOf x0 x1 x2 x3 x4 x5 x6).q (i 0).val (i 1).val := at2_eq x3 _ _ _ rfl rfl
  have es : x4 (idx_main_v15 (idx_main_v16 (idx_main_v17 i))) = (argsOf x0 x1 x2 x3 x4 x5 x6).sc ((i 0).val / 128) (i 1).val :=
    at2_eq x4 _ _ _ (by show ((i 0).val * 10240 + (i 1).val) / 1310720 = (i 0).val / 128; omega)
      (by show ((i 0).val * 10240 + (i 1).val) % 10240 = (i 1).val; omega)
  rw [ew, eq, es]
  rfl

/-- The high half of the errors. -/
theorem e_hi (i : S1280x10240.Idx) (k n : ℕ) (hk : 1280 + (i 0).val = k) (hn : (i 1).val = n) :
    val_main_v28 (F := Ideal) x2 x3 x4 i = (argsOf x0 x1 x2 x3 x4 x5 x6).err k n := by
  have h0 : (i 0).val < 1280 := (i 0).isLt
  have h1 : (i 1).val < 10240 := (i 1).isLt
  subst hk hn
  rw [val_main_v28_apply, val_main_v27_apply, val_main_v26_apply, val_main_v25_apply, val_main_v20_apply, val_main_v19_apply, val_main_v18_apply,
    val_main_v14_apply, val_main_v13_apply, val_main_v12_apply, val_main_v11_apply, val_main_v10_apply, val_main_v9_apply, val_main_v8_apply,
    val_main_v7_apply, val_main_v0_apply]
  unfold Args.err
  rw [if_neg (by omega)]
  have ew : x2 (idx_main_v25 i) = (argsOf x0 x1 x2 x3 x4 x5 x6).w (1280 + (i 0).val) (i 1).val := at2_eq x2 _ _ _ rfl rfl
  have eq : x3 i = (argsOf x0 x1 x2 x3 x4 x5 x6).q (1280 + (i 0).val - 1280) (i 1).val := at2_eq x3 _ _ _ (by omega) rfl
  have es : x4 (idx_main_v18 (idx_main_v19 (idx_main_v20 i))) = (argsOf x0 x1 x2 x3 x4 x5 x6).sc ((1280 + (i 0).val) / 128) (i 1).val :=
    at2_eq x4 _ _ _ (by show 10 + ((i 0).val * 10240 + (i 1).val) / 1310720 = (1280 + (i 0).val) / 128; omega)
      (by show ((i 0).val * 10240 + (i 1).val) % 10240 = (i 1).val; omega)
  rw [ew, eq, es]
  rfl

/-- The error of a row against a column. -/
theorem xe_at (i : S16x1024x10240.Idx) (r n : ℕ) (hr : (i 0).val * 1024 + (i 1).val = r) (hn : (i 2).val = n) :
    val_main_v33 (F := Ideal) x0 x2 x3 x4 i = (argsOf x0 x1 x2 x3 x4 x5 x6).xe r n := by
  have a : val_main_v30 (F := Ideal) x0 x2 x3 x4 i
      = ∑ k ∈ Finset.range 1280, (argsOf x0 x1 x2 x3 x4 x5 x6).x r k * (argsOf x0 x1 x2 x3 x4 x5 x6).err k n := by
    rw [val_main_v30_apply, Finset.sum_range]
    refine Finset.sum_congr rfl fun k _ => ?_
    rw [val_main_v29_apply, e_lo x0 x1 x2 x3 x4 x5 x6 (ridx_main_v30 i k) k.val n rfl hn, x_at x0 x1 x2 x3 x4 x5 x6 (idx_main_v29 (lidx_main_v30 i k)) r k.val hr rfl]
  have b : val_main_v32 (F := Ideal) x0 x2 x3 x4 i
      = ∑ k ∈ Finset.range 1280, (argsOf x0 x1 x2 x3 x4 x5 x6).x r (1280 + k) * (argsOf x0 x1 x2 x3 x4 x5 x6).err (1280 + k) n := by
    rw [val_main_v32_apply, Finset.sum_range]
    refine Finset.sum_congr rfl fun k _ => ?_
    rw [val_main_v31_apply, e_hi x0 x1 x2 x3 x4 x5 x6 (ridx_main_v32 i k) (1280 + k.val) n rfl hn, x_at x0 x1 x2 x3 x4 x5 x6 (idx_main_v31 (lidx_main_v32 i k)) r (1280 + k.val) hr rfl]
  rw [val_main_v33_apply, a, b]
  exact (Finset.sum_range_add (fun k => (argsOf x0 x1 x2 x3 x4 x5 x6).x r k * (argsOf x0 x1 x2 x3 x4 x5 x6).err k n) 1280 1280).symm

/-- The projection of a row. -/
theorem pb_at (i : S16x1024x48.Idx) (r p : ℕ) (hr : (i 0).val * 1024 + (i 1).val = r) (hp : (i 2).val = p) :
    val_main_v35 (F := Ideal) x0 x5 i = (argsOf x0 x1 x2 x3 x4 x5 x6).pb r p := by
  refine (val_main_v34_apply x0 x5 i).trans ?_
  unfold Args.pb
  rw [Finset.sum_range]
  refine Finset.sum_congr rfl fun k _ => ?_
  rw [x_at x0 x1 x2 x3 x4 x5 x6 (lidx_main_v34 i k) r k.val hr rfl]
  exact congrArg _ (at2_eq x5 (ridx_main_v34 i k) k.val p rfl hp)

/-- The correction of a row at a column. -/
theorem y_at (i : S16x1024x10240.Idx) (r n : ℕ) (hr : (i 0).val * 1024 + (i 1).val = r) (hn : (i 2).val = n) :
    val_main_v36 (F := Ideal) x0 x5 x6 i = (argsOf x0 x1 x2 x3 x4 x5 x6).y r n := by
  refine (val_main_v36_apply x0 x5 x6 i).trans ?_
  unfold Args.y
  rw [Finset.sum_range]
  refine Finset.sum_congr rfl fun k _ => ?_
  rw [pb_at x0 x1 x2 x3 x4 x5 x6 (lidx_main_v36 i k) r k.val hr rfl]
  exact congrArg _ (at2_eq x6 (ridx_main_v36 i k) k.val n rfl hn)

/-- The masked residual. -/
theorem res_at (i : S16x1024x10240.Idx) (r n : ℕ) (hr : (i 0).val * 1024 + (i 1).val = r) (hn : (i 2).val = n) :
    val_main_v45 (F := Ideal) x0 x1 x2 x3 x4 x5 x6 i = (argsOf x0 x1 x2 x3 x4 x5 x6).res r n := by
  have h1 : (i 1).val < 1024 := (i 1).isLt
  rw [val_main_v45_apply, val_main_call0_v1_apply, val_main_call0_v2_apply, val_main_call0_v0_apply, val_main_cst_apply, val_main_v44_apply,
    val_main_v43_apply, val_main_v42_apply, val_main_v41_apply, val_main_v40_apply, val_main_v39_apply, val_main_v38_apply, val_main_v37_apply,
    xe_at x0 x1 x2 x3 x4 x5 x6 i r n hr hn, y_at x0 x1 x2 x3 x4 x5 x6 i r n hr hn]
  refine (sel_lt (i 1).val h1 _ _ _).trans ?_
  have el : x1 (idx_main_v39 (idx_main_v41 (idx_main_v43 (idx_main_call0_v1 i)))) = (argsOf x0 x1 x2 x3 x4 x5 x6).len (r / 1024) :=
    at1_eq x1 _ _ (by show (i 0).val = r / 1024; omega)
  rw [el, show (i 1).val = r % 1024 by omega]
  unfold Args.res Args.live
  exact congrArg (fun z : EReal => if ((r % 1024 : ℕ) : ℤ) < ((argsOf x0 x1 x2 x3 x4 x5 x6).len (r / 1024)).toInt
    then (argsOf x0 x1 x2 x3 x4 x5 x6).xe r n - (argsOf x0 x1 x2 x3 x4 x5 x6).y r n else z) Ideal.ofBits_zero_f32

/-- The loss of a row. -/
theorem loss_at (i : S16x1024.Idx) (r : ℕ) (hr : (i 0).val * 1024 + (i 1).val = r) :
    val_main_v47 (F := Ideal) x0 x1 x2 x3 x4 x5 x6 i = (argsOf x0 x1 x2 x3 x4 x5 x6).loss r := by
  refine (val_main_v47_apply x0 x1 x2 x3 x4 x5 x6 i).trans ?_
  unfold Args.loss
  rw [Finset.sum_range]
  refine (congrArg (· + _) (show (val_main_cst_6 (F := Ideal)) _ = (0 : EReal) from Ideal.ofBits_zero_f32)).trans ((zero_add _).trans ?_)
  refine Finset.sum_congr rfl fun k _ => ?_
  rw [val_main_v46_apply, res_at x0 x1 x2 x3 x4 x5 x6 (idx_main_v47 i k) r k.val hr rfl]
  rfl

/-- The gradient of a row's projection. -/
theorem g_at (i : S16x1024x48.Idx) (r p : ℕ) (hr : (i 0).val * 1024 + (i 1).val = r) (hp : (i 2).val = p) :
    val_main_v49 (F := Ideal) x0 x1 x2 x3 x4 x5 x6 i = (argsOf x0 x1 x2 x3 x4 x5 x6).g r p := by
  refine (val_main_v49_apply x0 x1 x2 x3 x4 x5 x6 i).trans ?_
  unfold Args.g
  rw [Finset.sum_range]
  refine Finset.sum_congr rfl fun k _ => ?_
  have e : val_main_v48 (F := Ideal) x0 x1 x2 x3 x4 x5 x6 (lidx_main_v49 i k) = (argsOf x0 x1 x2 x3 x4 x5 x6).res r k.val :=
    res_at x0 x1 x2 x3 x4 x5 x6 (lidx_main_v49 i k) r k.val hr rfl
  rw [e]
  exact congrArg _ (at2_eq x6 (ridx_main_v49 i k) p k.val hp rfl)

/-- A sum over all rows, problem by problem. -/
theorem sum_rows (f : ℕ → EReal) : ∑ b : Fin 16, ∑ s : Fin 1024, f (b.val * 1024 + s.val) = ∑ r ∈ Finset.range 16384, f r := by
  rw [show 16384 = 16 * 1024 from rfl, sum_mul, Finset.sum_range]
  refine Finset.sum_congr rfl fun b _ => ?_
  rw [Finset.sum_range]
  refine Finset.sum_congr rfl fun s _ => ?_
  rw [Nat.mul_comm]

/-- The two coordinates of an index over two contracted axes. -/
def pairEquiv (n k : ℕ) : Fin n × Fin k ≃ (Shape.ofList [n, k]).Idx := (piFinTwoEquiv (fun a : Fin 2 => Fin ((Shape.ofList [n, k]).size a))).symm

/-- A sum over two contracted axes. -/
theorem sum_pair (n k : ℕ) (f : (Shape.ofList [n, k]).Idx → EReal) : ∑ q, f q = ∑ a : Fin n, ∑ b : Fin k, f (pairEquiv n k (a, b)) := by
  rw [← Equiv.sum_comp (pairEquiv n k)]
  exact Fintype.sum_prod_type _

/-- The gradient of `a`. -/
theorem da_at (i : S2560x48.Idx) (k p : ℕ) (hk : (i 0).val = k) (hp : (i 1).val = p) :
    val_main_v53 (F := Ideal) x0 x1 x2 x3 x4 x5 x6 i = (argsOf x0 x1 x2 x3 x4 x5 x6).da k p := by
  rw [val_main_v53_apply, val_main_v52_apply, val_main_cst_7_apply]
  unfold val_main_v51 Args.da
  refine congrArg (K2 * ·) ?_
  simp only [Host.dotGeneral]
  rw [Ideal.dotGeneral_apply, ← sum_rows]
  refine (sum_pair 16 1024 _).trans ?_
  refine Finset.sum_congr rfl fun (b : Fin 16) _ => Finset.sum_congr rfl fun (s : Fin 1024) _ => ?_
  have ex := x_at x0 x1 x2 x3 x4 x5 x6 (dot_S16x1024x2560_S16x1024x48_S2560x48_01_01_2_2_n_n.lhsIdx i (pairEquiv 16 1024 (b, s))) (b.val * 1024 + s.val) k rfl hk
  have eg : val_main_v50 (F := Ideal) x0 x1 x2 x3 x4 x5 x6 (dot_S16x1024x2560_S16x1024x48_S2560x48_01_01_2_2_n_n.rhsIdx i (pairEquiv 16 1024 (b, s)))
      = (argsOf x0 x1 x2 x3 x4 x5 x6).g (b.val * 1024 + s.val) p :=
    g_at x0 x1 x2 x3 x4 x5 x6 (dot_S16x1024x2560_S16x1024x48_S2560x48_01_01_2_2_n_n.rhsIdx i (pairEquiv 16 1024 (b, s))) (b.val * 1024 + s.val) p rfl hp
  rw [ex, eg]

/-- The gradient of `b`. -/
theorem db_at (i : S48x10240.Idx) (p n : ℕ) (hp : (i 0).val = p) (hn : (i 1).val = n) :
    val_main_v56 (F := Ideal) x0 x1 x2 x3 x4 x5 x6 i = (argsOf x0 x1 x2 x3 x4 x5 x6).db p n := by
  rw [val_main_v56_apply, val_main_v55_apply, val_main_cst_8_apply]
  unfold val_main_v54 Args.db
  refine congrArg (K2 * ·) ?_
  simp only [Host.dotGeneral]
  rw [Ideal.dotGeneral_apply, ← sum_rows]
  refine (sum_pair 16 1024 _).trans ?_
  refine Finset.sum_congr rfl fun (b : Fin 16) _ => Finset.sum_congr rfl fun (s : Fin 1024) _ => ?_
  have ex := pb_at x0 x1 x2 x3 x4 x5 x6 (dot_S16x1024x48_S16x1024x10240_S48x10240_01_01_2_2_n_n.lhsIdx i (pairEquiv 16 1024 (b, s))) (b.val * 1024 + s.val) p rfl hp
  have eg : val_main_v48 (F := Ideal) x0 x1 x2 x3 x4 x5 x6 (dot_S16x1024x48_S16x1024x10240_S48x10240_01_01_2_2_n_n.rhsIdx i (pairEquiv 16 1024 (b, s)))
      = (argsOf x0 x1 x2 x3 x4 x5 x6).res (b.val * 1024 + s.val) n :=
    res_at x0 x1 x2 x3 x4 x5 x6 (dot_S16x1024x48_S16x1024x10240_S48x10240_01_01_2_2_n_n.rhsIdx i (pairEquiv 16 1024 (b, s))) (b.val * 1024 + s.val) n rfl hn
  rw [ex, eg]

end Cert.ReferenceIdeal.Hand

end
-- ==== Proof.PreI.lean ====
/- What the precondition says of the arguments, and the reference's run read as the specification. -/
module

public import proofs.«01_k».proof.Defs
public import proofs.«01_k».proof.Proof.ValueI
public import proofs.«01_k».proof.Proof.RefI
public import proofs.«01_k».proof.Proof.Gen.ReferenceIdeal.Run

@[expose] public section

set_option maxRecDepth 16384

noncomputable section

namespace Cert.Value

open Idealize.ShloMosaic Idealize.ShloMosaic.TcCoe Idealize.SL.Sem
open Cert.Spec

/-- The bf16 pattern the precondition compares with is plus infinity. -/
theorem inf_bits : Ideal.ofBits .bf16 0x7F80#16 = ⊤ := by
  simp only [Ideal.ofBits, Ideal.ieee]
  rw [if_pos (by decide), if_pos (by decide), if_neg (by decide)]

/-- An extended real whose absolute value is below plus infinity is a real number. -/
theorem re_of_lt (x : EReal) (h : max x (-x) < ⊤) : Re x := by
  induction x using EReal.rec with
  | bot => simp at h
  | coe r => exact ⟨r, rfl⟩
  | top => simp at h

/-- An array whose comparison with infinity is all ones holds real numbers. -/
theorem re_of_pre {s : Shape} (x : FVec Ideal s .bf16) (hb : (⟨0, ![]⟩ : Shape).BroadcastsInDim s (![] : Fin 0 → Fin s.rank))
    (hx : cmpf .olt (Host.absf x) (broadcastInDim s ![] hb (constant (F := Ideal) ⟨0, ![]⟩ .bf16 0x7F80#16)) = fun _ => 1#1) (i : s.Idx) :
    Re (x i) := by
  have h : BitVec.ofBool (decide ((max (x i) (-(x i)) : EReal) < Ideal.ofBits .bf16 0x7F80#16)) = 1#1 := congrFun hx i
  rw [inf_bits] at h
  by_cases hl : (max (x i) (-(x i)) : EReal) < ⊤
  · exact re_of_lt _ hl
  · rw [decide_eq_false hl] at h
    exact absurd h (by decide)

/-- A word below another if the comparison says so. -/
theorem slt_of_one (x y : BitVec 32) (h : IntOp.cmpi .slt x y = 1#1) : x.slt y = true := by
  have e : BitVec.ofBool (x.slt y) = 1#1 := h
  cases hs : x.slt y with
  | true => rfl
  | false => rw [hs] at e; exact absurd e (by decide)

/-- Words whose comparison with themselves less 512 is all ones do not wrap. -/
theorem slt_of_pre (x : IVec ⟨1, ![16]⟩ 32) (hb : (⟨0, ![]⟩ : Shape).BroadcastsInDim ⟨1, ![16]⟩ (![] : Fin 0 → Fin 1))
    (hx : cmpi .slt (subi x (broadcastInDim ⟨1, ![16]⟩ ![] hb (constantI ⟨0, ![]⟩ 32 512#32))) x = fun _ => 1#1) (i : (⟨1, ![16]⟩ : Shape).Idx) :
    (x i - 512#32).slt (x i) = true :=
  slt_of_one (x i - 512#32) (x i) (congrFun hx i)

/-- Arguments read off arrays of real numbers are real numbers. -/
theorem argsOf_real (x0 : (⟨3, ![16, 1024, 2560]⟩ : Shape).Idx → EReal) (x1 : (⟨1, ![16]⟩ : Shape).Idx → BitVec 32)
    (x2 : (⟨2, ![2560, 10240]⟩ : Shape).Idx → EReal) (x3 : (⟨2, ![1280, 10240]⟩ : Shape).Idx → BitVec 8)
    (x4 : (⟨2, ![20, 10240]⟩ : Shape).Idx → EReal) (x5 : (⟨2, ![2560, 48]⟩ : Shape).Idx → EReal) (x6 : (⟨2, ![48, 10240]⟩ : Shape).Idx → EReal)
    (h0 : ∀ i, Re (x0 i)) (h2 : ∀ i, Re (x2 i)) (h4 : ∀ i, Re (x4 i)) (h5 : ∀ i, Re (x5 i)) (h6 : ∀ i, Re (x6 i)) :
    (argsOf x0 x1 x2 x3 x4 x5 x6).Real where
  x _ _ := h0 _
  w _ _ := h2 _
  sc _ _ := h4 _
  a _ _ := h5 _
  b _ _ := h6 _

section
variable [Cert.Pre_finite_and_unwrapped.Facts] (m : (ℓ : Loc Cert.KernelIdeal.nD Cert.KernelIdeal.τ Cert.KernelIdeal.sig) → Buf (Elt Ideal) ℓ)
  (h : Cert.Pre_KernelIdeal_finite_and_unwrapped m)
include h

/-- The float arguments are real numbers. -/
theorem real_of_pre (c : Dev Cert.KernelIdeal.nD) : (Cert.KernelIdeal.Hand.AK m c).Real :=
  argsOf_real _ _ _ _ _ _ _ (re_of_pre _ _ (h c).1) (re_of_pre _ _ (h c).2.2.1) (re_of_pre _ _ (h c).2.2.2.1)
    (re_of_pre _ _ (h c).2.2.2.2.1) (re_of_pre _ _ (h c).2.2.2.2.2)

/-- The row counts do not wrap. -/
theorem unwrapped_of_pre (c : Dev Cert.KernelIdeal.nD) : Cert.KernelIdeal.Hand.Unwrapped (Cert.KernelIdeal.Hand.AK m c) := fun i =>
  slt_of_pre (m ((c.tc : Thread Cert.KernelIdeal.nD Cert.KernelIdeal.τ).loc Cert.KernelIdeal.main_arg1)) _ (h c).2.1 _
end

section
open Cert.ReferenceIdeal Cert.ReferenceIdeal.Gen Cert.ReferenceIdeal.Read Cert.ReferenceIdeal.Hand

variable (m : (ℓ : Loc nD τ sig) → Buf (Elt Ideal) ℓ)

/-- The arguments of the reference. -/
def AR (c : Dev nD) : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The reference's losses. -/
theorem ref_loss (c : Dev nD) (i : S16x1024.Idx) : val_main_v47 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) i = (AR m c).loss ((i 0).val * 1024 + (i 1).val) :=
  loss_at _ _ _ _ _ _ _ i _ rfl

/-- The reference's `g`. -/
theorem ref_g (c : Dev nD) (i : S16x1024x48.Idx) : val_main_v49 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) i = (AR m c).g ((i 0).val * 1024 + (i 1).val) (i 2).val :=
  g_at _ _ _ _ _ _ _ i _ _ rfl rfl

/-- The reference's `d_a`. -/
theorem ref_da (c : Dev nD) (i : S2560x48.Idx) : val_main_v53 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) i = (AR m c).da (i 0).val (i 1).val :=
  da_at _ _ _ _ _ _ _ i _ _ rfl rfl

/-- The reference's `d_b`. -/
theorem ref_db (c : Dev nD) (i : S48x10240.Idx) : val_main_v56 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) i = (AR m c).db (i 0).val (i 1).val :=
  db_at _ _ _ _ _ _ _ i _ _ rfl rfl

/-- The reference's run, its results as the stages' values. -/
theorem ref_run (ρ : Dev nD → PrngReg) :
    θ_run defs (onTc (τ := τ) (main (F := Ideal))) ⟨m, fun _ => 0, ρ⟩ fun r => ∀ c : Dev nD,
      r.2.mem ((c.tc : Thread nD τ).loc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v49) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v53) = val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (val_main_v47_eq m c),
      (h c).2.1.trans (val_main_v49_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))),
      (h c).2.2.1.trans (val_main_v53_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))),
      (h c).2.2.2.1.trans (val_main_v56_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))),
      (h c).2.2.2.2⟩)
    (Cert.ReferenceIdeal.Value.run (F := Ideal) m ρ)
end

/-- Arguments read off equal arrays are equal. -/
theorem argsOf_congr {x0 y0 : (⟨3, ![16, 1024, 2560]⟩ : Shape).Idx → EReal} {x1 y1 : (⟨1, ![16]⟩ : Shape).Idx → BitVec 32}
    {x2 y2 : (⟨2, ![2560, 10240]⟩ : Shape).Idx → EReal} {x3 y3 : (⟨2, ![1280, 10240]⟩ : Shape).Idx → BitVec 8}
    {x4 y4 : (⟨2, ![20, 10240]⟩ : Shape).Idx → EReal} {x5 y5 : (⟨2, ![2560, 48]⟩ : Shape).Idx → EReal}
    {x6 y6 : (⟨2, ![48, 10240]⟩ : Shape).Idx → EReal} (h0 : x0 = y0) (h1 : x1 = y1) (h2 : x2 = y2) (h3 : x3 = y3) (h4 : x4 = y4) (h5 : x5 = y5)
    (h6 : x6 = y6) : argsOf x0 x1 x2 x3 x4 x5 x6 = argsOf y0 y1 y2 y3 y4 y5 y6 := by
  subst h0 h1 h2 h3 h4 h5 h6; rfl

end Cert.Value

end
-- ==== Proof.lean ====
module

public import proofs.«01_k».proof.Defs
public import proofs.«01_k».proof.Proof.FrameK
public import proofs.«01_k».proof.Proof.FrameI
public import proofs.«01_k».proof.Proof.Gen.ReferenceIdeal.Run
public import proofs.«01_k».proof.Proof.PreI
public import Idealize.ShloMosaic.Adequacy
public import Idealize.ShloMosaic.Init
public import Idealize.ShloMosaic.Lib.ZeroElt

@[expose] public section

noncomputable section

namespace Cert.Proof

open Idealize.ShloMosaic Idealize.SL.Sem

/-- Every bit pattern type has an element. -/
instance nonemptyBits (e : EltTy) : Nonempty (Elt Bits e) := ⟨Elt.zeroBits e⟩

/-- Every ideal element type has an element. -/
instance nonemptyIdeal (e : EltTy) : Nonempty (Elt Ideal e) := by
  cases e <;> first | exact ⟨(0#_ : BitVec _)⟩ | exact ⟨(0 : EReal)⟩

/-- The kernel on bit patterns runs, leaves its arguments and ends with zero counters. -/
theorem frame_p : Cert.quiescent_Kernel := fun m g _ => Cert.Kernel.Hand.run_frame (F := Bits) m g

/-- The kernel on extended reals runs, leaves its arguments and ends with zero counters. -/
theorem frame_pi : Cert.quiescent_KernelIdeal := fun m g _ => Cert.KernelIdeal.Hand.run_frame (F := Ideal) m g

/-- The reference on extended reals runs, leaves its arguments and ends with zero counters. -/
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- The frame of the kernel under the precondition. -/
theorem frame_pi_pre [Cert.Pre_finite_and_unwrapped.Facts] : Cert.quiescent_KernelIdeal_pre_finite_and_unwrapped := fun m g _ => frame_pi m g trivial

/-- The frame of the reference under the precondition. -/
theorem frame_ri_pre [Cert.Pre_finite_and_unwrapped.Facts] : Cert.quiescent_ReferenceIdeal_pre_finite_and_unwrapped := fun m g _ => frame_ri m g trivial

/-- On extended reals the kernel and the reference end with equal results. -/
theorem algebraic [Cert.Pre_finite_and_unwrapped.Facts] : Cert.algebraic_KernelIdeal_ReferenceIdeal_pre_finite_and_unwrapped := by
  intro m g m' g' hpre hargs
  have hA : ∀ c : Dev Cert.KernelIdeal.nD, Cert.Value.AR m' c = Cert.KernelIdeal.Hand.AK m c := fun c =>
    Cert.Value.argsOf_congr (hargs c).1 (hargs c).2.1 (hargs c).2.2.1 (hargs c).2.2.2.1 (hargs c).2.2.2.2.1 (hargs c).2.2.2.2.2.1 (hargs c).2.2.2.2.2.2
  have hU := Cert.Value.unwrapped_of_pre m hpre
  have hR := Cert.Value.real_of_pre m hpre
  refine ⟨_, _, _, _, Cert.KernelIdeal.Hand.run_value (F := Ideal) m g, ?_⟩
  refine (θ_run Cert.ReferenceIdeal.defs _ _).mono (fun r h c => ⟨(h c).1.trans ?_, (h c).2.1.trans ?_, (h c).2.2.1.trans ?_, (h c).2.2.2.1.trans ?_, (h c).2.2.2.2⟩)
    (Cert.Value.ref_run m' g')
  · exact funext fun i => ((Cert.Value.ref_loss m' c i).trans (congrArg (fun A : Cert.Spec.Args => A.loss _) (hA c))).trans
      (Cert.KernelIdeal.Hand.loss_out m c (hU c) i).symm
  · exact funext fun i => ((Cert.Value.ref_g m' c i).trans (congrArg (fun A : Cert.Spec.Args => A.g _ _) (hA c))).trans
      (Cert.KernelIdeal.Hand.g_out m c (hU c) i).symm
  · exact funext fun i => ((Cert.Value.ref_da m' c i).trans (congrArg (fun A : Cert.Spec.Args => A.da _ _) (hA c))).trans
      (Cert.KernelIdeal.Hand.da_out m c (hU c) (hR c) i).symm
  · exact funext fun i => ((Cert.Value.ref_db m' c i).trans (congrArg (fun A : Cert.Spec.Args => A.db _ _) (hA c))).trans
      (Cert.KernelIdeal.Hand.db_out m c (hU c) (hR c) i).symm

/-- The whole certificate. -/
theorem claim : Cert.Claim :=
  ⟨Cert.Kernel.Gen.facts, Cert.KernelIdeal.Gen.facts, Cert.ReferenceIdeal.Gen.facts, Cert.Pre_finite_and_unwrapped.Gen.facts,
    frame_p, frame_pi, frame_pi_pre, frame_ri, frame_ri_pre, trivial, algebraic⟩

end Cert.Proof

end
